-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "q_scale" .f32 0x3E38AA3B#32 (((8 * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v80_0)) (v1 : (c : Dev Cert.KernelIdeal.nD) → Buf (Elt Ideal) ((c.tc : Thread Cert.KernelIdeal.nD Cert.KernelIdeal.τ).loc Cert.KernelIdeal.main_v80_1)) (v2 : (c : Dev Cert.KernelIdeal.nD) → Buf (Elt Ideal) ((c.tc : Thread Cert.KernelIdeal.nD Cert.KernelIdeal.τ).loc Cert.KernelIdeal.main_v80_2)) (v3 : (c : Dev Cert.KernelIdeal.nD) → Buf (Elt Ideal) ((c.tc : Thread Cert.KernelIdeal.nD Cert.KernelIdeal.τ).loc Cert.KernelIdeal.main_v80_3)) (v4 : (c : Dev Cert.KernelIdeal.nD) → Buf (Elt Ideal) ((c.tc : Thread Cert.KernelIdeal.nD Cert.KernelIdeal.τ).loc Cert.KernelIdeal.main_v80_4)) (v5 : (c : Dev Cert.KernelIdeal.nD) → Buf (Elt Ideal) ((c.tc : Thread Cert.KernelIdeal.nD Cert.KernelIdeal.τ).loc Cert.KernelIdeal.main_v80_5)) (v6 : (c : Dev Cert.KernelIdeal.nD) → Buf (Elt Ideal) ((c.tc : Thread Cert.KernelIdeal.nD Cert.KernelIdeal.τ).loc Cert.KernelIdeal.main_v80_6)) (v7 : (c : Dev Cert.KernelIdeal.nD) → Buf (Elt Ideal) ((c.tc : Thread Cert.KernelIdeal.nD Cert.KernelIdeal.τ).loc Cert.KernelIdeal.main_v80_7)) (v8 : (c : Dev Cert.KernelIdeal.nD) → Buf (Elt Ideal) ((c.tc : Thread Cert.KernelIdeal.nD Cert.KernelIdeal.τ).loc Cert.KernelIdeal.main_v80_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80_0) = v0 c
          ∧ r.2.mem ((c.tc : Thread Cert.KernelIdeal.nD Cert.KernelIdeal.τ).loc Cert.KernelIdeal.main_v80_1) = v1 c
          ∧ r.2.mem ((c.tc : Thread Cert.KernelIdeal.nD Cert.KernelIdeal.τ).loc Cert.KernelIdeal.main_v80_2) = v2 c
          ∧ r.2.mem ((c.tc : Thread Cert.KernelIdeal.nD Cert.KernelIdeal.τ).loc Cert.KernelIdeal.main_v80_3) = v3 c
          ∧ r.2.mem ((c.tc : Thread Cert.KernelIdeal.nD Cert.KernelIdeal.τ).loc Cert.KernelIdeal.main_v80_4) = v4 c
          ∧ r.2.mem ((c.tc : Thread Cert.KernelIdeal.nD Cert.KernelIdeal.τ).loc Cert.KernelIdeal.main_v80_5) = v5 c
          ∧ r.2.mem ((c.tc : Thread Cert.KernelIdeal.nD Cert.KernelIdeal.τ).loc Cert.KernelIdeal.main_v80_6) = v6 c
          ∧ r.2.mem ((c.tc : Thread Cert.KernelIdeal.nD Cert.KernelIdeal.τ).loc Cert.KernelIdeal.main_v80_7) = v7 c
          ∧ r.2.mem ((c.tc : Thread Cert.KernelIdeal.nD Cert.KernelIdeal.τ).loc Cert.KernelIdeal.main_v80_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v442) = v0 c
          ∧ r.2.mem ((c.tc : Thread Cert.ReferenceIdeal.nD Cert.ReferenceIdeal.τ).loc Cert.ReferenceIdeal.main_v443) = v1 c
          ∧ r.2.mem ((c.tc : Thread Cert.ReferenceIdeal.nD Cert.ReferenceIdeal.τ).loc Cert.ReferenceIdeal.main_v444) = v2 c
          ∧ r.2.mem ((c.tc : Thread Cert.ReferenceIdeal.nD Cert.ReferenceIdeal.τ).loc Cert.ReferenceIdeal.main_v445) = v3 c
          ∧ r.2.mem ((c.tc : Thread Cert.ReferenceIdeal.nD Cert.ReferenceIdeal.τ).loc Cert.ReferenceIdeal.main_v446) = v4 c
          ∧ r.2.mem ((c.tc : Thread Cert.ReferenceIdeal.nD Cert.ReferenceIdeal.τ).loc Cert.ReferenceIdeal.main_v86) = v5 c
          ∧ r.2.mem ((c.tc : Thread Cert.ReferenceIdeal.nD Cert.ReferenceIdeal.τ).loc Cert.ReferenceIdeal.main_v448) = v6 c
          ∧ r.2.mem ((c.tc : Thread Cert.ReferenceIdeal.nD Cert.ReferenceIdeal.τ).loc Cert.ReferenceIdeal.main_v450) = v7 c
          ∧ r.2.mem ((c.tc : Thread Cert.ReferenceIdeal.nD Cert.ReferenceIdeal.τ).loc Cert.ReferenceIdeal.main_v453) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x2048x1024 : Shape := ⟨3, ![32, 2048, 1024]⟩
abbrev S1x1024 : Shape := ⟨2, ![1, 1024]⟩
abbrev S1x1024x6856 : Shape := ⟨3, ![1, 1024, 6856]⟩
abbrev S1x2048 : Shape := ⟨2, ![1, 2048]⟩
abbrev S1x128 : Shape := ⟨2, ![1, 128]⟩
abbrev S1x16x128x64 : Shape := ⟨4, ![1, 16, 128, 64]⟩
abbrev S1x64 : Shape := ⟨2, ![1, 64]⟩
abbrev S1x4x1024 : Shape := ⟨3, ![1, 4, 1024]⟩
abbrev S1x16x64x64 : Shape := ⟨4, ![1, 16, 64, 64]⟩
abbrev S1x1024x1024 : Shape := ⟨3, ![1, 1024, 1024]⟩
abbrev S_ : Shape := ⟨0, ![]⟩

class Facts : Prop where
  bcast_S_S1x1024 : S_.BroadcastsInDim S1x1024 (![] : Fin 0 → Fin S1x1024.rank)
  bcast_S_S1x1024x6856 : S_.BroadcastsInDim S1x1024x6856 (![] : Fin 0 → Fin S1x1024x6856.rank)

variable [Facts]

def fn {F : FTy → Type} [FloatOps F] (main_arg0 : FVec F S32x2048x1024 .f32) (main_arg1 : FVec F S1x1024 .f32) (main_arg2 : FVec F S1x1024x6856 .f32) (main_arg3 : FVec F S1x2048 .f32) (main_arg4 : FVec F S1x128 .f32) (main_arg5 : FVec F S1x16x128x64 .f32) (main_arg6 : FVec F S1x64 .f32) (main_arg7 : FVec F S1x64 .f32) (main_arg8 : FVec F S1x4x1024 .f32) (main_arg9 : FVec F S1x1024 .f32) (main_arg10 : FVec F S1x16x64x64 .f32) (main_arg11 : FVec F S1x1024 .f32) (main_arg12 : FVec F S1x16x64x64 .f32) (main_arg13 : FVec F S1x1024 .f32) (main_arg14 : FVec F S1x1024 .f32) (main_arg15 : FVec F S1x1024x1024 .f32) : IVec S1x1024 1 × IVec S1x1024x6856 1 × IVec S1x1024 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1x1024x6856 .f32 := Host.absf main_arg2
  let main_cst_0 : FVec F S_ .f32 := constant S_ .f32 0x7F800000#32
  let main_v4 : FVec F S1x1024x6856 .f32 := broadcastInDim S1x1024x6856 ![] bcast_S_S1x1024x6856 main_cst_0
  let main_v5 : IVec S1x1024x6856 1 := cmpf .olt main_v3 main_v4
  let main_v6 : FVec F S1x1024 .f32 := Host.absf main_arg14
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  (main_v2, main_v5, main_v8)
-- ==== Kernel.lean ====
abbrev S32x2048x1024 : Shape := ⟨3, ![32, 2048, 1024]⟩
abbrev S1x1024 : Shape := ⟨2, ![1, 1024]⟩
abbrev S1x1024x6856 : Shape := ⟨3, ![1, 1024, 6856]⟩
abbrev S1x2048 : Shape := ⟨2, ![1, 2048]⟩
abbrev S1x128 : Shape := ⟨2, ![1, 128]⟩
abbrev S1x16x128x64 : Shape := ⟨4, ![1, 16, 128, 64]⟩
abbrev S1x64 : Shape := ⟨2, ![1, 64]⟩
abbrev S1x4x1024 : Shape := ⟨3, ![1, 4, 1024]⟩
abbrev S1x16x64x64 : Shape := ⟨4, ![1, 16, 64, 64]⟩
abbrev S1x1024x1024 : Shape := ⟨3, ![1, 1024, 1024]⟩
abbrev S1024 : Shape := ⟨1, ![1024]⟩
abbrev S1024x6856 : Shape := ⟨2, ![1024, 6856]⟩
abbrev S2048 : Shape := ⟨1, ![2048]⟩
abbrev S128 : Shape := ⟨1, ![128]⟩
abbrev S16x128x64 : Shape := ⟨3, ![16, 128, 64]⟩
abbrev S64 : Shape := ⟨1, ![64]⟩
abbrev S4x1024 : Shape := ⟨2, ![4, 1024]⟩
abbrev S16x64x64 : Shape := ⟨3, ![16, 64, 64]⟩
abbrev S1024x1024 : Shape := ⟨2, ![1024, 1024]⟩
abbrev S1024x128 : Shape := ⟨2, ![1024, 128]⟩
abbrev S1024x512 : Shape := ⟨2, ![1024, 512]⟩
abbrev S1024x64 : Shape := ⟨2, ![1024, 64]⟩
abbrev S1024x8 : Shape := ⟨2, ![1024, 8]⟩
abbrev S1024x2048 : Shape := ⟨2, ![1024, 2048]⟩
abbrev S_ : Shape := ⟨0, ![]⟩
abbrev S1024x56 : Shape := ⟨2, ![1024, 56]⟩
abbrev S1024x6912 : Shape := ⟨2, ![1024, 6912]⟩
abbrev S8x2x64x64 : Shape := ⟨4, ![8, 2, 64, 64]⟩
abbrev S8x64x64 : Shape := ⟨3, ![8, 64, 64]⟩
abbrev S8x1x64x64 : Shape := ⟨4, ![8, 1, 64, 64]⟩
abbrev S8x64x128 : Shape := ⟨3, ![8, 64, 128]⟩
abbrev S8x128x128 : Shape := ⟨3, ![8, 128, 128]⟩
abbrev S8x128x256 : Shape := ⟨3, ![8, 128, 256]⟩
abbrev S16x64x128 : Shape := ⟨3, ![16, 64, 128]⟩
abbrev S8x2x64x128 : Shape := ⟨4, ![8, 2, 64, 128]⟩
abbrev S8x1x64x128 : Shape := ⟨4, ![8, 1, 64, 128]⟩
abbrev S8x64x256 : Shape := ⟨3, ![8, 64, 256]⟩
abbrev S32x16x128x2048 : Shape := ⟨4, ![32, 16, 128, 2048]⟩
abbrev S32x2048x128 : Shape := ⟨3, ![32, 2048, 128]⟩
abbrev S32x8x128x256 : Shape := ⟨4, ![32, 8, 128, 256]⟩
abbrev S32x16x64x1024 : Shape := ⟨4, ![32, 16, 64, 1024]⟩
abbrev S32x2048x64 : Shape := ⟨3, ![32, 2048, 64]⟩
abbrev S32x16x8x128 : Shape := ⟨4, ![32, 16, 8, 128]⟩
abbrev S1x512x1024 : Shape := ⟨3, ![1, 512, 1024]⟩
abbrev S1x4x128x2048 : Shape := ⟨4, ![1, 4, 128, 2048]⟩
abbrev S1x512x128 : Shape := ⟨3, ![1, 512, 128]⟩
abbrev S1x2x128x256 : Shape := ⟨4, ![1, 2, 128, 256]⟩
abbrev S1x4x64x1024 : Shape := ⟨4, ![1, 4, 64, 1024]⟩
abbrev S1x512x64 : Shape := ⟨3, ![1, 512, 64]⟩
abbrev S1x4x8x128 : Shape := ⟨4, ![1, 4, 8, 128]⟩
abbrev S520x1024 : Shape := ⟨2, ![520, 1024]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S1x256 : Shape := ⟨2, ![1, 256]⟩
abbrev S512x256 : Shape := ⟨2, ![512, 256]⟩
abbrev S512x128 : Shape := ⟨2, ![512, 128]⟩
abbrev S1x128x256 : Shape := ⟨3, ![1, 128, 256]⟩
abbrev S128x256 : Shape := ⟨2, ![128, 256]⟩
abbrev S512x2048 : Shape := ⟨2, ![512, 2048]⟩
abbrev S2048x512 : Shape := ⟨2, ![2048, 512]⟩
abbrev S128x128 : Shape := ⟨2, ![128, 128]⟩
abbrev S1x1x128x128 : Shape := ⟨4, ![1, 1, 128, 128]⟩
abbrev S128x512 : Shape := ⟨2, ![128, 512]⟩
abbrev S1x1x128x256 : Shape := ⟨4, ![1, 1, 128, 256]⟩
abbrev S512x512 : Shape := ⟨2, ![512, 512]⟩
abbrev S64x128 : Shape := ⟨2, ![64, 128]⟩
abbrev S1x1x64x128 : Shape := ⟨4, ![1, 1, 64, 128]⟩
abbrev S512x64 : Shape := ⟨2, ![512, 64]⟩
abbrev S8x512 : Shape := ⟨2, ![8, 512]⟩
abbrev S8x128 : Shape := ⟨2, ![8, 128]⟩
abbrev S1x1x8x128 : Shape := ⟨4, ![1, 1, 8, 128]⟩

abbrev nBuf : Space → Nat
  | .hbm => 118
  | .vmem => 41
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x6856, .f32⟩
  | .hbm, ⟨3, _⟩ => ⟨S1x2048, .f32⟩
  | .hbm, ⟨4, _⟩ => ⟨S1x128, .f32⟩
  | .hbm, ⟨5, _⟩ => ⟨S1x16x128x64, .f32⟩
  | .hbm, ⟨6, _⟩ => ⟨S1x64, .f32⟩
  | .hbm, ⟨7, _⟩ => ⟨S1x64, .f32⟩
  | .hbm, ⟨8, _⟩ => ⟨S1x4x1024, .f32⟩
  | .hbm, ⟨9, _⟩ => ⟨S1x1024, .f32⟩
  | .hbm, ⟨10, _⟩ => ⟨S1x16x64x64, .f32⟩
  | .hbm, ⟨11, _⟩ => ⟨S1x1024, .f32⟩
  | .hbm, ⟨12, _⟩ => ⟨S1x16x64x64, .f32⟩
  | .hbm, ⟨13, _⟩ => ⟨S1x1024, .f32⟩
  | .hbm, ⟨14, _⟩ => ⟨S1x1024, .f32⟩
  | .hbm, ⟨15, _⟩ => ⟨S1x1024x1024, .f32⟩
  | .hbm, ⟨16, _⟩ => ⟨S1024, .f32⟩
  | .hbm, ⟨17, _⟩ => ⟨S1024x6856, .f32⟩
  | .hbm, ⟨18, _⟩ => ⟨S2048, .f32⟩
  | .hbm, ⟨19, _⟩ => ⟨S128, .f32⟩
  | .hbm, ⟨20, _⟩ => ⟨S16x128x64, .f32⟩
  | .hbm, ⟨21, _⟩ => ⟨S64, .f32⟩
  | .hbm, ⟨22, _⟩ => ⟨S64, .f32⟩
  | .hbm, ⟨23, _⟩ => ⟨S4x1024, .f32⟩
  | .hbm, ⟨24, _⟩ => ⟨S1024, .f32⟩
  | .hbm, ⟨25, _⟩ => ⟨S16x64x64, .f32⟩
  | .hbm, ⟨26, _⟩ => ⟨S1024, .f32⟩
  | .hbm, ⟨27, _⟩ => ⟨S16x64x64, .f32⟩
  | .hbm, ⟨28, _⟩ => ⟨S1024, .f32⟩
  | .hbm, ⟨29, _⟩ => ⟨S1024, .f32⟩
  | .hbm, ⟨30, _⟩ => ⟨S1024x1024, .f32⟩
  | .hbm, ⟨31, _⟩ => ⟨S1024x1024, .f32⟩
  | .hbm, ⟨32, _⟩ => ⟨S1024x128, .f32⟩
  | .hbm, ⟨33, _⟩ => ⟨S1024x512, .f32⟩
  | .hbm, ⟨34, _⟩ => ⟨S1024x64, .f32⟩
  | .hbm, ⟨35, _⟩ => ⟨S1024x8, .f32⟩
  | .hbm, ⟨36, _⟩ => ⟨S1024x1024, .f32⟩
  | .hbm, ⟨37, _⟩ => ⟨S1024x1024, .f32⟩
  | .hbm, ⟨38, _⟩ => ⟨S1024x1024, .f32⟩
  | .hbm, ⟨39, _⟩ => ⟨S1024x2048, .f32⟩
  | .hbm, ⟨40, _⟩ => ⟨S_, .f32⟩
  | .hbm, ⟨41, _⟩ => ⟨S1024x2048, .f32⟩
  | .hbm, ⟨42, _⟩ => ⟨S1024x2048, .f32⟩
  | .hbm, ⟨43, _⟩ => ⟨S_, .f32⟩
  | .hbm, ⟨44, _⟩ => ⟨S1024x56, .f32⟩
  | .hbm, ⟨45, _⟩ => ⟨S1024x6912, .f32⟩
  | .hbm, ⟨46, _⟩ => ⟨S1024x6912, .bf16⟩
  | .hbm, ⟨47, _⟩ => ⟨S8x2x64x64, .f32⟩
  | .hbm, ⟨48, _⟩ => ⟨S_, .f32⟩
  | .hbm, ⟨49, _⟩ => ⟨S8x64x64, .f32⟩
  | .hbm, ⟨50, _⟩ => ⟨S8x1x64x64, .f32⟩
  | .hbm, ⟨51, _⟩ => ⟨S8x64x64, .f32⟩
  | .hbm, ⟨52, _⟩ => ⟨S8x64x128, .f32⟩
  | .hbm, ⟨53, _⟩ => ⟨S8x1x64x64, .f32⟩
  | .hbm, ⟨54, _⟩ => ⟨S8x64x64, .f32⟩
  | .hbm, ⟨55, _⟩ => ⟨S8x64x128, .f32⟩
  | .hbm, ⟨56, _⟩ => ⟨S8x128x128, .f32⟩
  | .hbm, ⟨57, _⟩ => ⟨S8x2x64x64, .f32⟩
  | .hbm, ⟨58, _⟩ => ⟨S_, .f32⟩
  | .hbm, ⟨59, _⟩ => ⟨S8x64x64, .f32⟩
  | .hbm, ⟨60, _⟩ => ⟨S8x1x64x64, .f32⟩
  | .hbm, ⟨61, _⟩ => ⟨S8x64x64, .f32⟩
  | .hbm, ⟨62, _⟩ => ⟨S8x64x128, .f32⟩
  | .hbm, ⟨63, _⟩ => ⟨S8x1x64x64, .f32⟩
  | .hbm, ⟨64, _⟩ => ⟨S8x64x64, .f32⟩
  | .hbm, ⟨65, _⟩ => ⟨S8x64x128, .f32⟩
  | .hbm, ⟨66, _⟩ => ⟨S8x128x128, .f32⟩
  | .hbm, ⟨67, _⟩ => ⟨S8x128x256, .f32⟩
  | .hbm, ⟨68, _⟩ => ⟨S_, .f32⟩
  | .hbm, ⟨69, _⟩ => ⟨S8x128x256, .f32⟩
  | .hbm, ⟨70, _⟩ => ⟨S8x128x256, .f32⟩
  | .hbm, ⟨71, _⟩ => ⟨S8x128x256, .bf16⟩
  | .hbm, ⟨72, _⟩ => ⟨S16x64x128, .f32⟩
  | .hbm, ⟨73, _⟩ => ⟨S8x2x64x128, .f32⟩
  | .hbm, ⟨74, _⟩ => ⟨S_, .f32⟩
  | .hbm, ⟨75, _⟩ => ⟨S8x64x128, .f32⟩
  | .hbm, ⟨76, _⟩ => ⟨S8x1x64x128, .f32⟩
  | .hbm, ⟨77, _⟩ => ⟨S8x64x128, .f32⟩
  | .hbm, ⟨78, _⟩ => ⟨S8x64x256, .f32⟩
  | .hbm, ⟨79, _⟩ => ⟨S8x1x64x128, .f32⟩
  | .hbm, ⟨80, _⟩ => ⟨S8x64x128, .f32⟩
  | .hbm, ⟨81, _⟩ => ⟨S8x64x256, .f32⟩
  | .hbm, ⟨82, _⟩ => ⟨S8x128x256, .f32⟩
  | .hbm, ⟨83, _⟩ => ⟨S8x128x256, .bf16⟩
  | .hbm, ⟨84, _⟩ => ⟨S1x1024, .f32⟩
  | .hbm, ⟨85, _⟩ => ⟨S1x128, .f32⟩
  | .hbm, ⟨86, _⟩ => ⟨S_, .i32⟩
  | .hbm, ⟨87, _⟩ => ⟨S_, .f32⟩
  | .hbm, ⟨88, _⟩ => ⟨S128, .f32⟩
  | .hbm, ⟨89, _⟩ => ⟨S1x128, .f32⟩
  | .hbm, ⟨90, _⟩ => ⟨S_, .i32⟩
  | .hbm, ⟨91, _⟩ => ⟨S_, .f32⟩
  | .hbm, ⟨92, _⟩ => ⟨S128, .f32⟩
  | .hbm, ⟨93, _⟩ => ⟨S1x128, .f32⟩
  | .hbm, ⟨94, _⟩ => ⟨S1x1024, .f32⟩
  | .hbm, ⟨95, _⟩ => ⟨S_, .f32⟩
  | .hbm, ⟨96, _⟩ => ⟨S1024, .f32⟩
  | .hbm, ⟨97, _⟩ => ⟨S1024, .f32⟩
  | .hbm, ⟨98, _⟩ => ⟨S1x1024, .f32⟩
  | .hbm, ⟨99, _⟩ => ⟨S_, .f32⟩
  | .hbm, ⟨100, _⟩ => ⟨S1024, .f32⟩
  | .hbm, ⟨101, _⟩ => ⟨S1024, .f32⟩
  | .hbm, ⟨102, _⟩ => ⟨S1x1024, .f32⟩
  | .hbm, ⟨103, _⟩ => ⟨S1x1024, .f32⟩
  | .hbm, ⟨104, _⟩ => ⟨S1024x1024, .bf16⟩
  | .hbm, ⟨105, _⟩ => ⟨S_, .f32⟩
  | .hbm, ⟨106, _⟩ => ⟨S2048, .f32⟩
  | .hbm, ⟨107, _⟩ => ⟨S2048, .f32⟩
  | .hbm, ⟨108, _⟩ => ⟨S1x2048, .f32⟩
  | .hbm, ⟨109, _⟩ => ⟨S32x16x128x2048, .bf16⟩
  | .hbm, ⟨110, _⟩ => ⟨S32x2048x128, .bf16⟩
  | .hbm, ⟨111, _⟩ => ⟨S32x8x128x256, .bf16⟩
  | .hbm, ⟨112, _⟩ => ⟨S32x16x64x1024, .bf16⟩
  | .hbm, ⟨113, _⟩ => ⟨S32x2048x64, .bf16⟩
  | .hbm, ⟨114, _⟩ => ⟨S32x16x8x128, .f32⟩
  | .hbm, ⟨115, _⟩ => ⟨S32x2048x1024, .bf16⟩
  | .hbm, ⟨116, _⟩ => ⟨S32x2048x1024, .bf16⟩
  | .hbm, ⟨117, _⟩ => ⟨S32x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x6912, .bf16⟩
  | .local _ .vmem, ⟨4, _⟩ => ⟨S8x128x256, .bf16⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S4x1024, .f32⟩
  | .local _ .vmem, ⟨9, _⟩ => ⟨S1x1024, .f32⟩
  | .local _ .vmem, ⟨10, _⟩ => ⟨S8x128x256, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1024x1024, .bf16⟩
  | .local _ .vmem, ⟨15, _⟩ => ⟨S1x2048, .f32⟩
  | .local _ .vmem, ⟨16, _⟩ => ⟨S1x4x128x2048, .bf16⟩
  | .local _ .vmem, ⟨17, _⟩ => ⟨S1x4x128x2048, .bf16⟩
  | .local _ .vmem, ⟨18, _⟩ => ⟨S1x512x128, .bf16⟩
  | .local _ .vmem, ⟨19, _⟩ => ⟨S1x512x128, .bf16⟩
  | .local _ .vmem, ⟨20, _⟩ => ⟨S1x2x128x256, .bf16⟩
  | .local _ .vmem, ⟨21, _⟩ => ⟨S1x2x128x256, .bf16⟩
  | .local _ .vmem, ⟨22, _⟩ => ⟨S1x4x64x1024, .bf16⟩
  | .local _ .vmem, ⟨23, _⟩ => ⟨S1x4x64x1024, .bf16⟩
  | .local _ .vmem, ⟨24, _⟩ => ⟨S1x512x64, .bf16⟩
  | .local _ .vmem, ⟨25, _⟩ => ⟨S1x512x64, .bf16⟩
  | .local _ .vmem, ⟨26, _⟩ => ⟨S1x4x8x128, .f32⟩
  | .local _ .vmem, ⟨27, _⟩ => ⟨S1x4x8x128, .f32⟩
  | .local _ .vmem, ⟨28, _⟩ => ⟨S1x512x1024, .bf16⟩
  | .local _ .vmem, ⟨29, _⟩ => ⟨S1x512x1024, .bf16⟩
  | .local _ .vmem, ⟨30, _⟩ => ⟨S1x512x1024, .bf16⟩
  | .local _ .vmem, ⟨31, _⟩ => ⟨S1x512x1024, .bf16⟩
  | .local _ .vmem, ⟨32, _⟩ => ⟨S1x512x1024, .bf16⟩
  | .local _ .vmem, ⟨33, _⟩ => ⟨S1x512x1024, .bf16⟩
  | .local _ .vmem, ⟨34, _⟩ => ⟨S520x1024, .f32⟩
  | .local _ .vmem, ⟨35, _⟩ => ⟨S512x1024, .f32⟩
  | .local _ .vmem, ⟨36, _⟩ => ⟨S512x1024, .f32⟩
  | .local _ .vmem, ⟨37, _⟩ => ⟨S512x1024, .f32⟩
  | .local _ .vmem, ⟨38, _⟩ => ⟨S8x1024, .f32⟩
  | .local _ .vmem, ⟨39, _⟩ => ⟨S512x1024, .f32⟩
  | .local _ .vmem, ⟨40, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst : Ref sig .tc := ⟨.hbm, 40, rfl⟩
abbrev main_v24 : Ref sig .tc := ⟨.hbm, 41, rfl⟩
abbrev main_v25 : Ref sig .tc := ⟨.hbm, 42, rfl⟩
abbrev main_cst_0 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_1 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_2 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_3 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_4 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_c : Ref sig .tc := ⟨.hbm, 86, rfl⟩
abbrev main_call0_v0 : Ref sig .tc := ⟨.hbm, 87, rfl⟩
abbrev main_v64 : Ref sig .tc := ⟨.hbm, 88, rfl⟩
abbrev main_v65 : Ref sig .tc := ⟨.hbm, 89, rfl⟩
abbrev main_c_5 : Ref sig .tc := ⟨.hbm, 90, rfl⟩
abbrev main_call1_v0 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_6 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_7 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_8 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80_0 : Ref sig .tc := ⟨.hbm, 109, rfl⟩
abbrev main_v80_1 : Ref sig .tc := ⟨.hbm, 110, rfl⟩
abbrev main_v80_2 : Ref sig .tc := ⟨.hbm, 111, rfl⟩
abbrev main_v80_3 : Ref sig .tc := ⟨.hbm, 112, rfl⟩
abbrev main_v80_4 : Ref sig .tc := ⟨.hbm, 113, rfl⟩
abbrev main_v80_5 : Ref sig .tc := ⟨.hbm, 114, rfl⟩
abbrev main_v80_6 : Ref sig .tc := ⟨.hbm, 115, rfl⟩
abbrev main_v80_7 : Ref sig .tc := ⟨.hbm, 116, rfl⟩
abbrev main_v80_8 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_stg22_0 : Ref sig .tc := ⟨.vmem, 30, rfl⟩
abbrev cc0_stg22_1 : Ref sig .tc := ⟨.vmem, 31, rfl⟩
abbrev cc0_stg23_0 : Ref sig .tc := ⟨.vmem, 32, rfl⟩
abbrev cc0_stg23_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_scratch3 : Ref sig .tc := ⟨.vmem, 37, rfl⟩
abbrev cc0_scratch4 : Ref sig .tc := ⟨.vmem, 38, rfl⟩
abbrev cc0_scratch5 : Ref sig .tc := ⟨.vmem, 39, rfl⟩
abbrev cc0_scratch6 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17
abbrev cc0_sem16_0 : DmaSem sig := 18
abbrev cc0_sem16_1 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25
abbrev cc0_sem20_0 : DmaSem sig := 26
abbrev cc0_sem20_1 : DmaSem sig := 27
abbrev cc0_sem21_0 : DmaSem sig := 28
abbrev cc0_sem21_1 : DmaSem sig := 29
abbrev cc0_sem22_0 : DmaSem sig := 30
abbrev cc0_sem22_1 : DmaSem sig := 31
abbrev cc0_sem23_0 : DmaSem sig := 32
abbrev cc0_sem23_1 : DmaSem sig := 33

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x6912 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x128x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x4x128x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x2x128x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x4x64x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x64 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x4x8x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== KernelIdeal.lean ====
variable {F : FTy → Type} [FloatOps F] [Named F]
def κ : String → Option EReal := fun
  | "q_scale" => some (((8 * (Real.log 2))⁻¹ : ℝ) : EReal)
  | _ => none
-- ==== ReferenceIdeal.lean ====
abbrev S32x2048x1024 : Shape := ⟨3, ![32, 2048, 1024]⟩
abbrev S1x1024 : Shape := ⟨2, ![1, 1024]⟩
abbrev S1x1024x6856 : Shape := ⟨3, ![1, 1024, 6856]⟩
abbrev S1x2048 : Shape := ⟨2, ![1, 2048]⟩
abbrev S1x128 : Shape := ⟨2, ![1, 128]⟩
abbrev S1x16x128x64 : Shape := ⟨4, ![1, 16, 128, 64]⟩
abbrev S1x64 : Shape := ⟨2, ![1, 64]⟩
abbrev S1x4x1024 : Shape := ⟨3, ![1, 4, 1024]⟩
abbrev S1x16x64x64 : Shape := ⟨4, ![1, 16, 64, 64]⟩
abbrev S1x1024x1024 : Shape := ⟨3, ![1, 1024, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x6856 : Shape := ⟨2, ![1024, 6856]⟩
abbrev S32x2048x6856 : Shape := ⟨3, ![32, 2048, 6856]⟩
abbrev S32x2048x128 : Shape := ⟨3, ![32, 2048, 128]⟩
abbrev S32x2048x512 : Shape := ⟨3, ![32, 2048, 512]⟩
abbrev S32x2048x64 : Shape := ⟨3, ![32, 2048, 64]⟩
abbrev S32x2048x8 : Shape := ⟨3, ![32, 2048, 8]⟩
abbrev S32x2048x2048 : Shape := ⟨3, ![32, 2048, 2048]⟩
abbrev S32x2048x16x64 : Shape := ⟨4, ![32, 2048, 16, 64]⟩
abbrev S16x128x64 : Shape := ⟨3, ![16, 128, 64]⟩
abbrev S16x128x32x2048 : Shape := ⟨4, ![16, 128, 32, 2048]⟩
abbrev S32x2048x16x128 : Shape := ⟨4, ![32, 2048, 16, 128]⟩
abbrev S32x16x128x16x128 : Shape := ⟨5, ![32, 16, 128, 16, 128]⟩
abbrev S32x16x128x2048 : Shape := ⟨4, ![32, 16, 128, 2048]⟩
abbrev S128 : Shape := ⟨1, ![128]⟩
abbrev S1x1x128 : Shape := ⟨3, ![1, 1, 128]⟩
abbrev S32x8x256x128 : Shape := ⟨4, ![32, 8, 256, 128]⟩
abbrev S32x8x128x256 : Shape := ⟨4, ![32, 8, 128, 256]⟩
abbrev S32x2048x8x64 : Shape := ⟨4, ![32, 2048, 8, 64]⟩
abbrev S32x16x128x8x64 : Shape := ⟨5, ![32, 16, 128, 8, 64]⟩
abbrev S32x16x64x8x128 : Shape := ⟨5, ![32, 16, 64, 8, 128]⟩
abbrev S32x16x64x1024 : Shape := ⟨4, ![32, 16, 64, 1024]⟩
abbrev S64 : Shape := ⟨1, ![64]⟩
abbrev S1x1x64 : Shape := ⟨3, ![1, 1, 64]⟩
abbrev S32x16x128x8 : Shape := ⟨4, ![32, 16, 128, 8]⟩
abbrev S32x16x8x128 : Shape := ⟨4, ![32, 16, 8, 128]⟩
abbrev S32x2051x1024 : Shape := ⟨3, ![32, 2051, 1024]⟩
abbrev S16x64x64 : Shape := ⟨3, ![16, 64, 64]⟩
abbrev S16x64x32x2048 : Shape := ⟨4, ![16, 64, 32, 2048]⟩
abbrev S32x1024x1024 : Shape := ⟨3, ![32, 1024, 1024]⟩
abbrev S32x512x1024 : Shape := ⟨3, ![32, 512, 1024]⟩
abbrev S32x256x1024 : Shape := ⟨3, ![32, 256, 1024]⟩
abbrev S32x128x1024 : Shape := ⟨3, ![32, 128, 1024]⟩
abbrev S32x64x1024 : Shape := ⟨3, ![32, 64, 1024]⟩
abbrev S32x32x1024 : Shape := ⟨3, ![32, 32, 1024]⟩
abbrev S32x16x1024 : Shape := ⟨3, ![32, 16, 1024]⟩
abbrev S32x8x1024 : Shape := ⟨3, ![32, 8, 1024]⟩
abbrev S32x4x1024 : Shape := ⟨3, ![32, 4, 1024]⟩
abbrev S32x2x1024 : Shape := ⟨3, ![32, 2, 1024]⟩
abbrev S32x1x1024 : Shape := ⟨3, ![32, 1, 1024]⟩
abbrev S32x0x1024 : Shape := ⟨3, ![32, 0, 1024]⟩
abbrev S32x3x1024 : Shape := ⟨3, ![32, 3, 1024]⟩
abbrev S32x7x1024 : Shape := ⟨3, ![32, 7, 1024]⟩
abbrev S32x15x1024 : Shape := ⟨3, ![32, 15, 1024]⟩
abbrev S32x31x1024 : Shape := ⟨3, ![32, 31, 1024]⟩
abbrev S32x63x1024 : Shape := ⟨3, ![32, 63, 1024]⟩
abbrev S32x127x1024 : Shape := ⟨3, ![32, 127, 1024]⟩
abbrev S32x255x1024 : Shape := ⟨3, ![32, 255, 1024]⟩
abbrev S32x511x1024 : Shape := ⟨3, ![32, 511, 1024]⟩
abbrev S32x1023x1024 : Shape := ⟨3, ![32, 1023, 1024]⟩
abbrev S1024x1024 : Shape := ⟨2, ![1024, 1024]⟩
abbrev S2048 : Shape := ⟨1, ![2048]⟩
abbrev S1x1x2048 : Shape := ⟨3, ![1, 1, 2048]⟩

abbrev nBuf : Space → Nat
  | .hbm => 568
  | .vmem => 0
  | .smem => 0
  | _ => 0

abbrev hbmTy0_0 (i : Nat) : BufTy := match i % 128 with
  | 0 => ⟨S32x2048x1024, .f32⟩
  | 1 => ⟨S1x1024, .f32⟩
  | 2 => ⟨S1x1024x6856, .f32⟩
  | 3 => ⟨S1x2048, .f32⟩
  | 4 => ⟨S1x128, .f32⟩
  | 5 => ⟨S1x16x128x64, .f32⟩
  | 6 => ⟨S1x64, .f32⟩
  | 7 => ⟨S1x64, .f32⟩
  | 8 => ⟨S1x4x1024, .f32⟩
  | 9 => ⟨S1x1024, .f32⟩
  | 10 => ⟨S1x16x64x64, .f32⟩
  | 11 => ⟨S1x1024, .f32⟩
  | 12 => ⟨S1x16x64x64, .f32⟩
  | 13 => ⟨S1x1024, .f32⟩
  | 14 => ⟨S1x1024, .f32⟩
  | 15 => ⟨S1x1024x1024, .f32⟩
  | 16 => ⟨S1024, .f32⟩
  | 17 => ⟨S32x2048x1024, .f32⟩
  | 18 => ⟨S_, .f32⟩
  | 19 => ⟨S32x2048, .f32⟩
  | 20 => ⟨S32x2048x1, .f32⟩
  | 21 => ⟨S_, .f32⟩
  | 22 => ⟨S32x2048x1, .f32⟩
  | 23 => ⟨S32x2048x1, .f32⟩
  | 24 => ⟨S_, .f32⟩
  | 25 => ⟨S32x2048x1, .f32⟩
  | 26 => ⟨S32x2048x1, .f32⟩
  | 27 => ⟨S32x2048x1, .f32⟩
  | 28 => ⟨S32x2048x1024, .f32⟩
  | 29 => ⟨S32x2048x1024, .f32⟩
  | 30 => ⟨S1x1x1024, .f32⟩
  | 31 => ⟨S32x2048x1024, .f32⟩
  | 32 => ⟨S32x2048x1024, .f32⟩
  | 33 => ⟨S1024x6856, .f32⟩
  | 34 => ⟨S32x2048x6856, .f32⟩
  | 35 => ⟨S32x2048x1024, .f32⟩
  | 36 => ⟨S32x2048x128, .f32⟩
  | 37 => ⟨S32x2048x512, .f32⟩
  | 38 => ⟨S32x2048x64, .f32⟩
  | 39 => ⟨S32x2048x8, .f32⟩
  | 40 => ⟨S32x2048x1024, .f32⟩
  | 41 => ⟨S32x2048x1024, .f32⟩
  | 42 => ⟨S32x2048x1024, .f32⟩
  | 43 => ⟨S32x2048x2048, .f32⟩
  | 44 => ⟨S32x2048x16x64, .f32⟩
  | 45 => ⟨S16x128x64, .f32⟩
  | 46 => ⟨S16x128x32x2048, .f32⟩
  | 47 => ⟨S32x2048x16x128, .f32⟩
  | 48 => ⟨S_, .f32⟩
  | 49 => ⟨S32x2048x16x128, .f32⟩
  | 50 => ⟨S32x2048x16x128, .f32⟩
  | 51 => ⟨S_, .f32⟩
  | 52 => ⟨S_, .f32⟩
  | 53 => ⟨S32x2048x16x128, .f32⟩
  | 54 => ⟨S32x2048x16x128, .f32⟩
  | 55 => ⟨S32x16x128x16x128, .f32⟩
  | 56 => ⟨S32x16x128x16x128, .f32⟩
  | 57 => ⟨S32x16x128x2048, .f32⟩
  | 58 => ⟨S128, .f32⟩
  | 59 => ⟨S32x2048x128, .f32⟩
  | 60 => ⟨S_, .f32⟩
  | 61 => ⟨S32x2048, .f32⟩
  | 62 => ⟨S32x2048x1, .f32⟩
  | 63 => ⟨S_, .f32⟩
  | 64 => ⟨S32x2048x1, .f32⟩
  | 65 => ⟨S32x2048x1, .f32⟩
  | 66 => ⟨S_, .f32⟩
  | 67 => ⟨S32x2048x1, .f32⟩
  | 68 => ⟨S32x2048x1, .f32⟩
  | 69 => ⟨S32x2048x1, .f32⟩
  | 70 => ⟨S32x2048x128, .f32⟩
  | 71 => ⟨S32x2048x128, .f32⟩
  | 72 => ⟨S1x1x128, .f32⟩
  | 73 => ⟨S32x2048x128, .f32⟩
  | 74 => ⟨S32x2048x128, .f32⟩
  | 75 => ⟨S32x8x256x128, .f32⟩
  | 76 => ⟨S32x8x128x256, .f32⟩
  | 77 => ⟨S32x2048x8x64, .f32⟩
  | 78 => ⟨S_, .f32⟩
  | 79 => ⟨S32x2048x8x64, .f32⟩
  | 80 => ⟨S32x2048x8x64, .f32⟩
  | 81 => ⟨S32x16x128x8x64, .f32⟩
  | 82 => ⟨S32x16x64x8x128, .f32⟩
  | 83 => ⟨S32x16x64x1024, .f32⟩
  | 84 => ⟨S64, .f32⟩
  | 85 => ⟨S64, .f32⟩
  | 86 => ⟨S_, .f32⟩
  | 87 => ⟨S32x2048, .f32⟩
  | 88 => ⟨S32x2048x1, .f32⟩
  | 89 => ⟨S_, .f32⟩
  | 90 => ⟨S32x2048x1, .f32⟩
  | 91 => ⟨S32x2048x1, .f32⟩
  | 92 => ⟨S32x2048x64, .f32⟩
  | 93 => ⟨S32x2048x64, .f32⟩
  | 94 => ⟨S32x2048x64, .f32⟩
  | 95 => ⟨S_, .f32⟩
  | 96 => ⟨S32x2048, .f32⟩
  | 97 => ⟨S32x2048x1, .f32⟩
  | 98 => ⟨S_, .f32⟩
  | 99 => ⟨S32x2048x1, .f32⟩
  | 100 => ⟨S32x2048x1, .f32⟩
  | 101 => ⟨S_, .f32⟩
  | 102 => ⟨S32x2048x1, .f32⟩
  | 103 => ⟨S32x2048x1, .f32⟩
  | 104 => ⟨S32x2048x1, .f32⟩
  | 105 => ⟨S32x2048x64, .f32⟩
  | 106 => ⟨S32x2048x64, .f32⟩
  | 107 => ⟨S1x1x64, .f32⟩
  | 108 => ⟨S32x2048x64, .f32⟩
  | 109 => ⟨S32x2048x64, .f32⟩
  | 110 => ⟨S1x1x64, .f32⟩
  | 111 => ⟨S32x2048x64, .f32⟩
  | 112 => ⟨S32x2048x64, .f32⟩
  | 113 => ⟨S_, .f32⟩
  | 114 => ⟨S32x2048x8, .f32⟩
  | 115 => ⟨S32x2048x8, .f32⟩
  | 116 => ⟨S32x16x128x8, .f32⟩
  | 117 => ⟨S32x16x8x128, .f32⟩
  | 118 => ⟨S_, .i32⟩
  | 119 => ⟨S_, .f32⟩
  | 120 => ⟨S32x2051x1024, .f32⟩
  | 121 => ⟨S1024, .f32⟩
  | 122 => ⟨S32x2048x1024, .f32⟩
  | 123 => ⟨S1x1x1024, .f32⟩
  | 124 => ⟨S1024, .f32⟩
  | 125 => ⟨S1x1x1024, .f32⟩
  | 126 => ⟨S32x2048x1024, .f32⟩
  | 127 => ⟨S32x2048x1024, .f32⟩
  | _ => ⟨S32x2048x1024, .f32⟩

abbrev hbmTy0_1 (i : Nat) : BufTy := match i % 128 with
  | 0 => ⟨S1x1x1024, .f32⟩
  | 1 => ⟨S32x2048x1024, .f32⟩
  | 2 => ⟨S32x2048x1024, .f32⟩
  | 3 => ⟨S32x2048x1024, .f32⟩
  | 4 => ⟨S1x1x1024, .f32⟩
  | 5 => ⟨S1024, .f32⟩
  | 6 => ⟨S1x1x1024, .f32⟩
  | 7 => ⟨S32x2048x1024, .f32⟩
  | 8 => ⟨S32x2048x1024, .f32⟩
  | 9 => ⟨S32x2048x1024, .f32⟩
  | 10 => ⟨S32x2048x1024, .f32⟩
  | 11 => ⟨S1x1x1024, .f32⟩
  | 12 => ⟨S1024, .f32⟩
  | 13 => ⟨S1x1x1024, .f32⟩
  | 14 => ⟨S32x2048x1024, .f32⟩
  | 15 => ⟨S32x2048x1024, .f32⟩
  | 16 => ⟨S32x2048x1024, .f32⟩
  | 17 => ⟨S32x2048x1024, .f32⟩
  | 18 => ⟨S1x1x1024, .f32⟩
  | 19 => ⟨S1024, .f32⟩
  | 20 => ⟨S1x1x1024, .f32⟩
  | 21 => ⟨S32x2048x1024, .f32⟩
  | 22 => ⟨S32x2048x1024, .f32⟩
  | 23 => ⟨S32x2048x1024, .f32⟩
  | 24 => ⟨S32x2048x16x64, .f32⟩
  | 25 => ⟨S16x64x64, .f32⟩
  | 26 => ⟨S16x64x32x2048, .f32⟩
  | 27 => ⟨S32x2048x16x64, .f32⟩
  | 28 => ⟨S32x2048x1024, .f32⟩
  | 29 => ⟨S1024, .f32⟩
  | 30 => ⟨S1x1x1024, .f32⟩
  | 31 => ⟨S32x2048x1024, .f32⟩
  | 32 => ⟨S32x2048x1024, .f32⟩
  | 33 => ⟨S32x2048x1024, .f32⟩
  | 34 => ⟨S32x2048x1024, .f32⟩
  | 35 => ⟨S_, .f32⟩
  | 36 => ⟨S32x2048x1024, .f32⟩
  | 37 => ⟨S32x2048x1024, .f32⟩
  | 38 => ⟨S_, .f32⟩
  | 39 => ⟨S32x2048x1024, .f32⟩
  | 40 => ⟨S32x2048x1024, .f32⟩
  | 41 => ⟨S16x64x64, .f32⟩
  | 42 => ⟨S16x64x32x2048, .f32⟩
  | 43 => ⟨S32x2048x16x64, .f32⟩
  | 44 => ⟨S32x2048x1024, .f32⟩
  | 45 => ⟨S1024, .f32⟩
  | 46 => ⟨S1x1x1024, .f32⟩
  | 47 => ⟨S32x2048x1024, .f32⟩
  | 48 => ⟨S32x2048x1024, .f32⟩
  | 49 => ⟨S32x2048x1024, .f32⟩
  | 50 => ⟨S32x2048x1024, .f32⟩
  | 51 => ⟨S_, .f32⟩
  | 52 => ⟨S32x2048x1024, .f32⟩
  | 53 => ⟨S32x2048x1024, .f32⟩
  | 54 => ⟨S_, .f32⟩
  | 55 => ⟨S32x2048x1024, .f32⟩
  | 56 => ⟨S32x2048x1024, .f32⟩
  | 57 => ⟨S_, .f32⟩
  | 58 => ⟨S32x2048x1024, .f32⟩
  | 59 => ⟨S32x2048x1024, .f32⟩
  | 60 => ⟨S1024, .f32⟩
  | 61 => ⟨S1024, .f32⟩
  | 62 => ⟨S_, .f32⟩
  | 63 => ⟨S1024, .f32⟩
  | 64 => ⟨S1024, .f32⟩
  | 65 => ⟨S1024, .f32⟩
  | 66 => ⟨S1024, .f32⟩
  | 67 => ⟨S1024, .i1⟩
  | 68 => ⟨S1024, .f32⟩
  | 69 => ⟨S1024, .f32⟩
  | 70 => ⟨S1024, .f32⟩
  | 71 => ⟨S1024, .f32⟩
  | 72 => ⟨S1024, .f32⟩
  | 73 => ⟨S1024, .f32⟩
  | 74 => ⟨S1024, .f32⟩
  | 75 => ⟨S1024, .f32⟩
  | 76 => ⟨S1x1x1024, .f32⟩
  | 77 => ⟨S32x2048x1024, .f32⟩
  | 78 => ⟨S32x2048x1024, .f32⟩
  | 79 => ⟨S32x2048x1024, .f32⟩
  | 80 => ⟨S_, .f32⟩
  | 81 => ⟨S32x2048x1024, .f32⟩
  | 82 => ⟨S32x2048x1024, .f32⟩
  | 83 => ⟨S32x2048x1024, .f32⟩
  | 84 => ⟨S32x2048x1024, .f32⟩
  | 85 => ⟨S32x2048x1024, .f32⟩
  | 86 => ⟨S32x2048x1024, .f32⟩
  | 87 => ⟨S32x2048x1024, .f32⟩
  | 88 => ⟨S32x1024x1024, .f32⟩
  | 89 => ⟨S32x1024x1024, .f32⟩
  | 90 => ⟨S32x1024x1024, .f32⟩
  | 91 => ⟨S32x1024x1024, .f32⟩
  | 92 => ⟨S32x1024x1024, .f32⟩
  | 93 => ⟨S32x1024x1024, .f32⟩
  | 94 => ⟨S32x1024x1024, .f32⟩
  | 95 => ⟨S32x512x1024, .f32⟩
  | 96 => ⟨S32x512x1024, .f32⟩
  | 97 => ⟨S32x512x1024, .f32⟩
  | 98 => ⟨S32x512x1024, .f32⟩
  | 99 => ⟨S32x512x1024, .f32⟩
  | 100 => ⟨S32x512x1024, .f32⟩
  | 101 => ⟨S32x512x1024, .f32⟩
  | 102 => ⟨S32x256x1024, .f32⟩
  | 103 => ⟨S32x256x1024, .f32⟩
  | 104 => ⟨S32x256x1024, .f32⟩
  | 105 => ⟨S32x256x1024, .f32⟩
  | 106 => ⟨S32x256x1024, .f32⟩
  | 107 => ⟨S32x256x1024, .f32⟩
  | 108 => ⟨S32x256x1024, .f32⟩
  | 109 => ⟨S32x128x1024, .f32⟩
  | 110 => ⟨S32x128x1024, .f32⟩
  | 111 => ⟨S32x128x1024, .f32⟩
  | 112 => ⟨S32x128x1024, .f32⟩
  | 113 => ⟨S32x128x1024, .f32⟩
  | 114 => ⟨S32x128x1024, .f32⟩
  | 115 => ⟨S32x128x1024, .f32⟩
  | 116 => ⟨S32x64x1024, .f32⟩
  | 117 => ⟨S32x64x1024, .f32⟩
  | 118 => ⟨S32x64x1024, .f32⟩
  | 119 => ⟨S32x64x1024, .f32⟩
  | 120 => ⟨S32x64x1024, .f32⟩
  | 121 => ⟨S32x64x1024, .f32⟩
  | 122 => ⟨S32x64x1024, .f32⟩
  | 123 => ⟨S32x32x1024, .f32⟩
  | 124 => ⟨S32x32x1024, .f32⟩
  | 125 => ⟨S32x32x1024, .f32⟩
  | 126 => ⟨S32x32x1024, .f32⟩
  | 127 => ⟨S32x32x1024, .f32⟩
  | _ => ⟨S32x2048x1024, .f32⟩

abbrev hbmTy0_2 (i : Nat) : BufTy := match i % 128 with
  | 0 => ⟨S32x32x1024, .f32⟩
  | 1 => ⟨S32x32x1024, .f32⟩
  | 2 => ⟨S32x16x1024, .f32⟩
  | 3 => ⟨S32x16x1024, .f32⟩
  | 4 => ⟨S32x16x1024, .f32⟩
  | 5 => ⟨S32x16x1024, .f32⟩
  | 6 => ⟨S32x16x1024, .f32⟩
  | 7 => ⟨S32x16x1024, .f32⟩
  | 8 => ⟨S32x16x1024, .f32⟩
  | 9 => ⟨S32x8x1024, .f32⟩
  | 10 => ⟨S32x8x1024, .f32⟩
  | 11 => ⟨S32x8x1024, .f32⟩
  | 12 => ⟨S32x8x1024, .f32⟩
  | 13 => ⟨S32x8x1024, .f32⟩
  | 14 => ⟨S32x8x1024, .f32⟩
  | 15 => ⟨S32x8x1024, .f32⟩
  | 16 => ⟨S32x4x1024, .f32⟩
  | 17 => ⟨S32x4x1024, .f32⟩
  | 18 => ⟨S32x4x1024, .f32⟩
  | 19 => ⟨S32x4x1024, .f32⟩
  | 20 => ⟨S32x4x1024, .f32⟩
  | 21 => ⟨S32x4x1024, .f32⟩
  | 22 => ⟨S32x4x1024, .f32⟩
  | 23 => ⟨S32x2x1024, .f32⟩
  | 24 => ⟨S32x2x1024, .f32⟩
  | 25 => ⟨S32x2x1024, .f32⟩
  | 26 => ⟨S32x2x1024, .f32⟩
  | 27 => ⟨S32x2x1024, .f32⟩
  | 28 => ⟨S32x2x1024, .f32⟩
  | 29 => ⟨S32x2x1024, .f32⟩
  | 30 => ⟨S32x1x1024, .f32⟩
  | 31 => ⟨S32x1x1024, .f32⟩
  | 32 => ⟨S32x1x1024, .f32⟩
  | 33 => ⟨S32x1x1024, .f32⟩
  | 34 => ⟨S32x1x1024, .f32⟩
  | 35 => ⟨S32x1x1024, .f32⟩
  | 36 => ⟨S32x1x1024, .f32⟩
  | 37 => ⟨S32x0x1024, .f32⟩
  | 38 => ⟨S32x0x1024, .f32⟩
  | 39 => ⟨S32x0x1024, .f32⟩
  | 40 => ⟨S32x0x1024, .f32⟩
  | 41 => ⟨S32x0x1024, .f32⟩
  | 42 => ⟨S32x0x1024, .f32⟩
  | 43 => ⟨S32x0x1024, .f32⟩
  | 44 => ⟨S32x1x1024, .f32⟩
  | 45 => ⟨S32x1x1024, .f32⟩
  | 46 => ⟨S32x1x1024, .f32⟩
  | 47 => ⟨S32x1x1024, .f32⟩
  | 48 => ⟨S_, .f32⟩
  | 49 => ⟨S32x2x1024, .f32⟩
  | 50 => ⟨S_, .f32⟩
  | 51 => ⟨S32x2x1024, .f32⟩
  | 52 => ⟨S32x2x1024, .f32⟩
  | 53 => ⟨S_, .f32⟩
  | 54 => ⟨S32x2x1024, .f32⟩
  | 55 => ⟨S_, .f32⟩
  | 56 => ⟨S32x2x1024, .f32⟩
  | 57 => ⟨S32x2x1024, .f32⟩
  | 58 => ⟨S32x1x1024, .f32⟩
  | 59 => ⟨S32x1x1024, .f32⟩
  | 60 => ⟨S32x1x1024, .f32⟩
  | 61 => ⟨S32x1x1024, .f32⟩
  | 62 => ⟨S32x1x1024, .f32⟩
  | 63 => ⟨S32x1x1024, .f32⟩
  | 64 => ⟨S32x1x1024, .f32⟩
  | 65 => ⟨S32x1x1024, .f32⟩
  | 66 => ⟨S32x2x1024, .f32⟩
  | 67 => ⟨S32x1x1024, .f32⟩
  | 68 => ⟨S32x2x1024, .f32⟩
  | 69 => ⟨S_, .f32⟩
  | 70 => ⟨S32x4x1024, .f32⟩
  | 71 => ⟨S_, .f32⟩
  | 72 => ⟨S32x4x1024, .f32⟩
  | 73 => ⟨S32x4x1024, .f32⟩
  | 74 => ⟨S_, .f32⟩
  | 75 => ⟨S32x4x1024, .f32⟩
  | 76 => ⟨S_, .f32⟩
  | 77 => ⟨S32x4x1024, .f32⟩
  | 78 => ⟨S32x4x1024, .f32⟩
  | 79 => ⟨S32x3x1024, .f32⟩
  | 80 => ⟨S32x3x1024, .f32⟩
  | 81 => ⟨S32x3x1024, .f32⟩
  | 82 => ⟨S32x3x1024, .f32⟩
  | 83 => ⟨S32x3x1024, .f32⟩
  | 84 => ⟨S32x3x1024, .f32⟩
  | 85 => ⟨S32x3x1024, .f32⟩
  | 86 => ⟨S32x1x1024, .f32⟩
  | 87 => ⟨S32x4x1024, .f32⟩
  | 88 => ⟨S32x1x1024, .f32⟩
  | 89 => ⟨S32x4x1024, .f32⟩
  | 90 => ⟨S_, .f32⟩
  | 91 => ⟨S32x8x1024, .f32⟩
  | 92 => ⟨S_, .f32⟩
  | 93 => ⟨S32x8x1024, .f32⟩
  | 94 => ⟨S32x8x1024, .f32⟩
  | 95 => ⟨S_, .f32⟩
  | 96 => ⟨S32x8x1024, .f32⟩
  | 97 => ⟨S_, .f32⟩
  | 98 => ⟨S32x8x1024, .f32⟩
  | 99 => ⟨S32x8x1024, .f32⟩
  | 100 => ⟨S32x7x1024, .f32⟩
  | 101 => ⟨S32x7x1024, .f32⟩
  | 102 => ⟨S32x7x1024, .f32⟩
  | 103 => ⟨S32x7x1024, .f32⟩
  | 104 => ⟨S32x7x1024, .f32⟩
  | 105 => ⟨S32x7x1024, .f32⟩
  | 106 => ⟨S32x7x1024, .f32⟩
  | 107 => ⟨S32x1x1024, .f32⟩
  | 108 => ⟨S32x8x1024, .f32⟩
  | 109 => ⟨S32x1x1024, .f32⟩
  | 110 => ⟨S32x8x1024, .f32⟩
  | 111 => ⟨S_, .f32⟩
  | 112 => ⟨S32x16x1024, .f32⟩
  | 113 => ⟨S_, .f32⟩
  | 114 => ⟨S32x16x1024, .f32⟩
  | 115 => ⟨S32x16x1024, .f32⟩
  | 116 => ⟨S_, .f32⟩
  | 117 => ⟨S32x16x1024, .f32⟩
  | 118 => ⟨S_, .f32⟩
  | 119 => ⟨S32x16x1024, .f32⟩
  | 120 => ⟨S32x16x1024, .f32⟩
  | 121 => ⟨S32x15x1024, .f32⟩
  | 122 => ⟨S32x15x1024, .f32⟩
  | 123 => ⟨S32x15x1024, .f32⟩
  | 124 => ⟨S32x15x1024, .f32⟩
  | 125 => ⟨S32x15x1024, .f32⟩
  | 126 => ⟨S32x15x1024, .f32⟩
  | 127 => ⟨S32x15x1024, .f32⟩
  | _ => ⟨S32x2048x1024, .f32⟩

abbrev hbmTy0_3 (i : Nat) : BufTy := match i % 128 with
  | 0 => ⟨S32x1x1024, .f32⟩
  | 1 => ⟨S32x16x1024, .f32⟩
  | 2 => ⟨S32x1x1024, .f32⟩
  | 3 => ⟨S32x16x1024, .f32⟩
  | 4 => ⟨S_, .f32⟩
  | 5 => ⟨S32x32x1024, .f32⟩
  | 6 => ⟨S_, .f32⟩
  | 7 => ⟨S32x32x1024, .f32⟩
  | 8 => ⟨S32x32x1024, .f32⟩
  | 9 => ⟨S_, .f32⟩
  | 10 => ⟨S32x32x1024, .f32⟩
  | 11 => ⟨S_, .f32⟩
  | 12 => ⟨S32x32x1024, .f32⟩
  | 13 => ⟨S32x32x1024, .f32⟩
  | 14 => ⟨S32x31x1024, .f32⟩
  | 15 => ⟨S32x31x1024, .f32⟩
  | 16 => ⟨S32x31x1024, .f32⟩
  | 17 => ⟨S32x31x1024, .f32⟩
  | 18 => ⟨S32x31x1024, .f32⟩
  | 19 => ⟨S32x31x1024, .f32⟩
  | 20 => ⟨S32x31x1024, .f32⟩
  | 21 => ⟨S32x1x1024, .f32⟩
  | 22 => ⟨S32x32x1024, .f32⟩
  | 23 => ⟨S32x1x1024, .f32⟩
  | 24 => ⟨S32x32x1024, .f32⟩
  | 25 => ⟨S_, .f32⟩
  | 26 => ⟨S32x64x1024, .f32⟩
  | 27 => ⟨S_, .f32⟩
  | 28 => ⟨S32x64x1024, .f32⟩
  | 29 => ⟨S32x64x1024, .f32⟩
  | 30 => ⟨S_, .f32⟩
  | 31 => ⟨S32x64x1024, .f32⟩
  | 32 => ⟨S_, .f32⟩
  | 33 => ⟨S32x64x1024, .f32⟩
  | 34 => ⟨S32x64x1024, .f32⟩
  | 35 => ⟨S32x63x1024, .f32⟩
  | 36 => ⟨S32x63x1024, .f32⟩
  | 37 => ⟨S32x63x1024, .f32⟩
  | 38 => ⟨S32x63x1024, .f32⟩
  | 39 => ⟨S32x63x1024, .f32⟩
  | 40 => ⟨S32x63x1024, .f32⟩
  | 41 => ⟨S32x63x1024, .f32⟩
  | 42 => ⟨S32x1x1024, .f32⟩
  | 43 => ⟨S32x64x1024, .f32⟩
  | 44 => ⟨S32x1x1024, .f32⟩
  | 45 => ⟨S32x64x1024, .f32⟩
  | 46 => ⟨S_, .f32⟩
  | 47 => ⟨S32x128x1024, .f32⟩
  | 48 => ⟨S_, .f32⟩
  | 49 => ⟨S32x128x1024, .f32⟩
  | 50 => ⟨S32x128x1024, .f32⟩
  | 51 => ⟨S_, .f32⟩
  | 52 => ⟨S32x128x1024, .f32⟩
  | 53 => ⟨S_, .f32⟩
  | 54 => ⟨S32x128x1024, .f32⟩
  | 55 => ⟨S32x128x1024, .f32⟩
  | 56 => ⟨S32x127x1024, .f32⟩
  | 57 => ⟨S32x127x1024, .f32⟩
  | 58 => ⟨S32x127x1024, .f32⟩
  | 59 => ⟨S32x127x1024, .f32⟩
  | 60 => ⟨S32x127x1024, .f32⟩
  | 61 => ⟨S32x127x1024, .f32⟩
  | 62 => ⟨S32x127x1024, .f32⟩
  | 63 => ⟨S32x1x1024, .f32⟩
  | 64 => ⟨S32x128x1024, .f32⟩
  | 65 => ⟨S32x1x1024, .f32⟩
  | 66 => ⟨S32x128x1024, .f32⟩
  | 67 => ⟨S_, .f32⟩
  | 68 => ⟨S32x256x1024, .f32⟩
  | 69 => ⟨S_, .f32⟩
  | 70 => ⟨S32x256x1024, .f32⟩
  | 71 => ⟨S32x256x1024, .f32⟩
  | 72 => ⟨S_, .f32⟩
  | 73 => ⟨S32x256x1024, .f32⟩
  | 74 => ⟨S_, .f32⟩
  | 75 => ⟨S32x256x1024, .f32⟩
  | 76 => ⟨S32x256x1024, .f32⟩
  | 77 => ⟨S32x255x1024, .f32⟩
  | 78 => ⟨S32x255x1024, .f32⟩
  | 79 => ⟨S32x255x1024, .f32⟩
  | 80 => ⟨S32x255x1024, .f32⟩
  | 81 => ⟨S32x255x1024, .f32⟩
  | 82 => ⟨S32x255x1024, .f32⟩
  | 83 => ⟨S32x255x1024, .f32⟩
  | 84 => ⟨S32x1x1024, .f32⟩
  | 85 => ⟨S32x256x1024, .f32⟩
  | 86 => ⟨S32x1x1024, .f32⟩
  | 87 => ⟨S32x256x1024, .f32⟩
  | 88 => ⟨S_, .f32⟩
  | 89 => ⟨S32x512x1024, .f32⟩
  | 90 => ⟨S_, .f32⟩
  | 91 => ⟨S32x512x1024, .f32⟩
  | 92 => ⟨S32x512x1024, .f32⟩
  | 93 => ⟨S_, .f32⟩
  | 94 => ⟨S32x512x1024, .f32⟩
  | 95 => ⟨S_, .f32⟩
  | 96 => ⟨S32x512x1024, .f32⟩
  | 97 => ⟨S32x512x1024, .f32⟩
  | 98 => ⟨S32x511x1024, .f32⟩
  | 99 => ⟨S32x511x1024, .f32⟩
  | 100 => ⟨S32x511x1024, .f32⟩
  | 101 => ⟨S32x511x1024, .f32⟩
  | 102 => ⟨S32x511x1024, .f32⟩
  | 103 => ⟨S32x511x1024, .f32⟩
  | 104 => ⟨S32x511x1024, .f32⟩
  | 105 => ⟨S32x1x1024, .f32⟩
  | 106 => ⟨S32x512x1024, .f32⟩
  | 107 => ⟨S32x1x1024, .f32⟩
  | 108 => ⟨S32x512x1024, .f32⟩
  | 109 => ⟨S_, .f32⟩
  | 110 => ⟨S32x1024x1024, .f32⟩
  | 111 => ⟨S_, .f32⟩
  | 112 => ⟨S32x1024x1024, .f32⟩
  | 113 => ⟨S32x1024x1024, .f32⟩
  | 114 => ⟨S_, .f32⟩
  | 115 => ⟨S32x1024x1024, .f32⟩
  | 116 => ⟨S_, .f32⟩
  | 117 => ⟨S32x1024x1024, .f32⟩
  | 118 => ⟨S32x1024x1024, .f32⟩
  | 119 => ⟨S32x1023x1024, .f32⟩
  | 120 => ⟨S32x1023x1024, .f32⟩
  | 121 => ⟨S32x1023x1024, .f32⟩
  | 122 => ⟨S32x1023x1024, .f32⟩
  | 123 => ⟨S32x1023x1024, .f32⟩
  | 124 => ⟨S32x1023x1024, .f32⟩
  | 125 => ⟨S32x1023x1024, .f32⟩
  | 126 => ⟨S32x1x1024, .f32⟩
  | 127 => ⟨S32x1024x1024, .f32⟩
  | _ => ⟨S32x2048x1024, .f32⟩

abbrev hbmTy0_4 (i : Nat) : BufTy := match i % 128 with
  | 0 => ⟨S32x1x1024, .f32⟩
  | 1 => ⟨S32x1024x1024, .f32⟩
  | 2 => ⟨S_, .f32⟩
  | 3 => ⟨S32x2048x1024, .f32⟩
  | 4 => ⟨S_, .f32⟩
  | 5 => ⟨S32x2048x1024, .f32⟩
  | 6 => ⟨S32x2048x1024, .f32⟩
  | 7 => ⟨S_, .f32⟩
  | 8 => ⟨S32x2048x1024, .f32⟩
  | 9 => ⟨S_, .f32⟩
  | 10 => ⟨S32x2048x1024, .f32⟩
  | 11 => ⟨S32x2048x1024, .f32⟩
  | 12 => ⟨S32x2048x1024, .f32⟩
  | 13 => ⟨S32x2048x1024, .f32⟩
  | 14 => ⟨S_, .f32⟩
  | 15 => ⟨S32x2048x1024, .f32⟩
  | 16 => ⟨S32x2048x1024, .f32⟩
  | 17 => ⟨S_, .f32⟩
  | 18 => ⟨S32x2048x1024, .f32⟩
  | 19 => ⟨S32x2048x1024, .f32⟩
  | 20 => ⟨S32x2048x1024, .f32⟩
  | 21 => ⟨S32x2048x1024, .f32⟩
  | 22 => ⟨S1024x1024, .f32⟩
  | 23 => ⟨S32x2048x1024, .f32⟩
  | 24 => ⟨S2048, .f32⟩
  | 25 => ⟨S1x1x2048, .f32⟩
  | 26 => ⟨S32x2048x2048, .f32⟩
  | 27 => ⟨S32x2048x2048, .f32⟩
  | 28 => ⟨S32x2048x2048, .f32⟩
  | 29 => ⟨S32x2048x2048, .f32⟩
  | 30 => ⟨S_, .f32⟩
  | 31 => ⟨S32x2048x2048, .f32⟩
  | 32 => ⟨S32x2048x2048, .f32⟩
  | 33 => ⟨S_, .f32⟩
  | 34 => ⟨S32x2048x2048, .f32⟩
  | 35 => ⟨S32x2048x2048, .f32⟩
  | 36 => ⟨S32x16x128x2048, .bf16⟩
  | 37 => ⟨S32x2048x128, .bf16⟩
  | 38 => ⟨S32x8x128x256, .bf16⟩
  | 39 => ⟨S32x16x64x1024, .bf16⟩
  | 40 => ⟨S32x2048x64, .bf16⟩
  | 41 => ⟨S32x2048x1024, .f32⟩
  | 42 => ⟨S32x2048x1024, .f32⟩
  | 43 => ⟨S_, .f32⟩
  | 44 => ⟨S32x2048x1024, .f32⟩
  | 45 => ⟨S32x2048x1024, .f32⟩
  | 46 => ⟨S_, .f32⟩
  | 47 => ⟨S32x2048x1024, .f32⟩
  | 48 => ⟨S32x2048x1024, .f32⟩
  | 49 => ⟨S32x2048x1024, .f32⟩
  | 50 => ⟨S32x2048x1024, .bf16⟩
  | 51 => ⟨S32x2048x1024, .f32⟩
  | 52 => ⟨S32x2048x1024, .bf16⟩
  | 53 => ⟨S32x2048x1024, .f32⟩
  | 54 => ⟨S32x2048x1024, .f32⟩
  | 55 => ⟨S32x2048x1024, .bf16⟩
  | _ => ⟨S32x2048x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_cst_1 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_2 : Ref sig .tc := ⟨.hbm, 48, rfl⟩
abbrev main_v29 : Ref sig .tc := ⟨.hbm, 49, rfl⟩
abbrev main_v30 : Ref sig .tc := ⟨.hbm, 50, rfl⟩
abbrev main_cst_3 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_4 : Ref sig .tc := ⟨.hbm, 60, rfl⟩
abbrev main_v39 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_7 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_8 : Ref sig .tc := ⟨.hbm, 86, rfl⟩
abbrev main_v61 : Ref sig .tc := ⟨.hbm, 87, rfl⟩
abbrev main_v62 : Ref sig .tc := ⟨.hbm, 88, rfl⟩
abbrev main_cst_9 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_10 : Ref sig .tc := ⟨.hbm, 95, rfl⟩
abbrev main_v68 : Ref sig .tc := ⟨.hbm, 96, rfl⟩
abbrev main_v69 : Ref sig .tc := ⟨.hbm, 97, rfl⟩
abbrev main_cst_11 : Ref sig .tc := ⟨.hbm, 98, rfl⟩
abbrev main_v70 : Ref sig .tc := ⟨.hbm, 99, rfl⟩
abbrev main_v71 : Ref sig .tc := ⟨.hbm, 100, rfl⟩
abbrev main_cst_12 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_13 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_c : Ref sig .tc := ⟨.hbm, 118, rfl⟩
abbrev main_call0_v0 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_cst_14 : Ref sig .tc := ⟨.hbm, 163, rfl⟩
abbrev main_v130 : Ref sig .tc := ⟨.hbm, 164, rfl⟩
abbrev main_v131 : Ref sig .tc := ⟨.hbm, 165, rfl⟩
abbrev main_cst_15 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_cst_16 : Ref sig .tc := ⟨.hbm, 179, rfl⟩
abbrev main_v144 : Ref sig .tc := ⟨.hbm, 180, rfl⟩
abbrev main_v145 : Ref sig .tc := ⟨.hbm, 181, rfl⟩
abbrev main_cst_17 : Ref sig .tc := ⟨.hbm, 182, rfl⟩
abbrev main_v146 : Ref sig .tc := ⟨.hbm, 183, rfl⟩
abbrev main_v147 : Ref sig .tc := ⟨.hbm, 184, rfl⟩
abbrev main_cst_18 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_call1_cst : Ref sig .tc := ⟨.hbm, 190, rfl⟩
abbrev main_call1_v0 : Ref sig .tc := ⟨.hbm, 191, rfl⟩
abbrev main_call1_v1 : Ref sig .tc := ⟨.hbm, 192, rfl⟩
abbrev main_call1_v2 : Ref sig .tc := ⟨.hbm, 193, rfl⟩
abbrev main_call1_v3 : Ref sig .tc := ⟨.hbm, 194, rfl⟩
abbrev main_call1_v4 : Ref sig .tc := ⟨.hbm, 195, rfl⟩
abbrev main_call1_v5 : Ref sig .tc := ⟨.hbm, 196, rfl⟩
abbrev main_call1_v6 : Ref sig .tc := ⟨.hbm, 197, rfl⟩
abbrev main_call1_v7 : Ref sig .tc := ⟨.hbm, 198, rfl⟩
abbrev main_call1_v8 : Ref sig .tc := ⟨.hbm, 199, rfl⟩
abbrev main_call1_v9 : Ref sig .tc := ⟨.hbm, 200, rfl⟩
abbrev main_call1_v10 : Ref sig .tc := ⟨.hbm, 201, rfl⟩
abbrev main_call1_v11 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_cst_19 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩
abbrev main_v213 : Ref sig .tc := ⟨.hbm, 265, rfl⟩
abbrev main_v214 : Ref sig .tc := ⟨.hbm, 266, rfl⟩
abbrev main_v215 : Ref sig .tc := ⟨.hbm, 267, rfl⟩
abbrev main_v216 : Ref sig .tc := ⟨.hbm, 268, rfl⟩
abbrev main_v217 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_v227 : Ref sig .tc := ⟨.hbm, 279, rfl⟩
abbrev main_v228 : Ref sig .tc := ⟨.hbm, 280, rfl⟩
abbrev main_v229 : Ref sig .tc := ⟨.hbm, 281, rfl⟩
abbrev main_v230 : Ref sig .tc := ⟨.hbm, 282, rfl⟩
abbrev main_v231 : Ref sig .tc := ⟨.hbm, 283, rfl⟩
abbrev main_v232 : Ref sig .tc := ⟨.hbm, 284, rfl⟩
abbrev main_v233 : Ref sig .tc := ⟨.hbm, 285, rfl⟩
abbrev main_v234 : Ref sig .tc := ⟨.hbm, 286, rfl⟩
abbrev main_v235 : Ref sig .tc := ⟨.hbm, 287, rfl⟩
abbrev main_v236 : Ref sig .tc := ⟨.hbm, 288, rfl⟩
abbrev main_v237 : Ref sig .tc := ⟨.hbm, 289, rfl⟩
abbrev main_v238 : Ref sig .tc := ⟨.hbm, 290, rfl⟩
abbrev main_v239 : Ref sig .tc := ⟨.hbm, 291, rfl⟩
abbrev main_v240 : Ref sig .tc := ⟨.hbm, 292, rfl⟩
abbrev main_v241 : Ref sig .tc := ⟨.hbm, 293, rfl⟩
abbrev main_v242 : Ref sig .tc := ⟨.hbm, 294, rfl⟩
abbrev main_v243 : Ref sig .tc := ⟨.hbm, 295, rfl⟩
abbrev main_v244 : Ref sig .tc := ⟨.hbm, 296, rfl⟩
abbrev main_v245 : Ref sig .tc := ⟨.hbm, 297, rfl⟩
abbrev main_v246 : Ref sig .tc := ⟨.hbm, 298, rfl⟩
abbrev main_v247 : Ref sig .tc := ⟨.hbm, 299, rfl⟩
abbrev main_v248 : Ref sig .tc := ⟨.hbm, 300, rfl⟩
abbrev main_v249 : Ref sig .tc := ⟨.hbm, 301, rfl⟩
abbrev main_v250 : Ref sig .tc := ⟨.hbm, 302, rfl⟩
abbrev main_v251 : Ref sig .tc := ⟨.hbm, 303, rfl⟩
abbrev main_cst_20 : Ref sig .tc := ⟨.hbm, 304, rfl⟩
abbrev main_v252 : Ref sig .tc := ⟨.hbm, 305, rfl⟩
abbrev main_cst_21 : Ref sig .tc := ⟨.hbm, 306, rfl⟩
abbrev main_v253 : Ref sig .tc := ⟨.hbm, 307, rfl⟩
abbrev main_v254 : Ref sig .tc := ⟨.hbm, 308, rfl⟩
abbrev main_cst_22 : Ref sig .tc := ⟨.hbm, 309, rfl⟩
abbrev main_v255 : Ref sig .tc := ⟨.hbm, 310, rfl⟩
abbrev main_cst_23 : Ref sig .tc := ⟨.hbm, 311, rfl⟩
abbrev main_v256 : Ref sig .tc := ⟨.hbm, 312, rfl⟩
abbrev main_v257 : Ref sig .tc := ⟨.hbm, 313, rfl⟩
abbrev main_v258 : Ref sig .tc := ⟨.hbm, 314, rfl⟩
abbrev main_v259 : Ref sig .tc := ⟨.hbm, 315, rfl⟩
abbrev main_v260 : Ref sig .tc := ⟨.hbm, 316, rfl⟩
abbrev main_v261 : Ref sig .tc := ⟨.hbm, 317, rfl⟩
abbrev main_v262 : Ref sig .tc := ⟨.hbm, 318, rfl⟩
abbrev main_v263 : Ref sig .tc := ⟨.hbm, 319, rfl⟩
abbrev main_v264 : Ref sig .tc := ⟨.hbm, 320, rfl⟩
abbrev main_v265 : Ref sig .tc := ⟨.hbm, 321, rfl⟩
abbrev main_v266 : Ref sig .tc := ⟨.hbm, 322, rfl⟩
abbrev main_v267 : Ref sig .tc := ⟨.hbm, 323, rfl⟩
abbrev main_v268 : Ref sig .tc := ⟨.hbm, 324, rfl⟩
abbrev main_cst_24 : Ref sig .tc := ⟨.hbm, 325, rfl⟩
abbrev main_v269 : Ref sig .tc := ⟨.hbm, 326, rfl⟩
abbrev main_cst_25 : Ref sig .tc := ⟨.hbm, 327, rfl⟩
abbrev main_v270 : Ref sig .tc := ⟨.hbm, 328, rfl⟩
abbrev main_v271 : Ref sig .tc := ⟨.hbm, 329, rfl⟩
abbrev main_cst_26 : Ref sig .tc := ⟨.hbm, 330, rfl⟩
abbrev main_v272 : Ref sig .tc := ⟨.hbm, 331, rfl⟩
abbrev main_cst_27 : Ref sig .tc := ⟨.hbm, 332, rfl⟩
abbrev main_v273 : Ref sig .tc := ⟨.hbm, 333, rfl⟩
abbrev main_v274 : Ref sig .tc := ⟨.hbm, 334, rfl⟩
abbrev main_v275 : Ref sig .tc := ⟨.hbm, 335, rfl⟩
abbrev main_v276 : Ref sig .tc := ⟨.hbm, 336, rfl⟩
abbrev main_v277 : Ref sig .tc := ⟨.hbm, 337, rfl⟩
abbrev main_v278 : Ref sig .tc := ⟨.hbm, 338, rfl⟩
abbrev main_v279 : Ref sig .tc := ⟨.hbm, 339, rfl⟩
abbrev main_v280 : Ref sig .tc := ⟨.hbm, 340, rfl⟩
abbrev main_v281 : Ref sig .tc := ⟨.hbm, 341, rfl⟩
abbrev main_v282 : Ref sig .tc := ⟨.hbm, 342, rfl⟩
abbrev main_v283 : Ref sig .tc := ⟨.hbm, 343, rfl⟩
abbrev main_v284 : Ref sig .tc := ⟨.hbm, 344, rfl⟩
abbrev main_v285 : Ref sig .tc := ⟨.hbm, 345, rfl⟩
abbrev main_cst_28 : Ref sig .tc := ⟨.hbm, 346, rfl⟩
abbrev main_v286 : Ref sig .tc := ⟨.hbm, 347, rfl⟩
abbrev main_cst_29 : Ref sig .tc := ⟨.hbm, 348, rfl⟩
abbrev main_v287 : Ref sig .tc := ⟨.hbm, 349, rfl⟩
abbrev main_v288 : Ref sig .tc := ⟨.hbm, 350, rfl⟩
abbrev main_cst_30 : Ref sig .tc := ⟨.hbm, 351, rfl⟩
abbrev main_v289 : Ref sig .tc := ⟨.hbm, 352, rfl⟩
abbrev main_cst_31 : Ref sig .tc := ⟨.hbm, 353, rfl⟩
abbrev main_v290 : Ref sig .tc := ⟨.hbm, 354, rfl⟩
abbrev main_v291 : Ref sig .tc := ⟨.hbm, 355, rfl⟩
abbrev main_v292 : Ref sig .tc := ⟨.hbm, 356, rfl⟩
abbrev main_v293 : Ref sig .tc := ⟨.hbm, 357, rfl⟩
abbrev main_v294 : Ref sig .tc := ⟨.hbm, 358, rfl⟩
abbrev main_v295 : Ref sig .tc := ⟨.hbm, 359, rfl⟩
abbrev main_v296 : Ref sig .tc := ⟨.hbm, 360, rfl⟩
abbrev main_v297 : Ref sig .tc := ⟨.hbm, 361, rfl⟩
abbrev main_v298 : Ref sig .tc := ⟨.hbm, 362, rfl⟩
abbrev main_v299 : Ref sig .tc := ⟨.hbm, 363, rfl⟩
abbrev main_v300 : Ref sig .tc := ⟨.hbm, 364, rfl⟩
abbrev main_v301 : Ref sig .tc := ⟨.hbm, 365, rfl⟩
abbrev main_v302 : Ref sig .tc := ⟨.hbm, 366, rfl⟩
abbrev main_cst_32 : Ref sig .tc := ⟨.hbm, 367, rfl⟩
abbrev main_v303 : Ref sig .tc := ⟨.hbm, 368, rfl⟩
abbrev main_cst_33 : Ref sig .tc := ⟨.hbm, 369, rfl⟩
abbrev main_v304 : Ref sig .tc := ⟨.hbm, 370, rfl⟩
abbrev main_v305 : Ref sig .tc := ⟨.hbm, 371, rfl⟩
abbrev main_cst_34 : Ref sig .tc := ⟨.hbm, 372, rfl⟩
abbrev main_v306 : Ref sig .tc := ⟨.hbm, 373, rfl⟩
abbrev main_cst_35 : Ref sig .tc := ⟨.hbm, 374, rfl⟩
abbrev main_v307 : Ref sig .tc := ⟨.hbm, 375, rfl⟩
abbrev main_v308 : Ref sig .tc := ⟨.hbm, 376, rfl⟩
abbrev main_v309 : Ref sig .tc := ⟨.hbm, 377, rfl⟩
abbrev main_v310 : Ref sig .tc := ⟨.hbm, 378, rfl⟩
abbrev main_v311 : Ref sig .tc := ⟨.hbm, 379, rfl⟩
abbrev main_v312 : Ref sig .tc := ⟨.hbm, 380, rfl⟩
abbrev main_v313 : Ref sig .tc := ⟨.hbm, 381, rfl⟩
abbrev main_v314 : Ref sig .tc := ⟨.hbm, 382, rfl⟩
abbrev main_v315 : Ref sig .tc := ⟨.hbm, 383, rfl⟩
abbrev main_v316 : Ref sig .tc := ⟨.hbm, 384, rfl⟩
abbrev main_v317 : Ref sig .tc := ⟨.hbm, 385, rfl⟩
abbrev main_v318 : Ref sig .tc := ⟨.hbm, 386, rfl⟩
abbrev main_v319 : Ref sig .tc := ⟨.hbm, 387, rfl⟩
abbrev main_cst_36 : Ref sig .tc := ⟨.hbm, 388, rfl⟩
abbrev main_v320 : Ref sig .tc := ⟨.hbm, 389, rfl⟩
abbrev main_cst_37 : Ref sig .tc := ⟨.hbm, 390, rfl⟩
abbrev main_v321 : Ref sig .tc := ⟨.hbm, 391, rfl⟩
abbrev main_v322 : Ref sig .tc := ⟨.hbm, 392, rfl⟩
abbrev main_cst_38 : Ref sig .tc := ⟨.hbm, 393, rfl⟩
abbrev main_v323 : Ref sig .tc := ⟨.hbm, 394, rfl⟩
abbrev main_cst_39 : Ref sig .tc := ⟨.hbm, 395, rfl⟩
abbrev main_v324 : Ref sig .tc := ⟨.hbm, 396, rfl⟩
abbrev main_v325 : Ref sig .tc := ⟨.hbm, 397, rfl⟩
abbrev main_v326 : Ref sig .tc := ⟨.hbm, 398, rfl⟩
abbrev main_v327 : Ref sig .tc := ⟨.hbm, 399, rfl⟩
abbrev main_v328 : Ref sig .tc := ⟨.hbm, 400, rfl⟩
abbrev main_v329 : Ref sig .tc := ⟨.hbm, 401, rfl⟩
abbrev main_v330 : Ref sig .tc := ⟨.hbm, 402, rfl⟩
abbrev main_v331 : Ref sig .tc := ⟨.hbm, 403, rfl⟩
abbrev main_v332 : Ref sig .tc := ⟨.hbm, 404, rfl⟩
abbrev main_v333 : Ref sig .tc := ⟨.hbm, 405, rfl⟩
abbrev main_v334 : Ref sig .tc := ⟨.hbm, 406, rfl⟩
abbrev main_v335 : Ref sig .tc := ⟨.hbm, 407, rfl⟩
abbrev main_v336 : Ref sig .tc := ⟨.hbm, 408, rfl⟩
abbrev main_cst_40 : Ref sig .tc := ⟨.hbm, 409, rfl⟩
abbrev main_v337 : Ref sig .tc := ⟨.hbm, 410, rfl⟩
abbrev main_cst_41 : Ref sig .tc := ⟨.hbm, 411, rfl⟩
abbrev main_v338 : Ref sig .tc := ⟨.hbm, 412, rfl⟩
abbrev main_v339 : Ref sig .tc := ⟨.hbm, 413, rfl⟩
abbrev main_cst_42 : Ref sig .tc := ⟨.hbm, 414, rfl⟩
abbrev main_v340 : Ref sig .tc := ⟨.hbm, 415, rfl⟩
abbrev main_cst_43 : Ref sig .tc := ⟨.hbm, 416, rfl⟩
abbrev main_v341 : Ref sig .tc := ⟨.hbm, 417, rfl⟩
abbrev main_v342 : Ref sig .tc := ⟨.hbm, 418, rfl⟩
abbrev main_v343 : Ref sig .tc := ⟨.hbm, 419, rfl⟩
abbrev main_v344 : Ref sig .tc := ⟨.hbm, 420, rfl⟩
abbrev main_v345 : Ref sig .tc := ⟨.hbm, 421, rfl⟩
abbrev main_v346 : Ref sig .tc := ⟨.hbm, 422, rfl⟩
abbrev main_v347 : Ref sig .tc := ⟨.hbm, 423, rfl⟩
abbrev main_v348 : Ref sig .tc := ⟨.hbm, 424, rfl⟩
abbrev main_v349 : Ref sig .tc := ⟨.hbm, 425, rfl⟩
abbrev main_v350 : Ref sig .tc := ⟨.hbm, 426, rfl⟩
abbrev main_v351 : Ref sig .tc := ⟨.hbm, 427, rfl⟩
abbrev main_v352 : Ref sig .tc := ⟨.hbm, 428, rfl⟩
abbrev main_v353 : Ref sig .tc := ⟨.hbm, 429, rfl⟩
abbrev main_cst_44 : Ref sig .tc := ⟨.hbm, 430, rfl⟩
abbrev main_v354 : Ref sig .tc := ⟨.hbm, 431, rfl⟩
abbrev main_cst_45 : Ref sig .tc := ⟨.hbm, 432, rfl⟩
abbrev main_v355 : Ref sig .tc := ⟨.hbm, 433, rfl⟩
abbrev main_v356 : Ref sig .tc := ⟨.hbm, 434, rfl⟩
abbrev main_cst_46 : Ref sig .tc := ⟨.hbm, 435, rfl⟩
abbrev main_v357 : Ref sig .tc := ⟨.hbm, 436, rfl⟩
abbrev main_cst_47 : Ref sig .tc := ⟨.hbm, 437, rfl⟩
abbrev main_v358 : Ref sig .tc := ⟨.hbm, 438, rfl⟩
abbrev main_v359 : Ref sig .tc := ⟨.hbm, 439, rfl⟩
abbrev main_v360 : Ref sig .tc := ⟨.hbm, 440, rfl⟩
abbrev main_v361 : Ref sig .tc := ⟨.hbm, 441, rfl⟩
abbrev main_v362 : Ref sig .tc := ⟨.hbm, 442, rfl⟩
abbrev main_v363 : Ref sig .tc := ⟨.hbm, 443, rfl⟩
abbrev main_v364 : Ref sig .tc := ⟨.hbm, 444, rfl⟩
abbrev main_v365 : Ref sig .tc := ⟨.hbm, 445, rfl⟩
abbrev main_v366 : Ref sig .tc := ⟨.hbm, 446, rfl⟩
abbrev main_v367 : Ref sig .tc := ⟨.hbm, 447, rfl⟩
abbrev main_v368 : Ref sig .tc := ⟨.hbm, 448, rfl⟩
abbrev main_v369 : Ref sig .tc := ⟨.hbm, 449, rfl⟩
abbrev main_v370 : Ref sig .tc := ⟨.hbm, 450, rfl⟩
abbrev main_cst_48 : Ref sig .tc := ⟨.hbm, 451, rfl⟩
abbrev main_v371 : Ref sig .tc := ⟨.hbm, 452, rfl⟩
abbrev main_cst_49 : Ref sig .tc := ⟨.hbm, 453, rfl⟩
abbrev main_v372 : Ref sig .tc := ⟨.hbm, 454, rfl⟩
abbrev main_v373 : Ref sig .tc := ⟨.hbm, 455, rfl⟩
abbrev main_cst_50 : Ref sig .tc := ⟨.hbm, 456, rfl⟩
abbrev main_v374 : Ref sig .tc := ⟨.hbm, 457, rfl⟩
abbrev main_cst_51 : Ref sig .tc := ⟨.hbm, 458, rfl⟩
abbrev main_v375 : Ref sig .tc := ⟨.hbm, 459, rfl⟩
abbrev main_v376 : Ref sig .tc := ⟨.hbm, 460, rfl⟩
abbrev main_v377 : Ref sig .tc := ⟨.hbm, 461, rfl⟩
abbrev main_v378 : Ref sig .tc := ⟨.hbm, 462, rfl⟩
abbrev main_v379 : Ref sig .tc := ⟨.hbm, 463, rfl⟩
abbrev main_v380 : Ref sig .tc := ⟨.hbm, 464, rfl⟩
abbrev main_v381 : Ref sig .tc := ⟨.hbm, 465, rfl⟩
abbrev main_v382 : Ref sig .tc := ⟨.hbm, 466, rfl⟩
abbrev main_v383 : Ref sig .tc := ⟨.hbm, 467, rfl⟩
abbrev main_v384 : Ref sig .tc := ⟨.hbm, 468, rfl⟩
abbrev main_v385 : Ref sig .tc := ⟨.hbm, 469, rfl⟩
abbrev main_v386 : Ref sig .tc := ⟨.hbm, 470, rfl⟩
abbrev main_v387 : Ref sig .tc := ⟨.hbm, 471, rfl⟩
abbrev main_cst_52 : Ref sig .tc := ⟨.hbm, 472, rfl⟩
abbrev main_v388 : Ref sig .tc := ⟨.hbm, 473, rfl⟩
abbrev main_cst_53 : Ref sig .tc := ⟨.hbm, 474, rfl⟩
abbrev main_v389 : Ref sig .tc := ⟨.hbm, 475, rfl⟩
abbrev main_v390 : Ref sig .tc := ⟨.hbm, 476, rfl⟩
abbrev main_cst_54 : Ref sig .tc := ⟨.hbm, 477, rfl⟩
abbrev main_v391 : Ref sig .tc := ⟨.hbm, 478, rfl⟩
abbrev main_cst_55 : Ref sig .tc := ⟨.hbm, 479, rfl⟩
abbrev main_v392 : Ref sig .tc := ⟨.hbm, 480, rfl⟩
abbrev main_v393 : Ref sig .tc := ⟨.hbm, 481, rfl⟩
abbrev main_v394 : Ref sig .tc := ⟨.hbm, 482, rfl⟩
abbrev main_v395 : Ref sig .tc := ⟨.hbm, 483, rfl⟩
abbrev main_v396 : Ref sig .tc := ⟨.hbm, 484, rfl⟩
abbrev main_v397 : Ref sig .tc := ⟨.hbm, 485, rfl⟩
abbrev main_v398 : Ref sig .tc := ⟨.hbm, 486, rfl⟩
abbrev main_v399 : Ref sig .tc := ⟨.hbm, 487, rfl⟩
abbrev main_v400 : Ref sig .tc := ⟨.hbm, 488, rfl⟩
abbrev main_v401 : Ref sig .tc := ⟨.hbm, 489, rfl⟩
abbrev main_v402 : Ref sig .tc := ⟨.hbm, 490, rfl⟩
abbrev main_v403 : Ref sig .tc := ⟨.hbm, 491, rfl⟩
abbrev main_v404 : Ref sig .tc := ⟨.hbm, 492, rfl⟩
abbrev main_cst_56 : Ref sig .tc := ⟨.hbm, 493, rfl⟩
abbrev main_v405 : Ref sig .tc := ⟨.hbm, 494, rfl⟩
abbrev main_cst_57 : Ref sig .tc := ⟨.hbm, 495, rfl⟩
abbrev main_v406 : Ref sig .tc := ⟨.hbm, 496, rfl⟩
abbrev main_v407 : Ref sig .tc := ⟨.hbm, 497, rfl⟩
abbrev main_cst_58 : Ref sig .tc := ⟨.hbm, 498, rfl⟩
abbrev main_v408 : Ref sig .tc := ⟨.hbm, 499, rfl⟩
abbrev main_cst_59 : Ref sig .tc := ⟨.hbm, 500, rfl⟩
abbrev main_v409 : Ref sig .tc := ⟨.hbm, 501, rfl⟩
abbrev main_v410 : Ref sig .tc := ⟨.hbm, 502, rfl⟩
abbrev main_v411 : Ref sig .tc := ⟨.hbm, 503, rfl⟩
abbrev main_v412 : Ref sig .tc := ⟨.hbm, 504, rfl⟩
abbrev main_v413 : Ref sig .tc := ⟨.hbm, 505, rfl⟩
abbrev main_v414 : Ref sig .tc := ⟨.hbm, 506, rfl⟩
abbrev main_v415 : Ref sig .tc := ⟨.hbm, 507, rfl⟩
abbrev main_v416 : Ref sig .tc := ⟨.hbm, 508, rfl⟩
abbrev main_v417 : Ref sig .tc := ⟨.hbm, 509, rfl⟩
abbrev main_v418 : Ref sig .tc := ⟨.hbm, 510, rfl⟩
abbrev main_v419 : Ref sig .tc := ⟨.hbm, 511, rfl⟩
abbrev main_v420 : Ref sig .tc := ⟨.hbm, 512, rfl⟩
abbrev main_v421 : Ref sig .tc := ⟨.hbm, 513, rfl⟩
abbrev main_cst_60 : Ref sig .tc := ⟨.hbm, 514, rfl⟩
abbrev main_v422 : Ref sig .tc := ⟨.hbm, 515, rfl⟩
abbrev main_cst_61 : Ref sig .tc := ⟨.hbm, 516, rfl⟩
abbrev main_v423 : Ref sig .tc := ⟨.hbm, 517, rfl⟩
abbrev main_v424 : Ref sig .tc := ⟨.hbm, 518, rfl⟩
abbrev main_cst_62 : Ref sig .tc := ⟨.hbm, 519, rfl⟩
abbrev main_v425 : Ref sig .tc := ⟨.hbm, 520, rfl⟩
abbrev main_cst_63 : Ref sig .tc := ⟨.hbm, 521, rfl⟩
abbrev main_v426 : Ref sig .tc := ⟨.hbm, 522, rfl⟩
abbrev main_v427 : Ref sig .tc := ⟨.hbm, 523, rfl⟩
abbrev main_call2_v0 : Ref sig .tc := ⟨.hbm, 524, rfl⟩
abbrev main_call2_v1 : Ref sig .tc := ⟨.hbm, 525, rfl⟩
abbrev main_call2_cst : Ref sig .tc := ⟨.hbm, 526, rfl⟩
abbrev main_call2_v2 : Ref sig .tc := ⟨.hbm, 527, rfl⟩
abbrev main_call2_v3 : Ref sig .tc := ⟨.hbm, 528, rfl⟩
abbrev main_call2_cst_0 : Ref sig .tc := ⟨.hbm, 529, rfl⟩
abbrev main_call2_v4 : Ref sig .tc := ⟨.hbm, 530, rfl⟩
abbrev main_call2_v5 : Ref sig .tc := ⟨.hbm, 531, rfl⟩
abbrev main_v428 : Ref sig .tc := ⟨.hbm, 532, rfl⟩
abbrev main_v429 : Ref sig .tc := ⟨.hbm, 533, rfl⟩
abbrev main_v430 : Ref sig .tc := ⟨.hbm, 534, rfl⟩
abbrev main_v431 : Ref sig .tc := ⟨.hbm, 535, rfl⟩
abbrev main_v432 : Ref sig .tc := ⟨.hbm, 536, rfl⟩
abbrev main_v433 : Ref sig .tc := ⟨.hbm, 537, rfl⟩
abbrev main_v434 : Ref sig .tc := ⟨.hbm, 538, rfl⟩
abbrev main_v435 : Ref sig .tc := ⟨.hbm, 539, rfl⟩
abbrev main_v436 : Ref sig .tc := ⟨.hbm, 540, rfl⟩
abbrev main_v437 : Ref sig .tc := ⟨.hbm, 541, rfl⟩
abbrev main_cst_64 : Ref sig .tc := ⟨.hbm, 542, rfl⟩
abbrev main_v438 : Ref sig .tc := ⟨.hbm, 543, rfl⟩
abbrev main_v439 : Ref sig .tc := ⟨.hbm, 544, rfl⟩
abbrev main_cst_65 : Ref sig .tc := ⟨.hbm, 545, rfl⟩
abbrev main_v440 : Ref sig .tc := ⟨.hbm, 546, rfl⟩
abbrev main_v441 : Ref sig .tc := ⟨.hbm, 547, rfl⟩
abbrev main_v442 : Ref sig .tc := ⟨.hbm, 548, rfl⟩
abbrev main_v443 : Ref sig .tc := ⟨.hbm, 549, rfl⟩
abbrev main_v444 : Ref sig .tc := ⟨.hbm, 550, rfl⟩
abbrev main_v445 : Ref sig .tc := ⟨.hbm, 551, rfl⟩
abbrev main_v446 : Ref sig .tc := ⟨.hbm, 552, rfl⟩
abbrev main_call3_v0 : Ref sig .tc := ⟨.hbm, 553, rfl⟩
abbrev main_call3_v1 : Ref sig .tc := ⟨.hbm, 554, rfl⟩
abbrev main_call3_cst : Ref sig .tc := ⟨.hbm, 555, rfl⟩
abbrev main_call3_v2 : Ref sig .tc := ⟨.hbm, 556, rfl⟩
abbrev main_call3_v3 : Ref sig .tc := ⟨.hbm, 557, rfl⟩
abbrev main_call3_cst_0 : Ref sig .tc := ⟨.hbm, 558, rfl⟩
abbrev main_call3_v4 : Ref sig .tc := ⟨.hbm, 559, rfl⟩
abbrev main_call3_v5 : Ref sig .tc := ⟨.hbm, 560, rfl⟩
abbrev main_v447 : Ref sig .tc := ⟨.hbm, 561, rfl⟩
abbrev main_v448 : Ref sig .tc := ⟨.hbm, 562, rfl⟩
abbrev main_v449 : Ref sig .tc := ⟨.hbm, 563, rfl⟩
abbrev main_v450 : Ref sig .tc := ⟨.hbm, 564, rfl⟩
abbrev main_v451 : Ref sig .tc := ⟨.hbm, 565, rfl⟩
abbrev main_v452 : Ref sig .tc := ⟨.hbm, 566, rfl⟩
abbrev main_v453 : Ref sig .tc := ⟨.hbm, 567, rfl⟩

abbrev nD : Nat := 1
abbrev τ : Topo := Topo.v7x

variable {F : FTy → Type} [FloatOps F]
-- ==== Proof.BodyRuns.lean ====
/-
  What the kernel's body leaves at each grid point: the run of the body at the point's staging buffers, in the two cases
  of its conditionals, and the contents that the outputs and the two carried scratch buffers have after the point.
-/
module

public import proofs.«01_k».proof.Proof.Gen.KernelIdeal.Frame.RunB

@[expose] public section

set_option maxRecDepth 16384

noncomputable section

namespace Cert.Layer.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The contents of the nine outputs' staging buffers and of the two carried scratch buffers. -/
abbrev Outs (F : FTy → Type) : Type :=
  Vec F S1x4x128x2048 .bf16 × Vec F S1x512x128 .bf16 × Vec F S1x2x128x256 .bf16 × Vec F S1x4x64x1024 .bf16 × Vec F
  S1x512x64 .bf16 × Vec F S1x4x8x128 .f32 × Vec F S1x512x1024 .bf16 × Vec F S1x512x1024 .bf16 × Vec F S1x512x1024
  .bf16 × Vec F S520x1024 .f32 × Vec F S8x1024 .f32

/-- The body's run at the first point of a sequence: the pieces that it stores in each buffer, and its triple. -/
def runA (c : Dev nD) (t : Fin cfg0.N) (h0 : t.val % 4 = 0) (h1 : ¬1 ≤ t.val % 4) :=
  kernelRun0_A (F := F)
    c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) (ms0_14 t) (hs0_14 t)
    (ms0_15 t) (hs0_15 t) (ms0_16 t) (hs0_16 t) (ms0_17 t) (hs0_17 t) (ms0_18 t) (hs0_18 t) (ms0_19 t) (hs0_19 t)
    (ms0_20 t) (hs0_20 t) (ms0_21 t) (hs0_21 t) (ms0_22 t) (hs0_22 t) (ms0_23 t) (hs0_23 t) scM0_0
    (Memref.isWhole_whole _) scM0_1 (Memref.isWhole_whole _) scM0_2 (Memref.isWhole_whole _) scM0_3
    (Memref.isWhole_whole _) scM0_4 (Memref.isWhole_whole _) scM0_5 (Memref.isWhole_whole _) scM0_6
    (Memref.isWhole_whole _) ((hcond0_0 t).mpr h0) (fun h => h1 ((hcond0_1 t).mp h)) (iblk m c 0 t) (iblk m c 1 t)
    (iblk m c 2 t) (iblk m c 3 t) (iblk m c 4 t) (iblk m c 5 t) (iblk m c 6 t) (iblk m c 7 t) (iblk m c 8 t)
    (iblk m c 9 t) (iblk m c 10 t) (iblk m c 11 t) (iblk m c 12 t) (iblk m c 13 t) (iblk m c 14 t)

/-- The pieces stored in output 15 cover it. -/
theorem coverA_15 (c : Dev nD) (t : Fin cfg0.N) (h0 : t.val % 4 = 0) (h1 : ¬1 ≤ t.val % 4) :
    ∀ y, ∃ pc ∈ (runA m c t h0 h1).1, y ∈ pc.1.set :=
  View.cover_of_tiledL (runA m c t h0 h1).1 S1x1x128x128.size (by sl_kernel_rfl)

/-- The pieces stored in output 16 cover it. -/
theorem coverA_16 (c : Dev nD) (t : Fin cfg0.N) (h0 : t.val % 4 = 0) (h1 : ¬1 ≤ t.val % 4) :
    ∀ y, ∃ pc ∈ (runA m c t h0 h1).2.1, y ∈ pc.1.set :=
  View.cover_of_tiledL (runA m c t h0 h1).2.1 S1x512x128.size (by sl_kernel_rfl)

/-- The pieces stored in output 17 cover it. -/
theorem coverA_17 (c : Dev nD) (t : Fin cfg0.N) (h0 : t.val % 4 = 0) (h1 : ¬1 ≤ t.val % 4) :
    ∀ y, ∃ pc ∈ (runA m c t h0 h1).2.2.1, y ∈ pc.1.set :=
  View.cover_of_tiledL (runA m c t h0 h1).2.2.1 S1x1x128x256.size (by sl_kernel_rfl)

/-- The pieces stored in output 18 cover it. -/
theorem coverA_18 (c : Dev nD) (t : Fin cfg0.N) (h0 : t.val % 4 = 0) (h1 : ¬1 ≤ t.val % 4) :
    ∀ y, ∃ pc ∈ (runA m c t h0 h1).2.2.2.1, y ∈ pc.1.set :=
  View.cover_of_tiledL (runA m c t h0 h1).2.2.2.1 S1x1x64x128.size (by sl_kernel_rfl)

/-- The pieces stored in output 19 cover it. -/
theorem coverA_19 (c : Dev nD) (t : Fin cfg0.N) (h0 : t.val % 4 = 0) (h1 : ¬1 ≤ t.val % 4) :
    ∀ y, ∃ pc ∈ (runA m c t h0 h1).2.2.2.2.1, y ∈ pc.1.set :=
  View.cover_of_tiledL (runA m c t h0 h1).2.2.2.2.1 S1x512x64.size (by sl_kernel_rfl)

/-- The pieces stored in output 20 cover it. -/
theorem coverA_20 (c : Dev nD) (t : Fin cfg0.N) (h0 : t.val % 4 = 0) (h1 : ¬1 ≤ t.val % 4) :
    ∀ y, ∃ pc ∈ (runA m c t h0 h1).2.2.2.2.2.1, y ∈ pc.1.set :=
  View.cover_of_tiledL (runA m c t h0 h1).2.2.2.2.2.1 S1x1x8x128.size (by sl_kernel_rfl)

/-- The pieces stored in output 21 cover it. -/
theorem coverA_21 (c : Dev nD) (t : Fin cfg0.N) (h0 : t.val % 4 = 0) (h1 : ¬1 ≤ t.val % 4) :
    ∀ y, ∃ pc ∈ (runA m c t h0 h1).2.2.2.2.2.2.1, y ∈ pc.1.set :=
  View.cover_of_tiledL (runA m c t h0 h1).2.2.2.2.2.2.1 S1x512x1024.size (by sl_kernel_rfl)

/-- The pieces stored in output 22 cover it. -/
theorem coverA_22 (c : Dev nD) (t : Fin cfg0.N) (h0 : t.val % 4 = 0) (h1 : ¬1 ≤ t.val % 4) :
    ∀ y, ∃ pc ∈ (runA m c t h0 h1).2.2.2.2.2.2.2.1, y ∈ pc.1.set :=
  View.cover_of_tiledL (runA m c t h0 h1).2.2.2.2.2.2.2.1 S1x512x1024.size (by sl_kernel_rfl)

/-- The pieces stored in output 23 cover it. -/
theorem coverA_23 (c : Dev nD) (t : Fin cfg0.N) (h0 : t.val % 4 = 0) (h1 : ¬1 ≤ t.val % 4) :
    ∀ y, ∃ pc ∈ (runA m c t h0 h1).2.2.2.2.2.2.2.2.1, y ∈ pc.1.set :=
  View.cover_of_tiledL (runA m c t h0 h1).2.2.2.2.2.2.2.2.1 S1x512x1024.size (by sl_kernel_rfl)

/-- The pieces stored in carried scratch 0 cover it. -/
theorem coverA_scr0 (c : Dev nD) (t : Fin cfg0.N) (h0 : t.val % 4 = 0) (h1 : ¬1 ≤ t.val % 4) :
    ∀ y, ∃ pc ∈ (runA m c t h0 h1).2.2.2.2.2.2.2.2.2.1, y ∈ pc.1.set :=
  View.cover_of_tiledBy (runA m c t h0 h1).2.2.2.2.2.2.2.2.2.1 ![8, 1024] (by sl_kernel_rfl)

/-- The pieces stored in carried scratch 4 cover it. -/
theorem coverA_scr4 (c : Dev nD) (t : Fin cfg0.N) (h0 : t.val % 4 = 0) (h1 : ¬1 ≤ t.val % 4) :
    ∀ y, ∃ pc ∈ (runA m c t h0 h1).2.2.2.2.2.2.2.2.2.2.1, y ∈ pc.1.set :=
  View.cover_of_tiledL (runA m c t h0 h1).2.2.2.2.2.2.2.2.2.2.1 S8x1024.size (by sl_kernel_rfl)

/-- What the first point of a sequence leaves: the pieces of each buffer read back. -/
def outsA (c : Dev nD) (t : Fin cfg0.N) (h0 : t.val % 4 = 0) (h1 : ¬1 ≤ t.val % 4) : Outs F :=
  (VO0_15.read (Elt F) (VO0_15.writes (Elt F) VO0_15.junk (runA m c t h0 h1).1),
    VO0_16.read (Elt F) (VO0_16.writes (Elt F) VO0_16.junk (runA m c t h0 h1).2.1),
    VO0_17.read (Elt F) (VO0_17.writes (Elt F) VO0_17.junk (runA m c t h0 h1).2.2.1),
    VO0_18.read (Elt F) (VO0_18.writes (Elt F) VO0_18.junk (runA m c t h0 h1).2.2.2.1),
    VO0_19.read (Elt F) (VO0_19.writes (Elt F) VO0_19.junk (runA m c t h0 h1).2.2.2.2.1),
    VO0_20.read (Elt F) (VO0_20.writes (Elt F) VO0_20.junk (runA m c t h0 h1).2.2.2.2.2.1),
    VO0_21.read (Elt F) (VO0_21.writes (Elt F) VO0_21.junk (runA m c t h0 h1).2.2.2.2.2.2.1),
    VO0_22.read (Elt F) (VO0_22.writes (Elt F) VO0_22.junk (runA m c t h0 h1).2.2.2.2.2.2.2.1),
    VO0_23.read (Elt F) (VO0_23.writes (Elt F) VO0_23.junk (runA m c t h0 h1).2.2.2.2.2.2.2.2.1),
    VS0_0.read (Elt F) (VS0_0.writes (Elt F) VS0_0.junk (runA m c t h0 h1).2.2.2.2.2.2.2.2.2.1),
    VS0_4.read (Elt F) (VS0_4.writes (Elt F) VS0_4.junk (runA m c t h0 h1).2.2.2.2.2.2.2.2.2.2.1))

/-- The body's run at a later point of a sequence, over what the point before left in the carried scratch: the pieces that it stores in each buffer, and its triple. -/
def runB (c : Dev nD) (t : Fin cfg0.N) (h0 : ¬t.val % 4 = 0) (h1 : 1 ≤ t.val % 4) (xs0 : Vec F S520x1024 .f32) (xs4 : Vec F S8x1024 .f32) :=
  kernelRun0_B (F := F)
    c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) (ms0_14 t) (hs0_14 t)
    (ms0_15 t) (hs0_15 t) (ms0_16 t) (hs0_16 t) (ms0_17 t) (hs0_17 t) (ms0_18 t) (hs0_18 t) (ms0_19 t) (hs0_19 t)
    (ms0_20 t) (hs0_20 t) (ms0_21 t) (hs0_21 t) (ms0_22 t) (hs0_22 t) (ms0_23 t) (hs0_23 t) scM0_0
    (Memref.isWhole_whole _) scM0_1 (Memref.isWhole_whole _) scM0_2 (Memref.isWhole_whole _) scM0_3
    (Memref.isWhole_whole _) scM0_4 (Memref.isWhole_whole _) scM0_5 (Memref.isWhole_whole _) scM0_6
    (Memref.isWhole_whole _) (fun h => h0 ((hcond0_0 t).mp h)) ((hcond0_1 t).mpr h1) (iblk m c 0 t) (iblk m c 1 t)
    (iblk m c 2 t) (iblk m c 3 t) (iblk m c 4 t) (iblk m c 5 t) (iblk m c 6 t) (iblk m c 7 t) (iblk m c 8 t)
    (iblk m c 9 t) (iblk m c 10 t) (iblk m c 11 t) (iblk m c 12 t) (iblk m c 13 t) (iblk m c 14 t) xs0 xs4

/-- The pieces stored in output 15 cover it. -/
theorem coverB_15 (c : Dev nD) (t : Fin cfg0.N) (h0 : ¬t.val % 4 = 0) (h1 : 1 ≤ t.val % 4) (xs0 : Vec F S520x1024 .f32) (xs4 : Vec F S8x1024 .f32) :
    ∀ y, ∃ pc ∈ (runB m c t h0 h1 xs0 xs4).1, y ∈ pc.1.set :=
  View.cover_of_tiledL (runB m c t h0 h1 xs0 xs4).1 S1x1x128x128.size (by sl_kernel_rfl)

/-- The pieces stored in output 16 cover it. -/
theorem coverB_16 (c : Dev nD) (t : Fin cfg0.N) (h0 : ¬t.val % 4 = 0) (h1 : 1 ≤ t.val % 4) (xs0 : Vec F S520x1024 .f32) (xs4 : Vec F S8x1024 .f32) :
    ∀ y, ∃ pc ∈ (runB m c t h0 h1 xs0 xs4).2.1, y ∈ pc.1.set :=
  View.cover_of_tiledL (runB m c t h0 h1 xs0 xs4).2.1 S1x512x128.size (by sl_kernel_rfl)

/-- The pieces stored in output 17 cover it. -/
theorem coverB_17 (c : Dev nD) (t : Fin cfg0.N) (h0 : ¬t.val % 4 = 0) (h1 : 1 ≤ t.val % 4) (xs0 : Vec F S520x1024 .f32) (xs4 : Vec F S8x1024 .f32) :
    ∀ y, ∃ pc ∈ (runB m c t h0 h1 xs0 xs4).2.2.1, y ∈ pc.1.set :=
  View.cover_of_tiledL (runB m c t h0 h1 xs0 xs4).2.2.1 S1x1x128x256.size (by sl_kernel_rfl)

/-- The pieces stored in output 18 cover it. -/
theorem coverB_18 (c : Dev nD) (t : Fin cfg0.N) (h0 : ¬t.val % 4 = 0) (h1 : 1 ≤ t.val % 4) (xs0 : Vec F S520x1024 .f32) (xs4 : Vec F S8x1024 .f32) :
    ∀ y, ∃ pc ∈ (runB m c t h0 h1 xs0 xs4).2.2.2.1, y ∈ pc.1.set :=
  View.cover_of_tiledL (runB m c t h0 h1 xs0 xs4).2.2.2.1 S1x1x64x128.size (by sl_kernel_rfl)

/-- The pieces stored in output 19 cover it. -/
theorem coverB_19 (c : Dev nD) (t : Fin cfg0.N) (h0 : ¬t.val % 4 = 0) (h1 : 1 ≤ t.val % 4) (xs0 : Vec F S520x1024 .f32) (xs4 : Vec F S8x1024 .f32) :
    ∀ y, ∃ pc ∈ (runB m c t h0 h1 xs0 xs4).2.2.2.2.1, y ∈ pc.1.set :=
  View.cover_of_tiledL (runB m c t h0 h1 xs0 xs4).2.2.2.2.1 S1x512x64.size (by sl_kernel_rfl)

/-- The pieces stored in output 20 cover it. -/
theorem coverB_20 (c : Dev nD) (t : Fin cfg0.N) (h0 : ¬t.val % 4 = 0) (h1 : 1 ≤ t.val % 4) (xs0 : Vec F S520x1024 .f32) (xs4 : Vec F S8x1024 .f32) :
    ∀ y, ∃ pc ∈ (runB m c t h0 h1 xs0 xs4).2.2.2.2.2.1, y ∈ pc.1.set :=
  View.cover_of_tiledL (runB m c t h0 h1 xs0 xs4).2.2.2.2.2.1 S1x1x8x128.size (by sl_kernel_rfl)

/-- The pieces stored in output 21 cover it. -/
theorem coverB_21 (c : Dev nD) (t : Fin cfg0.N) (h0 : ¬t.val % 4 = 0) (h1 : 1 ≤ t.val % 4) (xs0 : Vec F S520x1024 .f32) (xs4 : Vec F S8x1024 .f32) :
    ∀ y, ∃ pc ∈ (runB m c t h0 h1 xs0 xs4).2.2.2.2.2.2.1, y ∈ pc.1.set :=
  View.cover_of_tiledL (runB m c t h0 h1 xs0 xs4).2.2.2.2.2.2.1 S1x512x1024.size (by sl_kernel_rfl)

/-- The pieces stored in output 22 cover it. -/
theorem coverB_22 (c : Dev nD) (t : Fin cfg0.N) (h0 : ¬t.val % 4 = 0) (h1 : 1 ≤ t.val % 4) (xs0 : Vec F S520x1024 .f32) (xs4 : Vec F S8x1024 .f32) :
    ∀ y, ∃ pc ∈ (runB m c t h0 h1 xs0 xs4).2.2.2.2.2.2.2.1, y ∈ pc.1.set :=
  View.cover_of_tiledL (runB m c t h0 h1 xs0 xs4).2.2.2.2.2.2.2.1 S1x512x1024.size (by sl_kernel_rfl)

/-- The pieces stored in output 23 cover it. -/
theorem coverB_23 (c : Dev nD) (t : Fin cfg0.N) (h0 : ¬t.val % 4 = 0) (h1 : 1 ≤ t.val % 4) (xs0 : Vec F S520x1024 .f32) (xs4 : Vec F S8x1024 .f32) :
    ∀ y, ∃ pc ∈ (runB m c t h0 h1 xs0 xs4).2.2.2.2.2.2.2.2.1, y ∈ pc.1.set :=
  View.cover_of_tiledL (runB m c t h0 h1 xs0 xs4).2.2.2.2.2.2.2.2.1 S1x512x1024.size (by sl_kernel_rfl)

/-- The pieces stored in carried scratch 0 cover it. -/
theorem coverB_scr0 (c : Dev nD) (t : Fin cfg0.N) (h0 : ¬t.val % 4 = 0) (h1 : 1 ≤ t.val % 4) (xs0 : Vec F S520x1024 .f32) (xs4 : Vec F S8x1024 .f32) :
    ∀ y, ∃ pc ∈ (runB m c t h0 h1 xs0 xs4).2.2.2.2.2.2.2.2.2.1, y ∈ pc.1.set :=
  View.cover_of_tiledBy (runB m c t h0 h1 xs0 xs4).2.2.2.2.2.2.2.2.2.1 ![8, 1024] (by sl_kernel_rfl)

/-- The pieces stored in carried scratch 4 cover it. -/
theorem coverB_scr4 (c : Dev nD) (t : Fin cfg0.N) (h0 : ¬t.val % 4 = 0) (h1 : 1 ≤ t.val % 4) (xs0 : Vec F S520x1024 .f32) (xs4 : Vec F S8x1024 .f32) :
    ∀ y, ∃ pc ∈ (runB m c t h0 h1 xs0 xs4).2.2.2.2.2.2.2.2.2.2.1, y ∈ pc.1.set :=
  View.cover_of_tiledL (runB m c t h0 h1 xs0 xs4).2.2.2.2.2.2.2.2.2.2.1 S8x1024.size (by sl_kernel_rfl)

/-- What a later point of a sequence, over what the point before left in the carried scratch leaves: the pieces of each buffer read back. -/
def outsB (c : Dev nD) (t : Fin cfg0.N) (h0 : ¬t.val % 4 = 0) (h1 : 1 ≤ t.val % 4) (xs0 : Vec F S520x1024 .f32) (xs4 : Vec F S8x1024 .f32) : Outs F :=
  (VO0_15.read (Elt F) (VO0_15.writes (Elt F) VO0_15.junk (runB m c t h0 h1 xs0 xs4).1),
    VO0_16.read (Elt F) (VO0_16.writes (Elt F) VO0_16.junk (runB m c t h0 h1 xs0 xs4).2.1),
    VO0_17.read (Elt F) (VO0_17.writes (Elt F) VO0_17.junk (runB m c t h0 h1 xs0 xs4).2.2.1),
    VO0_18.read (Elt F) (VO0_18.writes (Elt F) VO0_18.junk (runB m c t h0 h1 xs0 xs4).2.2.2.1),
    VO0_19.read (Elt F) (VO0_19.writes (Elt F) VO0_19.junk (runB m c t h0 h1 xs0 xs4).2.2.2.2.1),
    VO0_20.read (Elt F) (VO0_20.writes (Elt F) VO0_20.junk (runB m c t h0 h1 xs0 xs4).2.2.2.2.2.1),
    VO0_21.read (Elt F) (VO0_21.writes (Elt F) VO0_21.junk (runB m c t h0 h1 xs0 xs4).2.2.2.2.2.2.1),
    VO0_22.read (Elt F) (VO0_22.writes (Elt F) VO0_22.junk (runB m c t h0 h1 xs0 xs4).2.2.2.2.2.2.2.1),
    VO0_23.read (Elt F) (VO0_23.writes (Elt F) VO0_23.junk (runB m c t h0 h1 xs0 xs4).2.2.2.2.2.2.2.2.1),
    VS0_0.read (Elt F) (VS0_0.writes (Elt F) VS0_0.junk (runB m c t h0 h1 xs0 xs4).2.2.2.2.2.2.2.2.2.1),
    VS0_4.read (Elt F) (VS0_4.writes (Elt F) VS0_4.junk (runB m c t h0 h1 xs0 xs4).2.2.2.2.2.2.2.2.2.2.1))

/-- What the buffers hold after point `n`. -/
def outsAt0 (c : Dev nD) : (n : ℕ) → n < cfg0.N → Outs F
  | 0, hn => outsA m c ⟨0, hn⟩ (by simp) (by simp)
  | n + 1, hn =>
    if h0 : (n + 1) % 4 = 0 then
      outsA m c ⟨n + 1, hn⟩ h0 (by dsimp only; omega)
    else
      outsB m c ⟨n + 1, hn⟩ h0 (by dsimp only; omega)
        (outsAt0 c n (Nat.lt_of_succ_lt hn)).2.2.2.2.2.2.2.2.2.1 (outsAt0 c n (Nat.lt_of_succ_lt hn)).2.2.2.2.2.2.2.2.2.2

theorem outsAt0_A (c : Dev nD) (t : Fin cfg0.N) (h0 : t.val % 4 = 0) (h1 : ¬1 ≤ t.val % 4) :
    outsAt0 m c t.val t.isLt = outsA m c t h0 h1 := by
  obtain ⟨n, hn⟩ := t
  cases n with
  | zero => exact rfl
  | succ n => exact (dif_pos h0).trans rfl

theorem outsAt0_B (c : Dev nD) (t : Fin cfg0.N) (h0 : ¬t.val % 4 = 0) (h1 : 1 ≤ t.val % 4) :
    outsAt0 m c t.val t.isLt = outsB m c t h0 h1
      (outsAt0 m c (t.val - 1) (Nat.lt_of_le_of_lt (Nat.sub_le _ _) t.isLt)).2.2.2.2.2.2.2.2.2.1
      (outsAt0 m c (t.val - 1) (Nat.lt_of_le_of_lt (Nat.sub_le _ _) t.isLt)).2.2.2.2.2.2.2.2.2.2 := by
  obtain ⟨n, hn⟩ := t
  cases n with
  | zero => exact absurd (Nat.zero_mod _) h0
  | succ n => exact (dif_neg h0).trans rfl

end Cert.Layer.Body

end
-- ==== Proof.BodyDat.lean ====
/-
  The proof data of the idealized kernel's pipeline: the invariant between grid points, what each window holds before and
  after the body, and the body's pre- and postcondition.
-/
module

public import proofs.«01_k».proof.Proof.BodyRuns
public import Idealize.ShloMosaic.Lib.Claim

@[expose] public section

set_option maxRecDepth 16384

noncomputable section

namespace Cert.Layer.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2.2.1) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare ((outsAt0 m c n hn).2.2.2.2.2.2.2.2.2.2) ∗ (∃ d, owns (c : Thread nD τ) scM0_5 fullShare d) ∗ (∃ d, owns (c : Thread nD τ) scM0_6 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2.2.2.1) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare ((outsAt0 m c n hn).2.2.2.2.2.2.2.2.2.2) ∗ (∃ d, owns (c : Thread nD τ) scM0_5 fullShare d) ∗ (∃ d, owns (c : Thread nD τ) scM0_6 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.2.1) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare ((outsAt0 m c (n - 1) (by omega)).2.2.2.2.2.2.2.2.2.2) ∗ (∃ d, owns (c : Thread nD τ) scM0_5 fullShare d) ∗ (∃ d, owns (c : Thread nD τ) scM0_6 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (outsAt0 m c t.val t.isLt).1
    | ⟨16, _⟩ => (outsAt0 m c t.val t.isLt).2.1
    | ⟨17, _⟩ => (outsAt0 m c t.val t.isLt).2.2.1
    | ⟨18, _⟩ => (outsAt0 m c t.val t.isLt).2.2.2.1
    | ⟨19, _⟩ => (outsAt0 m c t.val t.isLt).2.2.2.2.1
    | ⟨20, _⟩ => (outsAt0 m c t.val t.isLt).2.2.2.2.2.1
    | ⟨21, _⟩ => (outsAt0 m c t.val t.isLt).2.2.2.2.2.2.1
    | ⟨22, _⟩ => (outsAt0 m c t.val t.isLt).2.2.2.2.2.2.2.1
    | ⟨23, _⟩ => (outsAt0 m c t.val t.isLt).2.2.2.2.2.2.2.2.1
    | ⟨_ + 24, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = (outsAt0 m c t.val t.isLt).1 := by dsimp only [dats]
theorem after0_16 (c : Dev nD) (t : Fin cfg0.N) : (dats m 0 c).after 16 t = (outsAt0 m c t.val t.isLt).2.1 := by dsimp only [dats]
theorem after0_17 (c : Dev nD) (t : Fin cfg0.N) : (dats m 0 c).after 17 t = (outsAt0 m c t.val t.isLt).2.2.1 := by dsimp only [dats]
theorem after0_18 (c : Dev nD) (t : Fin cfg0.N) : (dats m 0 c).after 18 t = (outsAt0 m c t.val t.isLt).2.2.2.1 := by dsimp only [dats]
theorem after0_19 (c : Dev nD) (t : Fin cfg0.N) : (dats m 0 c).after 19 t = (outsAt0 m c t.val t.isLt).2.2.2.2.1 := by dsimp only [dats]
theorem after0_20 (c : Dev nD) (t : Fin cfg0.N) : (dats m 0 c).after 20 t = (outsAt0 m c t.val t.isLt).2.2.2.2.2.1 := by dsimp only [dats]
theorem after0_21 (c : Dev nD) (t : Fin cfg0.N) : (dats m 0 c).after 21 t = (outsAt0 m c t.val t.isLt).2.2.2.2.2.2.1 := by dsimp only [dats]
theorem after0_22 (c : Dev nD) (t : Fin cfg0.N) : (dats m 0 c).after 22 t = (outsAt0 m c t.val t.isLt).2.2.2.2.2.2.2.1 := by dsimp only [dats]
theorem after0_23 (c : Dev nD) (t : Fin cfg0.N) : (dats m 0 c).after 23 t = (outsAt0 m c t.val t.isLt).2.2.2.2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t))

/-- The body's precondition with another invariant `I` in place of the pipeline's. -/
def bodyPreOf (I : sProp 𝕄) (c : Dev nD) (t : Fin cfg0.N) : sProp 𝕄 :=
  iprop(I ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d)))

end Cert.Layer.Body

end
-- ==== Proof.BodyOuts.lean ====
/-
  The contents that a grid point leaves in each buffer, one equation for each.
-/
module

public import proofs.«01_k».proof.Proof.BodyRuns

@[expose] public section

set_option maxRecDepth 16384

noncomputable section

namespace Cert.Layer.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

attribute [local irreducible] runA runB kernelRun0_A kernelRun0_B

theorem outsA_15 (c : Dev nD) (t : Fin cfg0.N) (h0 : t.val % 4 = 0) (h1 : ¬1 ≤ t.val % 4) : (outsA m c t h0 h1).1
    = VO0_15.read (Elt F) (VO0_15.writes (Elt F) VO0_15.junk (runA m c t h0 h1).1) := by
  delta outsA
  exact Eq.refl _

theorem outsA_16 (c : Dev nD) (t : Fin cfg0.N) (h0 : t.val % 4 = 0) (h1 : ¬1 ≤ t.val % 4) : (outsA m c t h0 h1).2.1
    = VO0_16.read (Elt F) (VO0_16.writes (Elt F) VO0_16.junk (runA m c t h0 h1).2.1) := by
  delta outsA
  exact Eq.refl _

theorem outsA_17 (c : Dev nD) (t : Fin cfg0.N) (h0 : t.val % 4 = 0) (h1 : ¬1 ≤ t.val % 4) : (outsA m c t h0 h1).2.2.1
    = VO0_17.read (Elt F) (VO0_17.writes (Elt F) VO0_17.junk (runA m c t h0 h1).2.2.1) := by
  delta outsA
  exact Eq.refl _

theorem outsA_18 (c : Dev nD) (t : Fin cfg0.N) (h0 : t.val % 4 = 0) (h1 : ¬1 ≤ t.val % 4) : (outsA m c t h0 h1).2.2.2.1
    = VO0_18.read (Elt F) (VO0_18.writes (Elt F) VO0_18.junk (runA m c t h0 h1).2.2.2.1) := by
  delta outsA
  exact Eq.refl _

theorem outsA_19 (c : Dev nD) (t : Fin cfg0.N) (h0 : t.val % 4 = 0) (h1 : ¬1 ≤ t.val % 4) : (outsA m c t h0 h1).2.2.2.2.1
    = VO0_19.read (Elt F) (VO0_19.writes (Elt F) VO0_19.junk (runA m c t h0 h1).2.2.2.2.1) := by
  delta outsA
  exact Eq.refl _

theorem outsA_20 (c : Dev nD) (t : Fin cfg0.N) (h0 : t.val % 4 = 0) (h1 : ¬1 ≤ t.val % 4) : (outsA m c t h0 h1).2.2.2.2.2.1
    = VO0_20.read (Elt F) (VO0_20.writes (Elt F) VO0_20.junk (runA m c t h0 h1).2.2.2.2.2.1) := by
  delta outsA
  exact Eq.refl _

theorem outsA_21 (c : Dev nD) (t : Fin cfg0.N) (h0 : t.val % 4 = 0) (h1 : ¬1 ≤ t.val % 4) : (outsA m c t h0 h1).2.2.2.2.2.2.1
    = VO0_21.read (Elt F) (VO0_21.writes (Elt F) VO0_21.junk (runA m c t h0 h1).2.2.2.2.2.2.1) := by
  delta outsA
  exact Eq.refl _

theorem outsA_22 (c : Dev nD) (t : Fin cfg0.N) (h0 : t.val % 4 = 0) (h1 : ¬1 ≤ t.val % 4) : (outsA m c t h0 h1).2.2.2.2.2.2.2.1
    = VO0_22.read (Elt F) (VO0_22.writes (Elt F) VO0_22.junk (runA m c t h0 h1).2.2.2.2.2.2.2.1) := by
  delta outsA
  exact Eq.refl _

theorem outsA_23 (c : Dev nD) (t : Fin cfg0.N) (h0 : t.val % 4 = 0) (h1 : ¬1 ≤ t.val % 4) : (outsA m c t h0 h1).2.2.2.2.2.2.2.2.1
    = VO0_23.read (Elt F) (VO0_23.writes (Elt F) VO0_23.junk (runA m c t h0 h1).2.2.2.2.2.2.2.2.1) := by
  delta outsA
  exact Eq.refl _

theorem outsA_scr0 (c : Dev nD) (t : Fin cfg0.N) (h0 : t.val % 4 = 0) (h1 : ¬1 ≤ t.val % 4) : (outsA m c t h0 h1).2.2.2.2.2.2.2.2.2.1
    = VS0_0.read (Elt F) (VS0_0.writes (Elt F) VS0_0.junk (runA m c t h0 h1).2.2.2.2.2.2.2.2.2.1) := by
  delta outsA
  exact Eq.refl _

theorem outsA_scr4 (c : Dev nD) (t : Fin cfg0.N) (h0 : t.val % 4 = 0) (h1 : ¬1 ≤ t.val % 4) : (outsA m c t h0 h1).2.2.2.2.2.2.2.2.2.2
    = VS0_4.read (Elt F) (VS0_4.writes (Elt F) VS0_4.junk (runA m c t h0 h1).2.2.2.2.2.2.2.2.2.2.1) := by
  delta outsA
  exact Eq.refl _

theorem outsB_15 (c : Dev nD) (t : Fin cfg0.N) (h0 : ¬t.val % 4 = 0) (h1 : 1 ≤ t.val % 4) (xs0 : Vec F S520x1024 .f32) (xs4 : Vec F S8x1024 .f32) : (outsB m c t h0 h1 xs0 xs4).1
    = VO0_15.read (Elt F) (VO0_15.writes (Elt F) VO0_15.junk (runB m c t h0 h1 xs0 xs4).1) := by
  delta outsB
  exact Eq.refl _

theorem outsB_16 (c : Dev nD) (t : Fin cfg0.N) (h0 : ¬t.val % 4 = 0) (h1 : 1 ≤ t.val % 4) (xs0 : Vec F S520x1024 .f32) (xs4 : Vec F S8x1024 .f32) : (outsB m c t h0 h1 xs0 xs4).2.1
    = VO0_16.read (Elt F) (VO0_16.writes (Elt F) VO0_16.junk (runB m c t h0 h1 xs0 xs4).2.1) := by
  delta outsB
  exact Eq.refl _

theorem outsB_17 (c : Dev nD) (t : Fin cfg0.N) (h0 : ¬t.val % 4 = 0) (h1 : 1 ≤ t.val % 4) (xs0 : Vec F S520x1024 .f32) (xs4 : Vec F S8x1024 .f32) : (outsB m c t h0 h1 xs0 xs4).2.2.1
    = VO0_17.read (Elt F) (VO0_17.writes (Elt F) VO0_17.junk (runB m c t h0 h1 xs0 xs4).2.2.1) := by
  delta outsB
  exact Eq.refl _

theorem outsB_18 (c : Dev nD) (t : Fin cfg0.N) (h0 : ¬t.val % 4 = 0) (h1 : 1 ≤ t.val % 4) (xs0 : Vec F S520x1024 .f32) (xs4 : Vec F S8x1024 .f32) : (outsB m c t h0 h1 xs0 xs4).2.2.2.1
    = VO0_18.read (Elt F) (VO0_18.writes (Elt F) VO0_18.junk (runB m c t h0 h1 xs0 xs4).2.2.2.1) := by
  delta outsB
  exact Eq.refl _

theorem outsB_19 (c : Dev nD) (t : Fin cfg0.N) (h0 : ¬t.val % 4 = 0) (h1 : 1 ≤ t.val % 4) (xs0 : Vec F S520x1024 .f32) (xs4 : Vec F S8x1024 .f32) : (outsB m c t h0 h1 xs0 xs4).2.2.2.2.1
    = VO0_19.read (Elt F) (VO0_19.writes (Elt F) VO0_19.junk (runB m c t h0 h1 xs0 xs4).2.2.2.2.1) := by
  delta outsB
  exact Eq.refl _

theorem outsB_20 (c : Dev nD) (t : Fin cfg0.N) (h0 : ¬t.val % 4 = 0) (h1 : 1 ≤ t.val % 4) (xs0 : Vec F S520x1024 .f32) (xs4 : Vec F S8x1024 .f32) : (outsB m c t h0 h1 xs0 xs4).2.2.2.2.2.1
    = VO0_20.read (Elt F) (VO0_20.writes (Elt F) VO0_20.junk (runB m c t h0 h1 xs0 xs4).2.2.2.2.2.1) := by
  delta outsB
  exact Eq.refl _

theorem outsB_21 (c : Dev nD) (t : Fin cfg0.N) (h0 : ¬t.val % 4 = 0) (h1 : 1 ≤ t.val % 4) (xs0 : Vec F S520x1024 .f32) (xs4 : Vec F S8x1024 .f32) : (outsB m c t h0 h1 xs0 xs4).2.2.2.2.2.2.1
    = VO0_21.read (Elt F) (VO0_21.writes (Elt F) VO0_21.junk (runB m c t h0 h1 xs0 xs4).2.2.2.2.2.2.1) := by
  delta outsB
  exact Eq.refl _

theorem outsB_22 (c : Dev nD) (t : Fin cfg0.N) (h0 : ¬t.val % 4 = 0) (h1 : 1 ≤ t.val % 4) (xs0 : Vec F S520x1024 .f32) (xs4 : Vec F S8x1024 .f32) : (outsB m c t h0 h1 xs0 xs4).2.2.2.2.2.2.2.1
    = VO0_22.read (Elt F) (VO0_22.writes (Elt F) VO0_22.junk (runB m c t h0 h1 xs0 xs4).2.2.2.2.2.2.2.1) := by
  delta outsB
  exact Eq.refl _

theorem outsB_23 (c : Dev nD) (t : Fin cfg0.N) (h0 : ¬t.val % 4 = 0) (h1 : 1 ≤ t.val % 4) (xs0 : Vec F S520x1024 .f32) (xs4 : Vec F S8x1024 .f32) : (outsB m c t h0 h1 xs0 xs4).2.2.2.2.2.2.2.2.1
    = VO0_23.read (Elt F) (VO0_23.writes (Elt F) VO0_23.junk (runB m c t h0 h1 xs0 xs4).2.2.2.2.2.2.2.2.1) := by
  delta outsB
  exact Eq.refl _

theorem outsB_scr0 (c : Dev nD) (t : Fin cfg0.N) (h0 : ¬t.val % 4 = 0) (h1 : 1 ≤ t.val % 4) (xs0 : Vec F S520x1024 .f32) (xs4 : Vec F S8x1024 .f32) : (outsB m c t h0 h1 xs0 xs4).2.2.2.2.2.2.2.2.2.1
    = VS0_0.read (Elt F) (VS0_0.writes (Elt F) VS0_0.junk (runB m c t h0 h1 xs0 xs4).2.2.2.2.2.2.2.2.2.1) := by
  delta outsB
  exact Eq.refl _

theorem outsB_scr4 (c : Dev nD) (t : Fin cfg0.N) (h0 : ¬t.val % 4 = 0) (h1 : 1 ≤ t.val % 4) (xs0 : Vec F S520x1024 .f32) (xs4 : Vec F S8x1024 .f32) : (outsB m c t h0 h1 xs0 xs4).2.2.2.2.2.2.2.2.2.2
    = VS0_4.read (Elt F) (VS0_4.writes (Elt F) VS0_4.junk (runB m c t h0 h1 xs0 xs4).2.2.2.2.2.2.2.2.2.2.1) := by
  delta outsB
  exact Eq.refl _

end Cert.Layer.Body

end
-- ==== Proof.BodyA.lean ====
/-
  The idealized kernel's body at the first point of a sequence, where the carried scratch may hold anything.
-/
module

public import proofs.«01_k».proof.Proof.BodyDat
public import proofs.«01_k».proof.Proof.BodyOuts

@[expose] public section

set_option maxRecDepth 16384

noncomputable section

namespace Cert.Layer.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

attribute [local irreducible] runA runB outsA outsB outsAt0 kernelRun0_A kernelRun0_B

set_option maxHeartbeats 22400000 in
/-- The body at the first point of a sequence: the carried scratch may hold anything. -/
theorem sound_A (c : Dev nD) (t : Fin cfg0.N) (h0 : t.val % 4 = 0) (h1 : ¬1 ≤ t.val % 4) :
    bodyPreOf m (Pipeline.ΦA spec0 c) c t
      ⊢ wp frame (wpE (defs₀ (F := F)) Variants.none c none) Set.univ (bodyAt0 t) (fun _ => bodyPost m c t) := by
  unfold bodyPreOf bodyPost bodyAt0
  simp only [before0_0, before0_1, before0_2, before0_3, before0_4, before0_5, before0_6, before0_7, before0_8, before0_9, before0_10, before0_11, before0_12, before0_13, before0_14]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  rw [show (dats m 0 c).Φ t.succ = PhiS m c (t.val + 1) t.isLt from rfl, PhiS_succ, outsAt0_A m c t h0 h1]
  rw [PhiA0_eq]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply ((runA m c t h0 h1).2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, H12, H13, H14, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%es0, HS0⟩, ⟨%fT1, HS1⟩, ⟨%fT2, HS2⟩, ⟨%fT3, HS3⟩, ⟨%es4, HS4⟩, ⟨%fT5, HS5⟩, ⟨%fT6, HS6⟩⟩
  isplitl [HS0 HS1 HS2 HS3 HS4 HS5 HS6 Hg]
  · isplitl [HS0 HS1 HS2 HS3 HS4 HS5 HS6]
    · isplitl [HS0]
      · unfold owns; iexists _; isplitr
        swap; · iexact HS0
        ipureintro; exact (View.read_writes_of_cover _ _ _ _ _ (coverA_scr0 m c t h0 h1)).trans (outsA_scr0 m c t h0 h1).symm
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · unfold owns; iexists _; isplitr
        swap; · iexact HS4
        ipureintro; exact (View.read_writes_of_cover _ _ _ _ _ (coverA_scr4 m c t h0 h1)).trans (outsA_scr4 m c t h0 h1).symm
      isplitl [HS5]
      · iexists _; unfold owns; iexists _; isplitr
        swap; · iexact HS5
        ipureintro; rfl
      iexists _; unfold owns; iexists _; isplitr
      swap; · iexact HS6
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]
  · unfold owns; iexists _; isplitr
    swap; · iexact H15
    ipureintro; exact (View.read_writes_of_cover _ _ _ _ _ (coverA_15 m c t h0 h1)).trans (outsA_15 m c t h0 h1).symm
  isplitl [H16]
  · unfold owns; iexists _; isplitr
    swap; · iexact H16
    ipureintro; exact (View.read_writes_of_cover _ _ _ _ _ (coverA_16 m c t h0 h1)).trans (outsA_16 m c t h0 h1).symm
  isplitl [H17]
  · unfold owns; iexists _; isplitr
    swap; · iexact H17
    ipureintro; exact (View.read_writes_of_cover _ _ _ _ _ (coverA_17 m c t h0 h1)).trans (outsA_17 m c t h0 h1).symm
  isplitl [H18]
  · unfold owns; iexists _; isplitr
    swap; · iexact H18
    ipureintro; exact (View.read_writes_of_cover _ _ _ _ _ (coverA_18 m c t h0 h1)).trans (outsA_18 m c t h0 h1).symm
  isplitl [H19]
  · unfold owns; iexists _; isplitr
    swap; · iexact H19
    ipureintro; exact (View.read_writes_of_cover _ _ _ _ _ (coverA_19 m c t h0 h1)).trans (outsA_19 m c t h0 h1).symm
  isplitl [H20]
  · unfold owns; iexists _; isplitr
    swap; · iexact H20
    ipureintro; exact (View.read_writes_of_cover _ _ _ _ _ (coverA_20 m c t h0 h1)).trans (outsA_20 m c t h0 h1).symm
  isplitl [H21]
  · unfold owns; iexists _; isplitr
    swap; · iexact H21
    ipureintro; exact (View.read_writes_of_cover _ _ _ _ _ (coverA_21 m c t h0 h1)).trans (outsA_21 m c t h0 h1).symm
  isplitl [H22]
  · unfold owns; iexists _; isplitr
    swap; · iexact H22
    ipureintro; exact (View.read_writes_of_cover _ _ _ _ _ (coverA_22 m c t h0 h1)).trans (outsA_22 m c t h0 h1).symm
  unfold owns; iexists _; isplitr
  swap; · iexact H23
  ipureintro; exact (View.read_writes_of_cover _ _ _ _ _ (coverA_23 m c t h0 h1)).trans (outsA_23 m c t h0 h1).symm

end Cert.Layer.Body

end
-- ==== Proof.BodyB.lean ====
/-
  The idealized kernel's body at a later point of a sequence, over what the point before left in the carried scratch.
-/
module

public import proofs.«01_k».proof.Proof.BodyDat
public import proofs.«01_k».proof.Proof.BodyOuts

@[expose] public section

set_option maxRecDepth 16384

noncomputable section

namespace Cert.Layer.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

attribute [local irreducible] runA runB outsA outsB outsAt0 kernelRun0_A kernelRun0_B

set_option maxHeartbeats 22400000 in
/-- The body at a later point: the carried scratch holds what the point before left. -/
theorem sound_B (c : Dev nD) (t : Fin cfg0.N) (h0 : ¬t.val % 4 = 0) (h1 : 1 ≤ t.val % 4) :
    bodyPreOf m ((dats m 0 c).Φ t.castSucc) c t
      ⊢ wp frame (wpE (defs₀ (F := F)) Variants.none c none) Set.univ (bodyAt0 t) (fun _ => bodyPost m c t) := by
  unfold bodyPreOf bodyPost bodyAt0
  simp only [before0_0, before0_1, before0_2, before0_3, before0_4, before0_5, before0_6, before0_7, before0_8, before0_9, before0_10, before0_11, before0_12, before0_13, before0_14]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  rw [show (dats m 0 c).Φ t.succ = PhiS m c (t.val + 1) t.isLt from rfl, PhiS_succ, outsAt0_B m c t h0 h1]
  rw [PhiS_castSucc m c t, PhiS_pos m c _ _ (by rintro h; rw [h] at h0; exact h0 rfl)]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply ((runB m c t h0 h1 _ _).2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, H12, H13, H14, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%es0, HS0⟩, ⟨%fT1, HS1⟩, ⟨%fT2, HS2⟩, ⟨%fT3, HS3⟩, ⟨%es4, HS4⟩, ⟨%fT5, HS5⟩, ⟨%fT6, HS6⟩⟩
  isplitl [HS0 HS1 HS2 HS3 HS4 HS5 HS6 Hg]
  · isplitl [HS0 HS1 HS2 HS3 HS4 HS5 HS6]
    · isplitl [HS0]
      · unfold owns; iexists _; isplitr
        swap; · iexact HS0
        ipureintro; exact (View.read_writes_of_cover _ _ _ _ _ (coverB_scr0 m c t h0 h1 _ _)).trans (outsB_scr0 m c t h0 h1 _ _).symm
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · unfold owns; iexists _; isplitr
        swap; · iexact HS4
        ipureintro; exact (View.read_writes_of_cover _ _ _ _ _ (coverB_scr4 m c t h0 h1 _ _)).trans (outsB_scr4 m c t h0 h1 _ _).symm
      isplitl [HS5]
      · iexists _; unfold owns; iexists _; isplitr
        swap; · iexact HS5
        ipureintro; rfl
      iexists _; unfold owns; iexists _; isplitr
      swap; · iexact HS6
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]
  · unfold owns; iexists _; isplitr
    swap; · iexact H15
    ipureintro; exact (View.read_writes_of_cover _ _ _ _ _ (coverB_15 m c t h0 h1 _ _)).trans (outsB_15 m c t h0 h1 _ _).symm
  isplitl [H16]
  · unfold owns; iexists _; isplitr
    swap; · iexact H16
    ipureintro; exact (View.read_writes_of_cover _ _ _ _ _ (coverB_16 m c t h0 h1 _ _)).trans (outsB_16 m c t h0 h1 _ _).symm
  isplitl [H17]
  · unfold owns; iexists _; isplitr
    swap; · iexact H17
    ipureintro; exact (View.read_writes_of_cover _ _ _ _ _ (coverB_17 m c t h0 h1 _ _)).trans (outsB_17 m c t h0 h1 _ _).symm
  isplitl [H18]
  · unfold owns; iexists _; isplitr
    swap; · iexact H18
    ipureintro; exact (View.read_writes_of_cover _ _ _ _ _ (coverB_18 m c t h0 h1 _ _)).trans (outsB_18 m c t h0 h1 _ _).symm
  isplitl [H19]
  · unfold owns; iexists _; isplitr
    swap; · iexact H19
    ipureintro; exact (View.read_writes_of_cover _ _ _ _ _ (coverB_19 m c t h0 h1 _ _)).trans (outsB_19 m c t h0 h1 _ _).symm
  isplitl [H20]
  · unfold owns; iexists _; isplitr
    swap; · iexact H20
    ipureintro; exact (View.read_writes_of_cover _ _ _ _ _ (coverB_20 m c t h0 h1 _ _)).trans (outsB_20 m c t h0 h1 _ _).symm
  isplitl [H21]
  · unfold owns; iexists _; isplitr
    swap; · iexact H21
    ipureintro; exact (View.read_writes_of_cover _ _ _ _ _ (coverB_21 m c t h0 h1 _ _)).trans (outsB_21 m c t h0 h1 _ _).symm
  isplitl [H22]
  · unfold owns; iexists _; isplitr
    swap; · iexact H22
    ipureintro; exact (View.read_writes_of_cover _ _ _ _ _ (coverB_22 m c t h0 h1 _ _)).trans (outsB_22 m c t h0 h1 _ _).symm
  unfold owns; iexists _; isplitr
  swap; · iexact H23
  ipureintro; exact (View.read_writes_of_cover _ _ _ _ _ (coverB_23 m c t h0 h1 _ _)).trans (outsB_23 m c t h0 h1 _ _).symm

end Cert.Layer.Body

end
-- ==== Proof.BodyFrame.lean ====
/-
  The frame of the idealized kernel: its body at every grid point, and the run of the whole program, which leaves in each
  array what the points' write-backs put there.
-/
module

public import proofs.«01_k».proof.Proof.BodyA
public import proofs.«01_k».proof.Proof.BodyB
public import Idealize.ShloMosaic.Lib.Claim

@[expose] public section

set_option maxRecDepth 16384

noncomputable section

namespace Cert.Layer.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6⟩, Hg⟩
  isplitl [HS0 HS1 HS2 HS3 HS4 HS5 HS6]
  · isplitl [HS0]
    · iexists _; iexact HS0
    isplitl [HS1]
    · iexact HS1
    isplitl [HS2]
    · iexact HS2
    isplitl [HS3]
    · iexact HS3
    isplitl [HS4]
    · iexists _; iexact HS4
    isplitl [HS5]
    · iexact HS5
    iexact HS6
  iexact Hg
/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · have h1 : ¬1 ≤ t.val % 4 := by omega
    refine BIBase.Entails.trans ?_ (sound_A m c t h0 h1)
    refine sep_mono_left ?_
    by_cases hz : t.val = 0
    · rw [PhiS_castSucc m c t, PhiS_zero m c _ _ hz]
    · exact Phi_out m c t.castSucc hz
  · exact sound_B m c t h0 (by omega)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _
/-- The same after the last point. -/
theorem hout (c : Dev nD) : (dats m 0 c).Φ (Fin.last cfg0.N) ⊢ Pipeline.ΦA spec0 c :=
  Phi_out m c _ (by rw [Fin.val_last]; have : cfg0.N = 128 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.Layer.Body

end
-- ==== Proof.Step.lean ====
/-
  One grid point of the kernel's body as a function of the blocks it reads: the pieces that the body stores in each
  buffer, written once, with recursions where the kernel's loops are unrolled.
-/
module

public import proofs.«01_k».proof.Proof.BodyRuns

@[expose] public section

set_option maxRecDepth 16384

noncomputable section

namespace Cert.Layer.Body

open Cert.KernelIdeal Cert.KernelIdeal.Gen
open Idealize.ShloMosaic Idealize.ShloMosaic.TcCoe Idealize.ShloMosaic.Tactic
open Idealize.ShloMosaic.Pipeline (Dat Cfg Window BodyObligation cellOf)

variable {F : FTy → Type} [FloatOps F] [Named F]

/-! ## Rectangles -/

theorem inb2 {a b : ℕ} {s : Shape} (hr : s = ⟨2, ![a, b]⟩) (o p c d : ℕ) (h : o + c ≤ a) (h' : p + d ≤ b) :
    ∀ k, (![o, p] : Fin 2 → ℕ) k + (⟨2, ![c, d]⟩ : Shape).size k ≤ (⟨2, ![a, b]⟩ : Shape).size k := by
  intro k
  fin_cases k
  · exact h
  · exact h'

theorem inb_cols (b : ℕ) : ∀ k, (![0, 256 * (b % 4)] : Fin 2 → ℕ) k + S512x256.size k ≤ S512x1024.size k :=
  inb2 rfl 0 _ 512 256 (by omega) (by omega)

theorem inb_row (b k : ℕ) : ∀ a, (![k % 4, 256 * (b % 4)] : Fin 2 → ℕ) a + S1x256.size a ≤ S4x1024.size a :=
  inb2 rfl _ _ 1 256 (by omega) (by omega)

theorem inb_bias (b : ℕ) : ∀ a, (![0, 256 * (b % 4)] : Fin 2 → ℕ) a + S1x256.size a ≤ S1x1024.size a :=
  inb2 rfl _ _ 1 256 (by omega) (by omega)

theorem inb_ext (b k : ℕ) : ∀ a, (![5 + k % 4, 256 * (b % 4)] : Fin 2 → ℕ) a + S512x256.size a ≤ S520x1024.size a :=
  inb2 rfl _ _ 512 256 (by omega) (by omega)

theorem inb_grp (n : ℕ) : ∀ a, (![8 * (n % 64), 0] : Fin 2 → ℕ) a + S8x1024.size a ≤ S512x1024.size a :=
  inb2 rfl _ _ 8 1024 (by omega) (by omega)

theorem inb_gate (b : ℕ) : ∀ a, (![b % 8, 0, 0] : Fin 3 → ℕ) a + S1x128x256.size a ≤ S8x128x256.size a := by
  intro a
  have := Nat.mod_lt b (show 0 < 8 by omega)
  fin_cases a
  · show b % 8 + 1 ≤ 8; omega
  · show 0 + 128 ≤ 128; omega
  · show 0 + 256 ≤ 256; omega

/-! ## The scan's group of eight rows -/

/-- Eight rows of the recurrence, from the rows' factors, their inputs and the value before the first row. -/
def grp (av bv hp : FVec F S8x1024 .f32) : FVec F S8x1024 .f32 :=
  have row : IVec S8x1024 32 := iota .tc S8x1024 32 [0] iota_S8x1024_d0_w32
  have one : FVec F S8x1024 .f32 := broadcast S8x1024 (Scalar.ofBits .f32 0x3F800000#32)
  have zero : FVec F S8x1024 .f32 := broadcast S8x1024 (Scalar.ofBits .f32 0x00000000#32)
  have s1 (d : BitVec 32) (v w : FVec F S8x1024 .f32) : FVec F S8x1024 .f32 :=
    select (cmpi .sge row (broadcast S8x1024 d)) (dynamicRotate 0 d none v rotates_S8x1024_d0) w
  have b1 := addf (mulf av (s1 1#32 bv zero)) bv
  have a1 := mulf av (s1 1#32 av one)
  have b2 := addf (mulf a1 (s1 2#32 b1 zero)) b1
  have a2 := mulf a1 (s1 2#32 a1 one)
  have b4 := addf (mulf a2 (s1 4#32 b2 zero)) b2
  have a4 := mulf a2 (s1 4#32 a2 one)
  addf (mulf a4 hp) b4

/-- The last of eight rows, in all eight. -/
def last8 (hv : FVec F S8x1024 .f32) : FVec F S8x1024 .f32 :=
  broadcastTo S8x1024 (shapeCast S1x1024 (extractStridedSlice S1x1024 ![7, 0] hv slices_S8x1024_o7_0_S1x1024)
    shapeCasts_S1x1024_S1x1024) broadcasts_S1x1024_S8x1024

theorem slices_lq (q h : ℕ) : S2048x512.Slices ![128 * (h % 16), 128 * (q % 4)] S128x128 :=
  ⟨rfl, fun a => by
    fin_cases a
    · show 128 * (h % 16) + 128 ≤ 2048; omega
    · show 128 * (q % 4) + 128 ≤ 512; omega⟩

theorem slices_qi (q h : ℕ) : S512x512.Slices ![64 * (h % 8), 128 * (q % 4)] S64x128 :=
  ⟨rfl, fun a => by
    fin_cases a
    · show 64 * (h % 8) + 64 ≤ 512; omega
    · show 128 * (q % 4) + 128 ≤ 512; omega⟩

theorem slices_ct (q : ℕ) : S128x512.Slices ![0, 256 * (q % 2)] S128x256 :=
  ⟨rfl, fun a => by
    fin_cases a
    · show 0 + 128 ≤ 128; omega
    · show 256 * (q % 2) + 256 ≤ 512; omega⟩

theorem slices_wt (q : ℕ) : S8x512.Slices ![0, 128 * (q % 4)] S8x128 :=
  ⟨rfl, fun a => by
    fin_cases a
    · show 0 + 8 ≤ 8; omega
    · show 128 * (q % 4) + 128 ≤ 512; omega⟩

theorem slices_q (p : ℕ) : S512x1024.Slices ![0, 128 * (p % 8)] S512x128 :=
  ⟨rfl, fun a => by
    fin_cases a
    · show 0 + 512 ≤ 512; omega
    · show 128 * (p % 8) + 128 ≤ 1024; omega⟩

theorem inb4 {a b c d : ℕ} (o p q r a' b' c' d' : ℕ) (h0 : o + a' ≤ a) (h1 : p + b' ≤ b) (h2 : q + c' ≤ c)
    (h3 : r + d' ≤ d) : ∀ k, (![o, p, q, r] : Fin 4 → ℕ) k + (⟨4, ![a', b', c', d']⟩ : Shape).size k
      ≤ (⟨4, ![a, b, c, d]⟩ : Shape).size k := by
  intro k
  fin_cases k
  · exact h0
  · exact h1
  · exact h2
  · exact h3

theorem inb_lq (q h : ℕ) :
    ∀ k, (![0, q % 4, 0, 128 * (h % 16)] : Fin 4 → ℕ) k + S1x1x128x128.size k ≤ S1x4x128x2048.size k :=
  inb4 0 _ 0 _ 1 1 128 128 (by omega) (by omega) (by omega) (by omega)

theorem inb_qi (q h : ℕ) :
    ∀ k, (![0, q % 4, 0, 128 * (h % 8)] : Fin 4 → ℕ) k + S1x1x64x128.size k ≤ S1x4x64x1024.size k :=
  inb4 0 _ 0 _ 1 1 64 128 (by omega) (by omega) (by omega) (by omega)

theorem inb_ct (q : ℕ) :
    ∀ k, (![0, q % 2, 0, 0] : Fin 4 → ℕ) k + S1x1x128x256.size k ≤ S1x2x128x256.size k :=
  inb4 0 _ 0 _ 1 1 128 256 (by omega) (by omega) (by omega) (by omega)

theorem inb_wt (q : ℕ) :
    ∀ k, (![0, q % 4, 0, 0] : Fin 4 → ℕ) k + S1x1x8x128.size k ≤ S1x4x8x128.size k :=
  inb4 0 _ 0 _ 1 1 8 128 (by omega) (by omega) (by omega) (by omega)

/-! ## Loads -/

/-- What a load through a rectangle of a whole buffer with contents `x` reads. -/
def ldOf {s : Shape} {e : EltTy} (M : Memref sig .tc .vmem s e) (hM : M.IsWhole) (x : Vec F s e) (r : Rect s) :
    r.shape.Idx → Elt F e :=
  View.readAt (Elt F) M.view r.toLoadRect (hM.unread x)

theorem ldOf_apply {s : Shape} {e : EltTy} (M : Memref sig .tc .vmem s e) (hM : M.IsWhole) (x : Vec F s e) (r : Rect s)
    (y : r.shape.Idx) : ldOf M hM x r y = x (r.idx y) := by
  unfold ldOf
  rw [View.readAt_eq_ld, hM.read_unread]

section Pieces

variable (t : Fin cfg0.N) (x0 : Vec F S1x512x1024 .f32) (x1 : Vec F S1x1024 .f32) (x2 : Vec F S1024x6912 .bf16)
  (x3 : Vec F S8x128x256 .bf16) (x4 x5 x6 : Vec F S1x128 .f32) (x7 : Vec F S4x1024 .f32) (x8 : Vec F S1x1024 .f32)
  (x9 : Vec F S8x128x256 .bf16) (x10 x11 x12 : Vec F S1x1024 .f32) (x13 : Vec F S1024x1024 .bf16)
  (x14 : Vec F S1x2048 .f32) (hd hc : FVec F S8x1024 .f32)

def ldX : Vec F S1x512x1024 .f32 :=
  ldOf (ms0_0 t) (hs0_0 t) x0 (Rect.unit ![0, 0, 0] S1x512x1024.size inb_S1x512x1024_S1x512x1024_0_0_0)

def ldG : Vec F S1x1024 .f32 :=
  ldOf (ms0_1 t) (hs0_1 t) x1 (Rect.unit ![0, 0] S1x1024.size inb_S1x1024_S1x1024_0_0)

/-- The normalized rows. -/
def xbS : FVec F S512x1024 .bf16 := k0_pay6 (ldX t x0) (ldG t x1)

def ldW {c : ℕ} (off : ℕ) (h : ∀ a, (![0, off] : Fin 2 → ℕ) a + (⟨2, ![1024, c]⟩ : Shape).size a ≤ S1024x6912.size a) :
    Vec F ⟨2, ![1024, c]⟩ .bf16 :=
  ldOf (ms0_2 t) (hs0_2 t) x2 (Rect.unit ![0, off] (⟨2, ![1024, c]⟩ : Shape).size h)

/-- The rows before the convolution, after the head rows `hd`. -/
def LX : List (View.Piece (Elt F) S520x1024 .f32) :=
  [⟨Rect.unit ![8, 0] S512x1024.size inb_S520x1024_S512x1024_8_0,
      k0_pay7 (ldX t x0) (ldG t x1) (ldW t x2 2816 inb_S1024x6912_S1024x1024_0_2816)⟩,
    ⟨Rect.unit ![0, 0] S8x1024.size inb_S520x1024_S8x1024_0_0, hd⟩]

def ldTap (b k : ℕ) : Vec F S1x256 .f32 :=
  ldOf (ms0_7 t) (hs0_7 t) x7 (Rect.unit ![k % 4, 256 * (b % 4)] S1x256.size (inb_row b k))

def ldBias (M : Memref sig .tc .vmem S1x1024 .f32) (hM : M.IsWhole) (x : Vec F S1x1024 .f32) (b : ℕ) : Vec F S1x256 .f32 :=
  ldOf M hM x (Rect.unit ![0, 256 * (b % 4)] S1x256.size (inb_bias b))

def rdX (b k : ℕ) : Vec F S512x256 .f32 :=
  scM0_0.view.readCov (LX t x0 x1 x2 hd) (Rect.unit (s := S520x1024) ![5 + k % 4, 256 * (b % 4)] S512x256.size (inb_ext b k)).toLoadRect

/-- The convolution's rows, columns `256 b` onwards. -/
def yS (b : ℕ) : FVec F S512x256 .f32 :=
  k0_pay10 (k0_pay8 (ldBias (ms0_8 t) (hs0_8 t) x8 b)) (k0_pay9 (ldTap t x7 b 0)) (rdX t x0 x1 x2 hd b 0)
    (ldTap t x7 b 1) (rdX t x0 x1 x2 hd b 1) (ldTap t x7 b 2) (rdX t x0 x1 x2 hd b 2) (ldTap t x7 b 3)
    (rdX t x0 x1 x2 hd b 3)

def ldGate (b : ℕ) : Vec F S1x128x256 .bf16 :=
  ldOf (ms0_9 t) (hs0_9 t) x9 (Rect.unit ![b % 8, 0, 0] S1x128x256.size (inb_gate b))

/-- The two products of a block with the gates' weights. -/
def gS0 (b : ℕ) : FVec F S512x256 .f32 :=
  matmul dot_S512x128_S128x256_S512x256_1_0_0_1_n_n none
    (extractStridedSlice S512x128 ![0, 0] (truncf .bf16 (yS t x0 x1 x2 x7 x8 hd b) bitsLt_bf16_f32)
      slices_S512x256_o0_0_S512x128)
    (shapeCast S128x256 (ldGate t x9 (2 * b)) shapeCasts_S1x128x256_S128x256) (constant S512x256 .f32 0x00000000#32)

def gS1 (b : ℕ) : FVec F S512x256 .f32 :=
  matmul dot_S512x128_S128x256_S512x256_1_0_0_1_n_n none
    (extractStridedSlice S512x128 ![0, 128] (truncf .bf16 (yS t x0 x1 x2 x7 x8 hd b) bitsLt_bf16_f32)
      slices_S512x256_o0_128_S512x128)
    (shapeCast S128x256 (ldGate t x9 (2 * b + 1)) shapeCasts_S1x128x256_S128x256) (constant S512x256 .f32 0x00000000#32)

/-- The decay gate's products. -/
def gaS (b : ℕ) : FVec F S512x256 .f32 :=
  concatenate S512x256 1
    [⟨S512x128, extractStridedSlice S512x128 ![0, 0] (gS0 t x0 x1 x2 x7 x8 x9 hd b) slices_S512x256_o0_0_S512x128⟩,
      ⟨S512x128, extractStridedSlice S512x128 ![0, 0] (gS1 t x0 x1 x2 x7 x8 x9 hd b) slices_S512x256_o0_0_S512x128⟩]
    concatenates_S512x128_S512x128_S512x256_d1

def aP (b : ℕ) : FVec F S512x256 .f32 :=
  k0_pay17 (gaS t x0 x1 x2 x7 x8 x9 hd b) (k0_pay15 (ldBias (ms0_10 t) (hs0_10 t) x10 b))
    (ldBias (ms0_12 t) (hs0_12 t) x12 b)

def bP (b : ℕ) : FVec F S512x256 .f32 :=
  k0_pay20 (k0_pay18 (gaS t x0 x1 x2 x7 x8 x9 hd b) (k0_pay15 (ldBias (ms0_10 t) (hs0_10 t) x10 b))
    (ldBias (ms0_12 t) (hs0_12 t) x12 b))
    (k0_pay19 (yS t x0 x1 x2 x7 x8 hd b) (gS0 t x0 x1 x2 x7 x8 x9 hd b) (gS1 t x0 x1 x2 x7 x8 x9 hd b)
      (ldBias (ms0_11 t) (hs0_11 t) x11 b))

/-- The pieces of the recurrence's factors: the first `n` of the four column blocks. -/
def LA (n : ℕ) : List (View.Piece (Elt F) S512x1024 .f32) :=
  Nat.rec [] (fun b ih => ⟨Rect.unit ![0, 256 * (b % 4)] S512x256.size (inb_cols b),
    aP t x0 x1 x2 x7 x8 x9 x10 x12 hd b⟩ :: ih) n

def LB (n : ℕ) : List (View.Piece (Elt F) S512x1024 .f32) :=
  Nat.rec [] (fun b ih => ⟨Rect.unit ![0, 256 * (b % 4)] S512x256.size (inb_cols b),
    bP t x0 x1 x2 x7 x8 x9 x10 x11 x12 hd b⟩ :: ih) n

/-- The factors and the inputs of the scan's group `n`. -/
def rdA (n : ℕ) : FVec F S8x1024 .f32 :=
  scM0_1.view.readCov (LA t x0 x1 x2 x7 x8 x9 x10 x12 hd 4)
    (Rect.unit (s := S512x1024) ![8 * (n % 64), 0] S8x1024.size (inb_grp n)).toLoadRect

def rdB (n : ℕ) : FVec F S8x1024 .f32 :=
  scM0_2.view.readCov (LB t x0 x1 x2 x7 x8 x9 x10 x11 x12 hd 4)
    (Rect.unit (s := S512x1024) ![8 * (n % 64), 0] S8x1024.size (inb_grp n)).toLoadRect

/-- The row before group `n`. -/
def hpS (n : ℕ) : FVec F S8x1024 .f32 :=
  Nat.rec hc (fun k ih => last8 (grp (rdA t x0 x1 x2 x7 x8 x9 x10 x12 hd k)
    (rdB t x0 x1 x2 x7 x8 x9 x10 x11 x12 hd k) ih)) n

/-- The pieces of the recurrence's rows: the first `n` groups. -/
def LH (n : ℕ) : List (View.Piece (Elt F) S512x1024 .f32) :=
  Nat.rec [] (fun k ih => ⟨Rect.unit ![8 * (k % 64), 0] S8x1024.size (inb_grp k),
    shapeCast S8x1024 (grp (rdA t x0 x1 x2 x7 x8 x9 x10 x12 hd k) (rdB t x0 x1 x2 x7 x8 x9 x10 x11 x12 hd k)
      (hpS t x0 x1 x2 x7 x8 x9 x10 x11 x12 hd hc k)) shapeCasts_S8x1024_S8x1024⟩ :: ih) n

/-- The last row, carried to the next point. -/
def hcS : FVec F S8x1024 .f32 :=
  shapeCast S8x1024 (hpS t x0 x1 x2 x7 x8 x9 x10 x11 x12 hd hc 64) shapeCasts_S8x1024_S8x1024

/-- A gate: the logistic function of a merge projection, at half its argument. -/
def mgS (off boff : ℕ) (h : ∀ a, (![0, off] : Fin 2 → ℕ) a + S1024x1024.size a ≤ S1024x6912.size a)
    (h' : ∀ a, (![0, boff] : Fin 2 → ℕ) a + S1x1024.size a ≤ S1x2048.size a) : FVec F S512x1024 .f32 :=
  have v : FVec F S512x1024 .f32 := addf
    (matmul dot_S512x1024_S1024x1024_S512x1024_1_0_0_1_n_n none (xbS t x0 x1)
      (shapeCast S1024x1024 (ldW t x2 off h) shapeCasts_S1024x1024_S1024x1024) (constant S512x1024 .f32 0x00000000#32))
    (broadcastTo S512x1024 (shapeCast S1x1024 (ldOf (ms0_14 t) (hs0_14 t) x14 (Rect.unit ![0, boff] S1x1024.size h'))
      shapeCasts_S1x1024_S1x1024) broadcasts_S1x1024_S512x1024)
  have half : FVec F S512x1024 .f32 := broadcast S512x1024 (Scalar.ofBits .f32 0x3F000000#32)
  addf (mulf half (tanh v)) half

/-- A swish of a projection, at half its argument. -/
def siS (off : ℕ) (h : ∀ a, (![0, off] : Fin 2 → ℕ) a + S1024x1024.size a ≤ S1024x6912.size a) : FVec F S512x1024 .f32 :=
  have v : FVec F S512x1024 .f32 := mulf (broadcast S512x1024 (Scalar.ofBits .f32 0x3F000000#32))
    (matmul dot_S512x1024_S1024x1024_S512x1024_1_0_0_1_n_n none (xbS t x0 x1)
      (shapeCast S1024x1024 (ldW t x2 off h) shapeCasts_S1024x1024_S1024x1024) (constant S512x1024 .f32 0x00000000#32))
  addf (mulf v (tanh v)) v

def L21 : List (View.Piece (Elt F) S1x512x1024 .bf16) :=
  [⟨Rect.unit ![0, 0, 0] S1x512x1024.size inb_S1x512x1024_S1x512x1024_0_0_0,
    shapeCast S1x512x1024 (truncf .bf16 (siS t x0 x1 x2 1792 inb_S1024x6912_S1024x1024_0_1792) bitsLt_bf16_f32)
      shapeCasts_S512x1024_S1x512x1024⟩]

def L22 : List (View.Piece (Elt F) S1x512x1024 .bf16) :=
  [⟨Rect.unit ![0, 0, 0] S1x512x1024.size inb_S1x512x1024_S1x512x1024_0_0_0,
    shapeCast S1x512x1024 (truncf .bf16 (mgS t x0 x1 x2 x14 4864 0 inb_S1024x6912_S1024x1024_0_4864 inb_S1x2048_S1x1024_0_0)
      bitsLt_bf16_f32) shapeCasts_S512x1024_S1x512x1024⟩]

/-- The rows of the recurrence, of its swish and of its gate, read back from their buffers. -/
def rdH : Vec F S512x1024 .f32 :=
  scM0_3.view.readCov (LH t x0 x1 x2 x7 x8 x9 x10 x11 x12 hd hc 64)
    (Rect.unit (s := S512x1024) ![0, 0] S512x1024.size inb_S512x1024_S512x1024_0_0).toLoadRect

def rdZ : Vec F S512x1024 .f32 :=
  scM0_5.view.readCov [⟨Rect.unit ![0, 0] S512x1024.size inb_S512x1024_S512x1024_0_0,
    shapeCast S512x1024 (siS t x0 x1 x2 3840 inb_S1024x6912_S1024x1024_0_3840) shapeCasts_S512x1024_S512x1024⟩]
    (Rect.unit (s := S512x1024) ![0, 0] S512x1024.size inb_S512x1024_S512x1024_0_0).toLoadRect

def rdM : Vec F S512x1024 .f32 :=
  scM0_6.view.readCov [⟨Rect.unit ![0, 0] S512x1024.size inb_S512x1024_S512x1024_0_0,
    shapeCast S512x1024 (mgS t x0 x1 x2 x14 5888 1024 inb_S1024x6912_S1024x1024_0_5888 inb_S1x2048_S1x1024_0_1024)
      shapeCasts_S512x1024_S512x1024⟩]
    (Rect.unit (s := S512x1024) ![0, 0] S512x1024.size inb_S512x1024_S512x1024_0_0).toLoadRect

def L23 : List (View.Piece (Elt F) S1x512x1024 .bf16) :=
  [⟨Rect.unit ![0, 0, 0] S1x512x1024.size inb_S1x512x1024_S1x512x1024_0_0_0,
    k0_pay2 (rdH t x0 x1 x2 x7 x8 x9 x10 x11 x12 hd hc) (rdZ t x0 x1 x2)
      (ldOf (ms0_13 t) (hs0_13 t) x13 (Rect.unit ![0, 0] S1024x1024.size inb_S1024x1024_S1024x1024_0_0))
      (rdM t x0 x1 x2 x14)⟩]

/-! ## The attention's and the indexer's outputs -/

/-- The queries, before the keys' up-projection. -/
def qS : FVec F S512x1024 .bf16 :=
  truncf .bf16 (matmul dot_S512x1024_S1024x1024_S512x1024_1_0_0_1_n_n none (xbS t x0 x1)
    (shapeCast S1024x1024 (ldW t x2 0 inb_S1024x6912_S1024x1024_0_0) shapeCasts_S1024x1024_S1024x1024)
    (constant S512x1024 .f32 0x00000000#32)) bitsLt_bf16_f32

def ldK (p : ℕ) : Vec F S1x128x256 .bf16 :=
  ldOf (ms0_3 t) (hs0_3 t) x3 (Rect.unit ![p % 8, 0, 0] S1x128x256.size (inb_gate p))

/-- A pair of heads' queries against the up-projected keys. -/
def qlS (p : ℕ) : FVec F S512x256 .f32 :=
  matmul dot_S512x128_S128x256_S512x256_1_0_0_1_n_n none
    (extractStridedSlice S512x128 ![0, 128 * (p % 8)] (qS t x0 x1 x2) (slices_q p))
    (shapeCast S128x256 (ldK t x3 p) shapeCasts_S1x128x256_S128x256) (constant S512x256 .f32 0x00000000#32)

/-- All heads' scaled queries, transposed. -/
def qltS : FVec F S2048x512 .f32 :=
  k0_pay475 (qS t x0 x1 x2) (qlS t x0 x1 x2 x3 0) (qlS t x0 x1 x2 x3 1) (qlS t x0 x1 x2 x3 2) (qlS t x0 x1 x2 x3 3)
    (qlS t x0 x1 x2 x3 4) (extractStridedSlice S512x128 ![0, 128 * (5 % 8)] (qS t x0 x1 x2) (slices_q 5)) (ldK t x3 5)
    (ldK t x3 6) (ldK t x3 7)

def L15 (n : ℕ) : List (View.Piece (Elt F) S1x4x128x2048 .bf16) :=
  Nat.rec [] (fun i ih => ⟨Rect.unit ![0, i / 16 % 4, 0, 128 * (i % 16)] S1x1x128x128.size (inb_lq (i / 16) i),
    shapeCast S1x1x128x128 (truncf .bf16 (extractStridedSlice S128x128 ![128 * (i % 16), 128 * (i / 16 % 4)]
      (qltS t x0 x1 x2 x3) (slices_lq (i / 16) i)) bitsLt_bf16_f32) shapeCasts_S128x128_S1x1x128x128⟩ :: ih) n

/-- A projection onto 128 columns. -/
def pjS (off : ℕ) (h : ∀ a, (![0, off] : Fin 2 → ℕ) a + S1024x128.size a ≤ S1024x6912.size a) : FVec F S512x128 .f32 :=
  matmul dot_S512x1024_S1024x128_S512x128_1_0_0_1_n_n none (xbS t x0 x1)
    (shapeCast S1024x128 (ldW t x2 off h) shapeCasts_S1024x128_S1024x128) (constant S512x128 .f32 0x00000000#32)

/-- The inverse root of a column of means. -/
def rrS (v : FVec F S512x1 .f32) : FVec F S512x128 .f32 :=
  broadcastTo S512x128 (rsqrt (addf v (broadcast S512x1 (Scalar.ofBits .f32 0x358637BD#32)))) broadcasts_S512x1_S512x128

/-- The row sums. -/
def smS (v : FVec F S512x128 .f32) : FVec F S512x1 .f32 :=
  shapeCast S512x1 (multiReduction .add [1] S512 v 0x00000000#32 reduces_S512x128_S512 (.inl rfl) rfl)
    shapeCasts_S512_S512x1

def bcS (M : Memref sig .tc .vmem S1x128 .f32) (hM : M.IsWhole) (x : Vec F S1x128 .f32) : FVec F S512x128 .f32 :=
  broadcastTo S512x128 (shapeCast S1x128 (ldOf M hM x (Rect.unit ![0, 0] S1x128.size inb_S1x128_S1x128_0_0))
    shapeCasts_S1x128_S1x128) broadcasts_S1x128_S512x128

/-- The normalized keys. -/
def cnS : FVec F S512x128 .f32 :=
  have z : FVec F S512x128 .f32 := pjS t x0 x1 x2 1024 inb_S1024x6912_S1024x128_0_1024
  mulf (mulf z (rrS (divf (smS (mulf z z)) (broadcast S512x1 (Scalar.ofBits .f32 0x43000000#32)))))
    (bcS (ms0_4 t) (hs0_4 t) x4)

def L16 : List (View.Piece (Elt F) S1x512x128 .bf16) :=
  [⟨Rect.unit ![0, 0, 0] S1x512x128.size inb_S1x512x128_S1x512x128_0_0_0,
    shapeCast S1x512x128 (truncf .bf16 (cnS t x0 x1 x2 x4) bitsLt_bf16_f32) shapeCasts_S512x128_S1x512x128⟩]

def L17 (n : ℕ) : List (View.Piece (Elt F) S1x2x128x256 .bf16) :=
  Nat.rec [] (fun i ih => ⟨Rect.unit ![0, i % 2, 0, 0] S1x1x128x256.size (inb_ct i),
    shapeCast S1x1x128x256 (truncf .bf16 (extractStridedSlice S128x256 ![0, 256 * (i % 2)]
      (transpose S128x512 [1, 0] (cnS t x0 x1 x2 x4) transposes_S512x128_p1_0_S128x512) (slices_ct i)) bitsLt_bf16_f32)
      shapeCasts_S128x256_S1x1x128x256⟩ :: ih) n

/-- The indexer's scaled queries, transposed. -/
def qitS : FVec F S512x512 .f32 :=
  transpose S512x512 [1, 0] (mulf (matmul dot_S512x1024_S1024x512_S512x512_1_0_0_1_n_n none (xbS t x0 x1)
    (shapeCast S1024x512 (ldW t x2 1152 inb_S1024x6912_S1024x512_0_1152) shapeCasts_S1024x512_S1024x512)
    (constant S512x512 .f32 0x00000000#32)) (broadcast S512x512 (Scalar.ofBits .f32 0x3E000000#32)))
    transposes_S512x512_p1_0_S512x512

def L18 (n : ℕ) : List (View.Piece (Elt F) S1x4x64x1024 .bf16) :=
  Nat.rec [] (fun i ih => ⟨Rect.unit ![0, i / 8 % 4, 0, 128 * (i % 8)] S1x1x64x128.size (inb_qi (i / 8) i),
    shapeCast S1x1x64x128 (truncf .bf16 (extractStridedSlice S64x128 ![64 * (i % 8), 128 * (i / 8 % 4)]
      (qitS t x0 x1 x2) (slices_qi (i / 8) i)) bitsLt_bf16_f32) shapeCasts_S64x128_S1x1x64x128⟩ :: ih) n

/-- The indexer's keys and weights, and whether a column is a key's. -/
def zkS : FVec F S512x128 .f32 := pjS t x0 x1 x2 1664 inb_S1024x6912_S1024x128_0_1664

def mkS (v : FVec F S512x128 .f32) : FVec F S512x128 .f32 :=
  select (cmpi .slt (iota .tc S512x128 32 [1] iota_S512x128_d1_w32) (broadcast S512x128 64#32)) v
    (broadcast S512x128 (Scalar.ofBits .f32 0x00000000#32))

/-- The normalized indexer keys. -/
def kiS : FVec F S512x128 .f32 :=
  have z : FVec F S512x128 .f32 := zkS t x0 x1 x2
  have w : FVec F S512x1 .f32 := broadcast S512x1 (Scalar.ofBits .f32 0x3C800000#32)
  have d : FVec F S512x128 .f32 := mkS (subf z (broadcastTo S512x128 (mulf (smS (mkS z)) w) broadcasts_S512x1_S512x128))
  addf (mulf (mulf d (rrS (mulf (smS (mulf d d)) w))) (bcS (ms0_5 t) (hs0_5 t) x5)) (bcS (ms0_6 t) (hs0_6 t) x6)

def L19 : List (View.Piece (Elt F) S1x512x64 .bf16) :=
  [⟨Rect.unit ![0, 0, 0] S1x512x64.size inb_S1x512x64_S1x512x64_0_0_0,
    shapeCast S1x512x64 (truncf .bf16 (extractStridedSlice S512x64 ![0, 0] (kiS t x0 x1 x2 x5 x6)
      slices_S512x128_o0_0_S512x64) bitsLt_bf16_f32) shapeCasts_S512x64_S1x512x64⟩]

/-- The indexer's head weights, transposed. -/
def wtS : FVec F S8x512 .f32 :=
  mulf (extractStridedSlice S8x512 ![64, 0] (transpose S128x512 [1, 0] (zkS t x0 x1 x2) transposes_S512x128_p1_0_S128x512)
    slices_S128x512_o64_0_S8x512) (broadcast S8x512 (Scalar.ofBits .f32 0x3EB504F3#32))

def L20 (n : ℕ) : List (View.Piece (Elt F) S1x4x8x128 .f32) :=
  Nat.rec [] (fun i ih => ⟨Rect.unit ![0, i % 4, 0, 0] S1x1x8x128.size (inb_wt i),
    shapeCast S1x1x8x128 (extractStridedSlice S8x128 ![0, 128 * (i % 4)] (wtS t x0 x1 x2) (slices_wt i))
      shapeCasts_S8x128_S1x1x8x128⟩ :: ih) n

/-- The last row's piece. -/
def LC (l : List (View.Piece (Elt F) S8x1024 .f32)) : List (View.Piece (Elt F) S8x1024 .f32) :=
  ⟨Rect.unit ![0, 0] S8x1024.size inb_S8x1024_S8x1024_0_0, hcS t x0 x1 x2 x7 x8 x9 x10 x11 x12 hd hc⟩ :: l

end Pieces

end Cert.Layer.Body

end
-- ==== Proof.Numbers.lean ====
/-
  Facts about extended reals that the two programs' forms of one function rest on: the logistic
  function and its form by the hyperbolic tangent, the decay rate and the input scale of the gated
  recurrence, products with a real drawn out of a sum, and which of the values are real.
-/
module

public import Idealize.ShloMosaic.PureOps.Ideal

@[expose] public section

noncomputable section

namespace Cert.Layer

open Idealize.ShloMosaic

/-- An extended real that is a real number. -/
def IsReal (x : EReal) : Prop := ∃ r : ℝ, x = (r : EReal)

theorem IsReal.coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type*} (s : Finset ι) (f : ι → EReal) (h : ∀ i ∈ s, IsReal (f i)) :
    IsReal (∑ i ∈ s, f i) := by
  classical
  induction s using Finset.induction_on with
  | empty => exact ⟨0, by simp⟩
  | insert a s ha ih =>
    rw [Finset.sum_insert ha]
    exact (h a (Finset.mem_insert_self _ _)).add (ih fun i hi => h i (Finset.mem_insert_of_mem hi))

/-- A value whose absolute value is below `⊤` is real. -/
theorem IsReal.of_abs_lt {x : EReal} (h : max x (-x) < ⊤) : IsReal x := by
  induction x with
  | bot => simp at h
  | top => simp at h
  | coe r => exact ⟨r, rfl⟩

/-- A nonnegative real factor distributes over a sum of two extended reals. -/
theorem coe_mul_add {c : ℝ} (hc : 0 ≤ c) (x y : EReal) : (c : EReal) * (x + y) = c * x + c * y :=
  EReal.left_distrib_of_nonneg_of_ne_top (by exact_mod_cast hc) (EReal.coe_ne_top c) x y

/-- A nonnegative real factor distributes over a finite sum. -/
theorem coe_mul_sum {ι : Type*} {c : ℝ} (hc : 0 ≤ c) (s : Finset ι) (f : ι → EReal) :
    ∑ i ∈ s, (c : EReal) * f i = c * ∑ i ∈ s, f i := by
  classical
  induction s using Finset.induction_on with
  | empty => simp
  | insert a s ha ih => rw [Finset.sum_insert ha, Finset.sum_insert ha, ih, coe_mul_add hc]

/-- `logistic v` written with the hyperbolic tangent of half of `v`. -/
theorem logistic_eq (v : EReal) :
    ((1 / 2 : ℝ) : EReal) * Ideal.tanh (((1 / 2 : ℝ) : EReal) * v) + ((1 / 2 : ℝ) : EReal) = Ideal.logistic v := by
  induction v with
  | bot =>
    rw [EReal.coe_mul_bot_of_pos (by norm_num), Ideal.tanh_bot, Ideal.logistic_bot]
    rw [show (-1 : EReal) = ((-1 : ℝ) : EReal) by norm_num, ← EReal.coe_mul, ← EReal.coe_add]
    norm_num
  | top =>
    rw [EReal.coe_mul_top_of_pos (by norm_num), Ideal.tanh_top, Ideal.logistic_top, mul_one, ← EReal.coe_add]
    norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have h1 : Real.exp (-r) = Real.exp (-(1 / 2 * r)) * Real.exp (-(1 / 2 * r)) := by
      rw [← Real.exp_add]; ring_nf
    have h2 : Real.exp (1 / 2 * r) * Real.exp (-(1 / 2 * r)) = 1 := by
      rw [← Real.exp_add]; simp
    have hp := Real.exp_pos (1 / 2 * r)
    have hq := Real.exp_pos (-(1 / 2 * r))
    rw [h1]
    set p := Real.exp (1 / 2 * r)
    set q := Real.exp (-(1 / 2 * r))
    have hpq : p + q ≠ 0 := by positivity
    have hq1 : 1 + q * q ≠ 0 := by positivity
    field_simp
    linear_combination (2 * q) * h2

/-- The hyperbolic tangent of any value is a real between `-1` and `1`. -/
theorem tanh_real (v : EReal) : ∃ t : ℝ, Ideal.tanh v = (t : EReal) ∧ -1 ≤ t ∧ t ≤ 1 := by
  induction v with
  | bot => exact ⟨-1, by norm_num, by norm_num⟩
  | top => exact ⟨1, by norm_num, by norm_num⟩
  | coe r => exact ⟨Real.tanh r, rfl, (Real.neg_one_lt_tanh r).le, (Real.tanh_lt_one r).le⟩

/-- `v · logistic v`, written `h · tanh h + h` at half of `v`, for a real `v`. -/
theorem silu_eq {v : EReal} (hv : IsReal v) :
    (((1 / 2 : ℝ) : EReal) * v) * Ideal.tanh (((1 / 2 : ℝ) : EReal) * v) + ((1 / 2 : ℝ) : EReal) * v
      = v * Ideal.logistic v := by
  obtain ⟨r, rfl⟩ := hv
  rw [← logistic_eq]
  simp only [← EReal.coe_mul, Ideal.tanh_coe, ← EReal.coe_add]
  congr 1; ring

/-- `log (1 + exp v)` of a real is a nonnegative real. -/
theorem softplus_real {v : EReal} (hv : IsReal v) :
    ∃ s : ℝ, max v 0 + Ideal.log1p (Ideal.exp (-(max v (-v)))) = (s : EReal) ∧ 0 ≤ s := by
  obtain ⟨r, rfl⟩ := hv
  have hm : max (r : EReal) (-(r : EReal)) = ((|r| : ℝ) : EReal) := by
    rw [← EReal.coe_neg]; exact (EReal.coe_strictMono.monotone.map_max (a := r) (b := -r)).symm
  have hz : max (r : EReal) 0 = ((max r 0 : ℝ) : EReal) := by
    exact (EReal.coe_strictMono.monotone.map_max (a := r) (b := 0)).symm
  have he : 0 < Real.exp (-|r|) := Real.exp_pos _
  refine ⟨max r 0 + Real.log (1 + Real.exp (-|r|)), ?_, ?_⟩
  · rw [hm, hz, ← EReal.coe_neg, Ideal.exp_coe, Ideal.log1p, ← EReal.coe_one, ← EReal.coe_add, Ideal.log_coe,
      if_neg (by linarith), ← EReal.coe_add]
  · have := Real.log_nonneg (show (1 : ℝ) ≤ 1 + Real.exp (-|r|) by linarith)
    have := le_max_right r 0
    linarith

/-- The recurrence's exponent: with `s ≥ 0` real, `(-4 s)·tanh (g/2) + (-4 s)` is `(-8·logistic g)·s`, a real that is
    not positive. -/
theorem log_decay {s : ℝ} (hs : 0 ≤ s) (g : EReal) :
    ∃ l : ℝ, l ≤ 0
      ∧ (((-4 : ℝ) : EReal) * (s : EReal)) * Ideal.tanh (((1 / 2 : ℝ) : EReal) * g) + ((-4 : ℝ) : EReal) * (s : EReal)
          = (l : EReal)
      ∧ (((-8 : ℝ) : EReal) * Ideal.logistic g) * (s : EReal) = (l : EReal) := by
  obtain ⟨t, ht, h1, h2⟩ := tanh_real (((1 / 2 : ℝ) : EReal) * g)
  refine ⟨-4 * s * t + -4 * s, by nlinarith, ?_, ?_⟩
  · rw [ht, ← EReal.coe_mul, ← EReal.coe_mul, ← EReal.coe_add]
  · rw [← logistic_eq, ht, ← EReal.coe_mul, ← EReal.coe_add, ← EReal.coe_mul, ← EReal.coe_mul]
    congr 1; ring

/-- The input scale of the recurrence: for a real exponent `l ≤ 0`, `√(-2 tanh l / (1 - tanh l))` is
    `√(-(exp (2 l) - 1))`. -/
theorem input_scale {l : ℝ} (_hl : l ≤ 0) :
    Ideal.sqrt (Ideal.div (((-2 : ℝ) : EReal) * Ideal.tanh (l : EReal)) (((1 : ℝ) : EReal) - Ideal.tanh (l : EReal)))
      = Ideal.sqrt (-(Ideal.exp (((2 : ℝ) : EReal) * (l : EReal)) - 1)) := by
  have h1 : (1 : ℝ) - Real.tanh l ≠ 0 := by have := Real.tanh_lt_one l; linarith
  rw [Ideal.tanh_coe, ← EReal.coe_sub, Ideal.div_coe h1, ← EReal.coe_mul, ← EReal.coe_mul, ← EReal.coe_mul,
    Ideal.exp_coe, ← EReal.coe_one, ← EReal.coe_sub, ← EReal.coe_neg]
  congr 2
  have hp := Real.exp_pos l
  have hq := Real.exp_pos (-l)
  have h2 : Real.exp l * Real.exp (-l) = 1 := by rw [← Real.exp_add]; simp
  have h3 : Real.exp (2 * l) = Real.exp l * Real.exp l := by rw [← Real.exp_add]; ring_nf
  have ht : Real.tanh l = (Real.exp l - Real.exp (-l)) / (Real.exp l + Real.exp (-l)) := by
    rw [Real.tanh_eq_sinh_div_cosh, Real.sinh_eq, Real.cosh_eq]; field_simp
  rw [h3]
  have h4 : 1 - Real.tanh l = 2 * Real.exp (-l) / (Real.exp l + Real.exp (-l)) := by
    rw [ht]; field_simp; ring
  rw [h4, ht]
  set p := Real.exp l
  set q := Real.exp (-l)
  have hpq : p + q ≠ 0 := by positivity
  field_simp
  linear_combination p * h2

/-- The square of any value is not negative. -/
theorem mul_self_nonneg' (x : EReal) : 0 ≤ x * x := by
  induction x with
  | bot => simp
  | top => simp
  | coe r => rw [← EReal.coe_mul]; exact_mod_cast mul_self_nonneg r

/-- A row divided by the root of its mean square (plus a positive real) is real at every entry, whatever the row: at
    an infinite entry the mean is `⊤` and its reciprocal root `0`. -/
theorem rms_real {ι : Type*} [Fintype ι] (x : ι → EReal) {c e : ℝ} (hc : 0 < c) (he : 0 < e) (k : ι) :
    IsReal (x k * Ideal.rsqrt ((∑ i, x i * x i) * (c : EReal) + (e : EReal))) := by
  classical
  have hc' : (0 : EReal) < c := by exact_mod_cast hc
  by_cases h : ∀ i, IsReal (x i)
  · have hs : ∃ s : ℝ, (∑ i, x i * x i) = (s : EReal) := IsReal.sum _ _ fun i _ => (h i).mul (h i)
    obtain ⟨s, hs⟩ := hs
    have h0 : (0 : EReal) ≤ ∑ i, x i * x i := Finset.sum_nonneg fun i _ => mul_self_nonneg' (x i)
    have hs0 : 0 ≤ s := by rw [hs] at h0; exact_mod_cast h0
    refine (h k).mul ?_
    have hp : 0 < s * c + e := by positivity
    rw [hs, ← EReal.coe_mul, ← EReal.coe_add, Ideal.rsqrt_coe, if_neg (by linarith), if_neg hp.ne']
    exact ⟨_, rfl⟩
  · push Not at h
    obtain ⟨i, hi⟩ := h
    have hi' : x i * x i = ⊤ := by
      generalize x i = y at hi
      induction y with
      | bot => simp
      | top => simp
      | coe r => exact absurd ⟨r, rfl⟩ hi
    have hs : (∑ i, x i * x i) = ⊤ := by
      refine top_le_iff.mp (hi' ▸ Finset.single_le_sum (f := fun i => x i * x i) (fun j _ => mul_self_nonneg' (x j))
        (Finset.mem_univ i))
    rw [hs, EReal.top_mul_coe_of_pos hc, EReal.top_add_coe, Ideal.rsqrt_top, mul_zero]
    exact ⟨0, rfl⟩

end Cert.Layer
-- ==== Proof.Layer.lean ====
/-
  The layer's mathematics over the extended reals, entry by entry: the vocabulary both programs are read in. Arrays are
  read at natural-number coordinates (`rd1` … `rd4`, zero outside the array), so that every equation of indices is one of
  numbers. `p` is the sequence (of 32), `s` the position in it (of 2048).
-/
module

public import proofs.«01_k».proof.Proof.Numbers
public import Idealize.ShloMosaic.Lib.ValueIdx

@[expose] public section

noncomputable section

namespace Cert.Layer

open Idealize.ShloMosaic Idealize.ShloMosaic.ValueIdx

section Readers

variable {n0 n1 n2 n3 : Nat}

/-- A vector's entry, zero outside it. -/
def rd1 (x : (⟨1, ![n0]⟩ : Shape).Idx → EReal) (a : ℕ) : EReal :=
  if h : a < n0 then x (ix1 ⟨a, h⟩) else 0

/-- A matrix's entry, zero outside it. -/
def rd2 (x : (⟨2, ![n0, n1]⟩ : Shape).Idx → EReal) (a b : ℕ) : EReal :=
  if h : a < n0 ∧ b < n1 then x (ix2 ⟨a, h.1⟩ ⟨b, h.2⟩) else 0

/-- A rank-3 array's entry, zero outside it. -/
def rd3 (x : (⟨3, ![n0, n1, n2]⟩ : Shape).Idx → EReal) (a b c : ℕ) : EReal :=
  if h : a < n0 ∧ b < n1 ∧ c < n2 then x (ix3 ⟨a, h.1⟩ ⟨b, h.2.1⟩ ⟨c, h.2.2⟩) else 0

/-- A rank-4 array's entry, zero outside it. -/
def rd4 (x : (⟨4, ![n0, n1, n2, n3]⟩ : Shape).Idx → EReal) (a b c d : ℕ) : EReal :=
  if h : a < n0 ∧ b < n1 ∧ c < n2 ∧ d < n3 then x (ix4 ⟨a, h.1⟩ ⟨b, h.2.1⟩ ⟨c, h.2.2.1⟩ ⟨d, h.2.2.2⟩) else 0

theorem rd1_eq (x : (⟨1, ![n0]⟩ : Shape).Idx → EReal) (i : (⟨1, ![n0]⟩ : Shape).Idx) {a : ℕ} (h0 : (i 0).val = a) :
    x i = rd1 x a := by
  subst h0
  have h : (i 0).val < n0 := (i 0).isLt
  unfold rd1
  rw [dif_pos h]
  exact congrArg x (eq_ix1 i)

theorem rd2_eq (x : (⟨2, ![n0, n1]⟩ : Shape).Idx → EReal) (i : (⟨2, ![n0, n1]⟩ : Shape).Idx) {a b : ℕ}
    (h0 : (i 0).val = a) (h1 : (i 1).val = b) : x i = rd2 x a b := by
  subst h0 h1
  unfold rd2
  rw [dif_pos ⟨(i 0).isLt, (i 1).isLt⟩]
  exact congrArg x (eq_ix2 i)

theorem rd3_eq (x : (⟨3, ![n0, n1, n2]⟩ : Shape).Idx → EReal) (i : (⟨3, ![n0, n1, n2]⟩ : Shape).Idx) {a b c : ℕ}
    (h0 : (i 0).val = a) (h1 : (i 1).val = b) (h2 : (i 2).val = c) : x i = rd3 x a b c := by
  subst h0 h1 h2
  unfold rd3
  rw [dif_pos ⟨(i 0).isLt, (i 1).isLt, (i 2).isLt⟩]
  exact congrArg x (eq_ix3 i)

theorem rd4_eq (x : (⟨4, ![n0, n1, n2, n3]⟩ : Shape).Idx → EReal) (i : (⟨4, ![n0, n1, n2, n3]⟩ : Shape).Idx)
    {a b c d : ℕ} (h0 : (i 0).val = a) (h1 : (i 1).val = b) (h2 : (i 2).val = c) (h3 : (i 3).val = d) :
    x i = rd4 x a b c d := by
  subst h0 h1 h2 h3
  unfold rd4
  rw [dif_pos ⟨(i 0).isLt, (i 1).isLt, (i 2).isLt, (i 3).isLt⟩]
  exact congrArg x (eq_ix4 i)

end Readers

/-- The arrays the layer takes. -/
structure Args where
  x : (⟨3, ![32, 2048, 1024]⟩ : Shape).Idx → EReal
  gain : (⟨2, ![1, 1024]⟩ : Shape).Idx → EReal
  win : (⟨3, ![1, 1024, 6856]⟩ : Shape).Idx → EReal
  bm : (⟨2, ![1, 2048]⟩ : Shape).Idx → EReal
  kvg : (⟨2, ![1, 128]⟩ : Shape).Idx → EReal
  wuk : (⟨4, ![1, 16, 128, 64]⟩ : Shape).Idx → EReal
  lng : (⟨2, ![1, 64]⟩ : Shape).Idx → EReal
  lnb : (⟨2, ![1, 64]⟩ : Shape).Idx → EReal
  cw : (⟨3, ![1, 4, 1024]⟩ : Shape).Idx → EReal
  cb : (⟨2, ![1, 1024]⟩ : Shape).Idx → EReal
  wa : (⟨4, ![1, 16, 64, 64]⟩ : Shape).Idx → EReal
  ba : (⟨2, ![1, 1024]⟩ : Shape).Idx → EReal
  wx : (⟨4, ![1, 16, 64, 64]⟩ : Shape).Idx → EReal
  bx : (⟨2, ![1, 1024]⟩ : Shape).Idx → EReal
  lam : (⟨2, ![1, 1024]⟩ : Shape).Idx → EReal
  wrp : (⟨3, ![1, 1024, 1024]⟩ : Shape).Idx → EReal

/-- The constant added to a mean square. -/
abbrev eps : EReal := Ideal.ofBits .f32 0x358637BD#32

/-- A row of `n` entries divided by the root of its mean square, the mean a division by `c`. -/
def rms (n : ℕ) (c : EReal) (row : ℕ → EReal) (k : ℕ) : EReal :=
  row k * Ideal.rsqrt (Ideal.div (∑ i : Fin n, row i.val * row i.val) c + eps)

variable (A : Args)

/-- The normalised input. -/
def xn (p s k : ℕ) : EReal :=
  rms 1024 (Ideal.ofBits .f32 0x44800000#32) (rd3 A.x p s) k * rd2 A.gain 0 k

/-- The normalised input projected onto column `n` of the input weights. -/
def z (p s n : ℕ) : EReal := ∑ k : Fin 1024, xn A p s k.val * rd3 A.win 0 k.val n

/-- The absorbed query of head `h` at latent channel `c`, before its scale. -/
def qlat (p s h c : ℕ) : EReal := ∑ d : Fin 64, rd4 A.wuk 0 h c d.val * z A p s (h * 64 + d.val)

/-- The scaled query. -/
def lq (p s h c : ℕ) : EReal :=
  Ideal.div (qlat A p s h c * Ideal.ofBits .f32 0x3E000000#32) (Ideal.log (Ideal.ofBits .f32 0x40000000#32))

/-- The normalised latent keys and values. -/
def ckv (p s l : ℕ) : EReal :=
  rms 128 (Ideal.ofBits .f32 0x43000000#32) (fun k => z A p s (1024 + k)) l * rd2 A.kvg 0 l

/-- The indexer's queries, scaled. -/
def qidx (p s n : ℕ) : EReal := z A p s (1152 + n) * Ideal.ofBits .f32 0x3E000000#32

/-- The mean of the indexer key's 64 entries. -/
def kmean (p s : ℕ) : EReal :=
  Ideal.div (∑ i : Fin 64, z A p s (1664 + i.val)) (Ideal.ofBits .f32 0x42800000#32)

/-- The indexer key, layer-normed. -/
def kidx (p s d : ℕ) : EReal :=
  rms 64 (Ideal.ofBits .f32 0x42800000#32) (fun k => z A p s (1664 + k) - kmean A p s) d * rd2 A.lng 0 d
    + rd2 A.lnb 0 d

/-- The indexer's head weights, scaled. -/
def widx (p s j : ℕ) : EReal := z A p s (1728 + j) * Ideal.ofBits .f32 0x3EB504F3#32

/-- `v · logistic v`. -/
def silu (v : EReal) : EReal := v * Ideal.logistic v

/-- The attention gate. -/
def sg (p s n : ℕ) : EReal := silu (z A p s (1736 + n))

/-- The merge gates, over both halves. -/
def gate (p s n : ℕ) : EReal := Ideal.logistic (z A p s (4808 + n) + rd2 A.bm 0 n)

/-- The recurrent branch's input, three zero steps put before the sequence. -/
def xpad (p s n : ℕ) : EReal := if s < 3 then 0 else z A p (s - 3) (2760 + n)

/-- The causal convolution over four steps. -/
def y (p s n : ℕ) : EReal :=
  rd2 A.cb 0 n + xpad A p s n * rd3 A.cw 0 0 n + xpad A p (s + 1) n * rd3 A.cw 0 1 n
    + xpad A p (s + 2) n * rd3 A.cw 0 2 n + xpad A p (s + 3) n * rd3 A.cw 0 3 n

/-- The recurrence gate before its logistic: one block of 64 channels at a time. -/
def ga (p s n : ℕ) : EReal :=
  (∑ i : Fin 64, rd4 A.wa 0 (n / 64) i.val (n % 64) * y A p s (n / 64 * 64 + i.val)) + rd2 A.ba 0 n

/-- The input gate before its logistic. -/
def gx (p s n : ℕ) : EReal :=
  (∑ i : Fin 64, rd4 A.wx 0 (n / 64) i.val (n % 64) * y A p s (n / 64 * 64 + i.val)) + rd2 A.bx 0 n

/-- `log (1 + exp (-Λ))`. -/
def sp (n : ℕ) : EReal :=
  max (-rd2 A.lam 0 n) 0 + Ideal.log1p (Ideal.exp (-(max (-rd2 A.lam 0 n) (-(-rd2 A.lam 0 n)))))

/-- The logarithm of the decay. -/
def la (p s n : ℕ) : EReal := Ideal.ofBits .f32 0xC1000000#32 * Ideal.logistic (ga A p s n) * sp A n

/-- The decay. -/
def dec (p s n : ℕ) : EReal := Ideal.exp (la A p s n)

/-- The recurrence's input. -/
def inp (p s n : ℕ) : EReal :=
  Ideal.sqrt (-(Ideal.exp (Ideal.ofBits .f32 0x40000000#32 * la A p s n) - 1)) * (Ideal.logistic (gx A p s n) * y A p s n)

/-- The state of the recurrence after step `s`. -/
def hst (p : ℕ) : ℕ → ℕ → EReal
  | 0, n => inp A p 0 n
  | s + 1, n => dec A p (s + 1) n * hst p s n + inp A p (s + 1) n

/-- The recurrent branch, projected back. -/
def yr (p s n : ℕ) : EReal := ∑ k : Fin 1024, hst A p s k.val * silu (z A p s (3784 + k.val)) * rd3 A.wrp 0 k.val n

/-- The recurrent branch, gated. -/
def rout (p s n : ℕ) : EReal := gate A p s (1024 + n) * yr A p s n

end Cert.Layer
-- ==== Proof.Host.lean ====
/-
  The arrays that the kernel's windows read, as functions of the arguments: the host operations before the call pack the
  weights.
-/
module

public import proofs.«01_k».proof.Proof.Gen.KernelIdeal.Frame.Runs
public import proofs.«01_k».proof.Proof.Layer
public import Idealize.ShloMosaic.Lib.Claim
public import Idealize.ShloMosaic.Lib.StableHlo.Run
public import Idealize.ShloMosaic.Lib.Pipeline.Value
public import Idealize.ShloMosaic.Lib.KernelVsHost

@[expose] public section

set_option maxRecDepth 16384

noncomputable section

namespace Cert.Layer.Body

open Cert.KernelIdeal Cert.KernelIdeal.Gen
open Idealize.ShloMosaic Idealize.ShloMosaic.TcCoe Idealize.ShloMosaic.Tactic

section Terms

/-- The input weights in the kernel's order of columns. -/
def hostW (w : FVec Ideal S1x1024x6856 .f32) : FVec Ideal S1024x6912 .bf16 :=
  have v1 : FVec Ideal S1024x6856 .f32 := shapeCast S1024x6856 w shapeCasts_S1x1024x6856_S1024x6856
  truncf .bf16 (concatenate S1024x6912 1
    [⟨S1024x1024, extractStridedSlice S1024x1024 ![0, 0] v1 slices_S1024x6856_S1024x1024_0_0⟩,
      ⟨S1024x128, extractStridedSlice S1024x128 ![0, 1024] v1 slices_S1024x6856_S1024x128_0_1024⟩,
      ⟨S1024x512, extractStridedSlice S1024x512 ![0, 1152] v1 slices_S1024x6856_S1024x512_0_1152⟩,
      ⟨S1024x64, extractStridedSlice S1024x64 ![0, 1664] v1 slices_S1024x6856_S1024x64_0_1664⟩,
      ⟨S1024x8, extractStridedSlice S1024x8 ![0, 1728] v1 slices_S1024x6856_S1024x8_0_1728⟩,
      ⟨S1024x56, (broadcastInDim S1024x56 ![] bcast_S_S1024x56 (constant S_ .f32 0x00000000#32) : FVec Ideal S1024x56 .f32)⟩,
      ⟨S1024x1024, extractStridedSlice S1024x1024 ![0, 1736] v1 slices_S1024x6856_S1024x1024_0_1736⟩,
      ⟨S1024x1024, extractStridedSlice S1024x1024 ![0, 2760] v1 slices_S1024x6856_S1024x1024_0_2760⟩,
      ⟨S1024x1024, extractStridedSlice S1024x1024 ![0, 3784] v1 slices_S1024x6856_S1024x1024_0_3784⟩,
      ⟨S1024x2048, (mulf (extractStridedSlice S1024x2048 ![0, 4808] v1 slices_S1024x6856_S1024x2048_0_4808)
        (broadcastInDim S1024x2048 ![] bcast_S_S1024x2048 (constant S_ .f32 0x3F000000#32)) : FVec Ideal S1024x2048 .f32)⟩]
    concatenates_S1024x1024_S1024x128_S1024x512_S1024x64_S1024x8_S1024x56_S1024x1024_S1024x1024_S1024x1024_S1024x2048_S1024x6912_d1)
    bitsLt_bf16_f32

/-- Pairs of the gates' 64-wide blocks on a diagonal. -/
def hostDiag (w : FVec Ideal S1x16x64x64 .f32) : FVec Ideal S8x128x128 .f32 :=
  have v29 : FVec Ideal S8x2x64x64 .f32 := shapeCast S8x2x64x64 (shapeCast S16x64x64 w shapeCasts_S1x16x64x64_S16x64x64) shapeCasts_S16x64x64_S8x2x64x64
  have z : FVec Ideal S8x64x64 .f32 := broadcastInDim S8x64x64 ![] bcast_S_S8x64x64 (constant S_ .f32 0x00000000#32)
  have v32 : FVec Ideal S8x64x64 .f32 := shapeCast S8x64x64 (extractStridedSlice S8x1x64x64 ![0, 0, 0, 0] v29 slices_S8x2x64x64_S8x1x64x64_0_0_0_0) shapeCasts_S8x1x64x64_S8x64x64
  have v35 : FVec Ideal S8x64x64 .f32 := shapeCast S8x64x64 (extractStridedSlice S8x1x64x64 ![0, 1, 0, 0] v29 slices_S8x2x64x64_S8x1x64x64_0_1_0_0) shapeCasts_S8x1x64x64_S8x64x64
  concatenate S8x128x128 1 [⟨S8x64x128, concatenate S8x64x128 2 [⟨S8x64x64, v32⟩, ⟨S8x64x64, z⟩] concatenates_S8x64x64_S8x64x64_S8x64x128_d2⟩,
    ⟨S8x64x128, concatenate S8x64x128 2 [⟨S8x64x64, z⟩, ⟨S8x64x64, v35⟩] concatenates_S8x64x64_S8x64x64_S8x64x128_d2⟩]
    concatenates_S8x64x128_S8x64x128_S8x128x128_d1

/-- The gates' weights, halved. -/
def hostG (wa wx : FVec Ideal S1x16x64x64 .f32) : FVec Ideal S8x128x256 .bf16 :=
  truncf .bf16 (mulf (broadcastInDim S8x128x256 ![] bcast_S_S8x128x256 (constant S_ .f32 0x3F000000#32))
    (concatenate S8x128x256 2 [⟨S8x128x128, hostDiag wa⟩, ⟨S8x128x128, hostDiag wx⟩]
      concatenates_S8x128x128_S8x128x128_S8x128x256_d2)) bitsLt_bf16_f32

/-- The keys' up-projection, transposed, two heads on a diagonal. -/
def hostK (w : FVec Ideal S1x16x128x64 .f32) : FVec Ideal S8x128x256 .bf16 :=
  have v52 : FVec Ideal S8x2x64x128 .f32 := shapeCast S8x2x64x128 (transpose S16x64x128 [0, 2, 1] (shapeCast S16x128x64 w shapeCasts_S1x16x128x64_S16x128x64) transposes_S16x128x64_S16x64x128_0_2_1) shapeCasts_S16x64x128_S8x2x64x128
  have z : FVec Ideal S8x64x128 .f32 := broadcastInDim S8x64x128 ![] bcast_S_S8x64x128 (constant S_ .f32 0x00000000#32)
  have v55 : FVec Ideal S8x64x128 .f32 := shapeCast S8x64x128 (extractStridedSlice S8x1x64x128 ![0, 0, 0, 0] v52 slices_S8x2x64x128_S8x1x64x128_0_0_0_0) shapeCasts_S8x1x64x128_S8x64x128
  have v58 : FVec Ideal S8x64x128 .f32 := shapeCast S8x64x128 (extractStridedSlice S8x1x64x128 ![0, 1, 0, 0] v52 slices_S8x2x64x128_S8x1x64x128_0_1_0_0) shapeCasts_S8x1x64x128_S8x64x128
  truncf .bf16 (concatenate S8x128x256 1 [⟨S8x64x256, concatenate S8x64x256 2 [⟨S8x64x128, v55⟩, ⟨S8x64x128, z⟩] concatenates_S8x64x128_S8x64x128_S8x64x256_d2⟩,
    ⟨S8x64x256, concatenate S8x64x256 2 [⟨S8x64x128, z⟩, ⟨S8x64x128, v58⟩] concatenates_S8x64x128_S8x64x128_S8x64x256_d2⟩]
    concatenates_S8x64x256_S8x64x256_S8x128x256_d1) bitsLt_bf16_f32

/-- A 64-wide row padded to 128 lanes. -/
def hostPad (x : FVec Ideal S1x64 .f32) : FVec Ideal S1x128 .f32 :=
  shapeCast S1x128 (pad S128 ![0] ![64] ![0] (shapeCast S64 x shapeCasts_S1x64_S64)
    (sitofp .f32 (constantI S_ 32 0#32) : FVec Ideal S_ .f32) pads_S64_S128_0640 h_S_) shapeCasts_S128_S1x128

/-- A bias, halved. -/
def hostHalf (x : FVec Ideal S1x1024 .f32) : FVec Ideal S1x1024 .f32 :=
  shapeCast S1x1024 (mulf (broadcastInDim S1024 ![] bcast_S_S1024 (constant S_ .f32 0x3F000000#32))
    (shapeCast S1024 x shapeCasts_S1x1024_S1024) : FVec Ideal S1024 .f32) shapeCasts_S1024_S1x1024

def hostHalf2 (x : FVec Ideal S1x2048 .f32) : FVec Ideal S1x2048 .f32 :=
  shapeCast S1x2048 (mulf (broadcastInDim S2048 ![] bcast_S_S2048 (constant S_ .f32 0x3F000000#32))
    (shapeCast S2048 x shapeCasts_S1x2048_S2048) : FVec Ideal S2048 .f32) shapeCasts_S2048_S1x2048

end Terms

variable (m : (ℓ : Loc nD τ sig) → Buf (Elt Ideal) ℓ) (c : Dev nD)

/-- The host operations before the call, in one list. -/
theorem V_cons (b : Ref sig .tc) : V m c b = StableHlo.after (hostOps0 ++ (hostOps0_1 ++ (hostOps0_2 ++ (hostOps0_3 ++ hostOps0_4)))) (fun b => m (c, b)) b := by
  simp only [V, List.flatten_cons, List.flatten_nil, List.append_nil]

theorem V_v62 : V m c main_v62 = shapeCast S1x1024 (shapeCast S1024 (m ((c : Thread nD τ).loc main_arg1)) shapeCasts_S1x1024_S1024) shapeCasts_S1024_S1x1024 := by
  rw [V_cons]
  simp only [List.cons_append, List.nil_append]
  after_results <;> rfl

theorem V_v28 : V m c main_v28 = hostW (m ((c : Thread nD τ).loc main_arg2)) := by
  rw [V_cons]
  simp only [List.cons_append, List.nil_append]
  after_results <;> rfl

theorem V_v61 : V m c main_v61 = hostK (m ((c : Thread nD τ).loc main_arg5)) := by
  rw [V_cons]
  simp only [List.cons_append, List.nil_append]
  after_results <;> rfl

theorem V_v63 : V m c main_v63 = shapeCast S1x128 (shapeCast S128 (m ((c : Thread nD τ).loc main_arg4)) shapeCasts_S1x128_S128) shapeCasts_S128_S1x128 := by
  rw [V_cons]
  simp only [List.cons_append, List.nil_append]
  after_results <;> rfl

theorem V_v65 : V m c main_v65 = hostPad (m ((c : Thread nD τ).loc main_arg6)) := by
  rw [V_cons]
  simp only [List.cons_append, List.nil_append]
  after_results <;> rfl

theorem V_v67 : V m c main_v67 = hostPad (m ((c : Thread nD τ).loc main_arg7)) := by
  rw [V_cons]
  simp only [List.cons_append, List.nil_append]
  after_results <;> rfl

theorem V_v7 : V m c main_v7 = shapeCast S4x1024 (m ((c : Thread nD τ).loc main_arg8)) shapeCasts_S1x4x1024_S4x1024 := by
  rw [V_cons]
  simp only [List.cons_append, List.nil_append]
  after_results <;> rfl

theorem V_v68 : V m c main_v68 = shapeCast S1x1024 (shapeCast S1024 (m ((c : Thread nD τ).loc main_arg9)) shapeCasts_S1x1024_S1024) shapeCasts_S1024_S1x1024 := by
  rw [V_cons]
  simp only [List.cons_append, List.nil_append]
  after_results <;> rfl

theorem V_v50 : V m c main_v50 = hostG (m ((c : Thread nD τ).loc main_arg10)) (m ((c : Thread nD τ).loc main_arg12)) := by
  rw [V_cons]
  simp only [List.cons_append, List.nil_append]
  after_results <;> rfl

theorem V_v71 : V m c main_v71 = hostHalf (m ((c : Thread nD τ).loc main_arg11)) := by
  rw [V_cons]
  simp only [List.cons_append, List.nil_append]
  after_results <;> rfl

theorem V_v74 : V m c main_v74 = hostHalf (m ((c : Thread nD τ).loc main_arg13)) := by
  rw [V_cons]
  simp only [List.cons_append, List.nil_append]
  after_results <;> rfl

theorem V_v75 : V m c main_v75 = shapeCast S1x1024 (shapeCast S1024 (m ((c : Thread nD τ).loc main_arg14)) shapeCasts_S1x1024_S1024) shapeCasts_S1024_S1x1024 := by
  rw [V_cons]
  simp only [List.cons_append, List.nil_append]
  after_results <;> rfl

theorem V_v76 : V m c main_v76 = (truncf (F := Ideal) .bf16 (shapeCast S1024x1024 (m ((c : Thread nD τ).loc main_arg15)) shapeCasts_S1x1024x1024_S1024x1024 : FVec Ideal S1024x1024 .f32) bitsLt_bf16_f32 : FVec Ideal S1024x1024 .bf16) := by
  rw [V_cons]
  simp only [List.cons_append, List.nil_append]
  after_results <;> rfl

theorem V_v79 : V m c main_v79 = hostHalf2 (m ((c : Thread nD τ).loc main_arg3)) := by
  rw [V_cons]
  simp only [List.cons_append, List.nil_append]
  after_results <;> rfl

end Cert.Layer.Body

end
-- ==== Proof.Consts.lean ====
/-
  The float constants of the two programs, as the extended reals their words denote.
-/
module

public import Idealize.ShloMosaic.PureOps.Ideal.Laws

@[expose] public section

noncomputable section

namespace Cert.Layer

open Idealize.ShloMosaic

theorem zero_word : Ideal.ofBits .f32 0x00000000#32 = 0 := by
  simp [Ideal.ofBits, Ideal.ieee]

theorem one_word : Ideal.ofBits .f32 0x3F800000#32 = ((1 : ℝ) : EReal) := by
  simp [Ideal.ofBits, Ideal.ieee, -EReal.coe_mul]; norm_num

theorem half_word : Ideal.ofBits .f32 0x3F000000#32 = ((1 / 2 : ℝ) : EReal) := by
  simp [Ideal.ofBits, Ideal.ieee, -EReal.coe_mul]; norm_num

theorem two_word : Ideal.ofBits .f32 0x40000000#32 = ((2 : ℝ) : EReal) := by
  simp [Ideal.ofBits, Ideal.ieee, -EReal.coe_mul]; norm_num

theorem neg_two_word : Ideal.ofBits .f32 0xC0000000#32 = ((-2 : ℝ) : EReal) := by
  simp [Ideal.ofBits, Ideal.ieee, -EReal.coe_mul]; norm_num

theorem neg_four_word : Ideal.ofBits .f32 0xC0800000#32 = ((-4 : ℝ) : EReal) := by
  simp [Ideal.ofBits, Ideal.ieee, -EReal.coe_mul]; norm_num

theorem neg_eight_word : Ideal.ofBits .f32 0xC1000000#32 = ((-8 : ℝ) : EReal) := by
  simp [Ideal.ofBits, Ideal.ieee, -EReal.coe_mul]; norm_num

theorem n64_word : Ideal.ofBits .f32 0x42800000#32 = ((64 : ℝ) : EReal) := by
  simp [Ideal.ofBits, Ideal.ieee, -EReal.coe_mul]; norm_num

theorem inv64_word : Ideal.ofBits .f32 0x3C800000#32 = ((1 / 64 : ℝ) : EReal) := by
  simp [Ideal.ofBits, Ideal.ieee, -EReal.coe_mul]; norm_num

theorem n1024_word : Ideal.ofBits .f32 0x44800000#32 = ((1024 : ℝ) : EReal) := by
  simp [Ideal.ofBits, Ideal.ieee, -EReal.coe_mul]; norm_num

theorem eighth_word : Ideal.ofBits .f32 0x3E000000#32 = ((1 / 8 : ℝ) : EReal) := by
  simp [Ideal.ofBits, Ideal.ieee, -EReal.coe_mul]; norm_num

/-- The constant added to a mean square is a positive real. -/
theorem eps_word : ∃ e : ℝ, Ideal.ofBits .f32 0x358637BD#32 = (e : EReal) ∧ 0 < e := by
  refine ⟨(Ideal.ofBits .f32 0x358637BD#32).toReal, ?_, ?_⟩ <;>
    simp [Ideal.ofBits, Ideal.ieee, -EReal.coe_mul]

end Cert.Layer
-- ==== Proof.HostRead.lean ====
/-
  The packed weights read at an index.
-/
module

public import proofs.«01_k».proof.Proof.Host
public import proofs.«01_k».proof.Proof.Consts
public import Idealize.ShloMosaic.Lib.Pointwise

@[expose] public section

set_option maxRecDepth 16384

noncomputable section

namespace Cert.Layer.Body

open Cert.KernelIdeal Cert.KernelIdeal.Gen
open Idealize.ShloMosaic Idealize.ShloMosaic.TcCoe Idealize.ShloMosaic.Tactic

theorem hostPad_apply (x : FVec Ideal S1x64 .f32) (i : S1x128.Idx) : hostPad x i = rd2 x 0 (i 1).val := by
  have h1 : (i 1).val < 128 := (i 1).isLt
  pointwise [hostPad]
  by_cases h : (i 1).val < 64
  · rw [dif_pos h]
    exact rd2_eq x _ rfl rfl
  · rw [dif_neg h]
    unfold rd2
    rw [dif_neg (by omega)]
    exact EReal.coe_eq_zero.mpr (by norm_num)

theorem hostHalf_apply (x : FVec Ideal S1x1024 .f32) (i : S1x1024.Idx) :
    hostHalf x i = ((1 / 2 : ℝ) : EReal) * rd2 x 0 (i 1).val := by
  have h0 : (i 0).val < 1 := (i 0).isLt
  pointwise [hostHalf]
  rw [← half_word, rd2_eq x i (a := 0) (by omega) rfl]

theorem hostHalf2_apply (x : FVec Ideal S1x2048 .f32) (i : S1x2048.Idx) :
    hostHalf2 x i = ((1 / 2 : ℝ) : EReal) * rd2 x 0 (i 1).val := by
  have h0 : (i 0).val < 1 := (i 0).isLt
  pointwise [hostHalf2]
  rw [← half_word, rd2_eq x i (a := 0) (by omega) rfl]

/-- Two heads' up-projections of the keys: row `r` is channel `r % 64` of the head of rows' half. -/
def kpk (w : (⟨4, ![1, 16, 128, 64]⟩ : Shape).Idx → EReal) (p r n : ℕ) : EReal :=
  if r / 64 = n / 128 then rd4 w 0 (2 * p + n / 128) (n % 128) (r % 64) else 0

theorem hostK_apply (x : FVec Ideal S1x16x128x64 .f32) (p : Fin 8) (r : Fin 128) (n : Fin 256) :
    hostK x (ix3 p r n) = kpk x p.val r.val n.val := by
  have h0 : p.val < 8 := p.isLt
  have h1 : r.val < 128 := r.isLt
  have h2 : n.val < 256 := n.isLt
  pointwise [hostK]
  unfold kpk
  by_cases ha : r.val < 64
  · rw [dif_pos ha]
    by_cases hb : n.val < 128
    · rw [dif_pos hb]
      refine (rd4_eq x _ (a := 0) (b := 2 * p.val + n.val / 128) (c := n.val % 128) (d := r.val % 64) rfl ?_ ?_ ?_).trans (if_pos (by omega)).symm <;>
        simp <;> omega
    · rw [dif_neg hb]
      exact (if_neg (by omega)).symm
  · rw [dif_neg ha]
    by_cases hb : n.val < 128
    · rw [dif_pos hb]
      exact (if_neg (by omega)).symm
    · rw [dif_neg hb]
      refine (rd4_eq x _ (a := 0) (b := 2 * p.val + n.val / 128) (c := n.val % 128) (d := r.val % 64) rfl ?_ ?_ ?_).trans (if_pos (by omega)).symm <;>
        simp <;> omega

/-- Two 64-wide blocks of a gate's weights, on a diagonal. -/
def dpk (w : (⟨4, ![1, 16, 64, 64]⟩ : Shape).Idx → EReal) (p r n : ℕ) : EReal :=
  if r / 64 = n / 64 then rd4 w 0 (2 * p + n / 64) (r % 64) (n % 64) else 0

theorem hostDiag_apply (x : FVec Ideal S1x16x64x64 .f32) (p : Fin 8) (r : Fin 128) (n : Fin 128) :
    hostDiag x (ix3 p r n) = dpk x p.val r.val n.val := by
  have h0 : p.val < 8 := p.isLt
  have h1 : r.val < 128 := r.isLt
  have h2 : n.val < 128 := n.isLt
  pointwise [hostDiag]
  unfold dpk
  by_cases ha : r.val < 64
  · rw [dif_pos ha]
    by_cases hb : n.val < 64
    · rw [dif_pos hb]
      refine (rd4_eq x _ (a := 0) (b := 2 * p.val + n.val / 64) (c := r.val % 64) (d := n.val % 64) rfl ?_ ?_ ?_).trans (if_pos (by omega)).symm <;>
        simp <;> omega
    · rw [dif_neg hb]
      exact (if_neg (by omega)).symm
  · rw [dif_neg ha]
    by_cases hb : n.val < 64
    · rw [dif_pos hb]
      exact (if_neg (by omega)).symm
    · rw [dif_neg hb]
      refine (rd4_eq x _ (a := 0) (b := 2 * p.val + n.val / 64) (c := r.val % 64) (d := n.val % 64) rfl ?_ ?_ ?_).trans (if_pos (by omega)).symm <;>
        simp <;> omega

/-- Both gates' weights, halved: the decay gate's columns first. -/
def gpk (wa wx : (⟨4, ![1, 16, 64, 64]⟩ : Shape).Idx → EReal) (p r n : ℕ) : EReal :=
  ((1 / 2 : ℝ) : EReal) * if n < 128 then dpk wa p r n else dpk wx p r (n - 128)

theorem hostG_apply (x x' : FVec Ideal S1x16x64x64 .f32) (p : Fin 8) (r : Fin 128) (n : Fin 256) :
    hostG x x' (ix3 p r n) = gpk x x' p.val r.val n.val := by
  have h2 : n.val < 256 := n.isLt
  pointwise [hostG]
  unfold gpk
  rw [← half_word]
  split_ifs <;> rw [hostDiag_apply]

/-- The input weights in the kernel's order of columns. -/
def wpk (w : (⟨3, ![1, 1024, 6856]⟩ : Shape).Idx → EReal) (k n : ℕ) : EReal :=
  if n < 1736 then rd3 w 0 k n else if n < 1792 then 0 else if n < 4864 then rd3 w 0 k (n - 56)
    else rd3 w 0 k (n - 56) * ((1 / 2 : ℝ) : EReal)

theorem hostW_apply (x : FVec Ideal S1x1024x6856 .f32) (r : Fin 1024) (n : Fin 6912) :
    hostW x (ix2 r n) = wpk x r.val n.val := by
  have h1 : r.val < 1024 := r.isLt
  have h2 : n.val < 6912 := n.isLt
  pointwise [hostW]
  unfold wpk
  rw [← half_word]
  have e0 : n.val < 1736 → ∀ a b d f : EReal,
      (if n.val < 1736 then a else if n.val < 1792 then b else if n.val < 4864 then d else f) = a :=
    fun h _ _ _ _ => by rw [if_pos h]
  have e1 : 1736 ≤ n.val → n.val < 1792 → ∀ a b d f : EReal,
      (if n.val < 1736 then a else if n.val < 1792 then b else if n.val < 4864 then d else f) = b :=
    fun h h' _ _ _ _ => by rw [if_neg (by omega), if_pos h']
  have e2 : 1792 ≤ n.val → n.val < 4864 → ∀ a b d f : EReal,
      (if n.val < 1736 then a else if n.val < 1792 then b else if n.val < 4864 then d else f) = d :=
    fun h h' _ _ _ _ => by rw [if_neg (by omega), if_neg (by omega), if_pos h']
  have e3 : 4864 ≤ n.val → ∀ a b d f : EReal,
      (if n.val < 1736 then a else if n.val < 1792 then b else if n.val < 4864 then d else f) = f :=
    fun h _ _ _ _ => by rw [if_neg (by omega), if_neg (by omega), if_neg (by omega)]
  by_cases a0 : n.val < 1024
  · rw [dif_pos a0, e0 (by omega)]
    exact rd3_eq x _ rfl rfl (by simp <;> omega)
  rw [dif_neg a0]
  by_cases a1 : n.val - 1024 < 128
  · rw [dif_pos a1, e0 (by omega)]
    exact rd3_eq x _ rfl rfl (by simp <;> omega)
  rw [dif_neg a1]
  by_cases a2 : n.val - 1024 - 128 < 512
  · rw [dif_pos a2, e0 (by omega)]
    exact rd3_eq x _ rfl rfl (by simp <;> omega)
  rw [dif_neg a2]
  by_cases a3 : n.val - 1024 - 128 - 512 < 64
  · rw [dif_pos a3, e0 (by omega)]
    exact rd3_eq x _ rfl rfl (by simp <;> omega)
  rw [dif_neg a3]
  by_cases a4 : n.val - 1024 - 128 - 512 - 64 < 8
  · rw [dif_pos a4, e0 (by omega)]
    exact rd3_eq x _ rfl rfl (by simp <;> omega)
  rw [dif_neg a4]
  by_cases a5 : n.val - 1024 - 128 - 512 - 64 - 8 < 56
  · rw [dif_pos a5, e1 (by omega) (by omega)]
  rw [dif_neg a5]
  by_cases a6 : n.val - 1024 - 128 - 512 - 64 - 8 - 56 < 1024
  · rw [dif_pos a6, e2 (by omega) (by omega)]
    exact rd3_eq x _ rfl rfl (by simp <;> omega)
  rw [dif_neg a6]
  by_cases a7 : n.val - 1024 - 128 - 512 - 64 - 8 - 56 - 1024 < 1024
  · rw [dif_pos a7, e2 (by omega) (by omega)]
    exact rd3_eq x _ rfl rfl (by simp <;> omega)
  rw [dif_neg a7]
  by_cases a8 : n.val - 1024 - 128 - 512 - 64 - 8 - 56 - 1024 - 1024 < 1024
  · rw [dif_pos a8, e2 (by omega) (by omega)]
    exact rd3_eq x _ rfl rfl (by simp <;> omega)
  rw [dif_neg a8]
  rw [e3 (by omega), rd3_eq x _ (a := 0) (b := r.val) (c := n.val - 56) rfl rfl (by show 4808 + _ = _; omega)]

/-- The blocks that a grid point reads: rows `512 q` onwards of sequence `p`, and the packed weights. -/
structure Feeds (A : Args) (p q : ℕ) (x0 : Vec Ideal S1x512x1024 .f32) (x1 : Vec Ideal S1x1024 .f32)
    (x2 : Vec Ideal S1024x6912 .bf16) (x3 : Vec Ideal S8x128x256 .bf16) (x4 x5 x6 : Vec Ideal S1x128 .f32)
    (x7 : Vec Ideal S4x1024 .f32) (x8 : Vec Ideal S1x1024 .f32) (x9 : Vec Ideal S8x128x256 .bf16)
    (x10 x11 x12 : Vec Ideal S1x1024 .f32) (x13 : Vec Ideal S1024x1024 .bf16) (x14 : Vec Ideal S1x2048 .f32) : Prop where
  h0 : ∀ y, x0 y = rd3 A.x p (512 * q + (y 1).val) (y 2).val
  h1 : ∀ y, x1 y = rd2 A.gain 0 (y 1).val
  h2 : ∀ y, x2 y = wpk A.win (y 0).val (y 1).val
  h3 : ∀ y, x3 y = kpk A.wuk (y 0).val (y 1).val (y 2).val
  h4 : ∀ y, x4 y = rd2 A.kvg 0 (y 1).val
  h5 : ∀ y, x5 y = rd2 A.lng 0 (y 1).val
  h6 : ∀ y, x6 y = rd2 A.lnb 0 (y 1).val
  h7 : ∀ y, x7 y = rd3 A.cw 0 (y 0).val (y 1).val
  h8 : ∀ y, x8 y = rd2 A.cb 0 (y 1).val
  h9 : ∀ y, x9 y = gpk A.wa A.wx (y 0).val (y 1).val (y 2).val
  h10 : ∀ y, x10 y = ((1 / 2 : ℝ) : EReal) * rd2 A.ba 0 (y 1).val
  h11 : ∀ y, x11 y = ((1 / 2 : ℝ) : EReal) * rd2 A.bx 0 (y 1).val
  h12 : ∀ y, x12 y = rd2 A.lam 0 (y 1).val
  h13 : ∀ y, x13 y = rd3 A.wrp 0 (y 0).val (y 1).val
  h14 : ∀ y, x14 y = ((1 / 2 : ℝ) : EReal) * rd2 A.bm 0 (y 1).val

end Cert.Layer.Body

end
-- ==== Proof.Pieces.lean ====
/-
  The values that the body computes at one grid point, in the layer's vocabulary.
-/
module

public import proofs.«01_k».proof.Proof.Step
public import proofs.«01_k».proof.Proof.HostRead
public import Idealize.ShloMosaic.Lib.Pipeline.ValueKit

@[expose] public section

set_option maxRecDepth 16384

noncomputable section

namespace Cert.Layer.Body

open Cert.KernelIdeal Cert.KernelIdeal.Gen
open Idealize.ShloMosaic Idealize.ShloMosaic.TcCoe Idealize.ShloMosaic.Tactic

/-- A coordinate of a unit-stride rectangle's index. -/
theorem unit_idx {s : Shape} (off size : Fin s.rank → ℕ) (inb : ∀ a, off a + size a ≤ s.size a)
    (y : (Rect.unit off size inb).shape.Idx) (a : Fin s.rank) :
    ((Rect.unit off size inb).idx y a).val = off a + (y a).val := by
  show off a + 1 * (y a).val = _
  omega

/-- A projection onto a packed column. -/
def prj (A : Args) (p s n : ℕ) : EReal := ∑ k : Fin 1024, xn A p s k.val * wpk A.win k.val n

theorem prj_low (A : Args) (p s n : ℕ) (h : n < 1736) : prj A p s n = z A p s n := by
  unfold prj z wpk
  simp only [if_pos h]

theorem prj_mid (A : Args) (p s n : ℕ) (h : 1792 ≤ n) (h' : n < 4864) : prj A p s n = z A p s (n - 56) := by
  unfold prj z wpk
  simp only [if_neg (show ¬n < 1736 by omega), if_neg (show ¬n < 1792 by omega), if_pos h']

theorem prj_pad (A : Args) (p s n : ℕ) (h : 1736 ≤ n) (h' : n < 1792) : prj A p s n = 0 := by
  unfold prj wpk
  simp only [if_neg (show ¬n < 1736 by omega), if_pos h', mul_zero, Finset.sum_const_zero]

theorem prj_high (A : Args) (p s n : ℕ) (h : 4864 ≤ n) : prj A p s n = ((1 / 2 : ℝ) : EReal) * z A p s (n - 56) := by
  unfold prj z wpk
  simp only [if_neg (show ¬n < 1736 by omega), if_neg (show ¬n < 1792 by omega), if_neg (show ¬n < 4864 by omega)]
  rw [← coe_mul_sum (by norm_num)]
  refine Finset.sum_congr rfl fun k _ => ?_
  rw [← mul_assoc, mul_comm]

theorem sum_mask (f : ℕ → EReal) (b : ℕ) (hb : b < 2) :
    ∑ x : Fin 128, (if x.val / 64 = b then f x.val else 0) = ∑ d : Fin 64, f (64 * b + d.val) := by
  have e := Fin.sum_univ_add (a := 64) (b := 64) (fun x : Fin (64 + 64) => if x.val / 64 = b then f x.val else 0)
  refine e.trans ?_
  have h : b = 0 ∨ b = 1 := by omega
  rcases h with rfl | rfl
  · rw [Finset.sum_congr rfl (g := fun d : Fin 64 => f (64 * 0 + d.val)) fun d _ => ?_,
      Finset.sum_eq_zero (s := Finset.univ) (f := fun i : Fin 64 => if (Fin.natAdd 64 i).val / 64 = 0 then _ else _) fun d _ => ?_, add_zero]
    · have := d.isLt
      exact if_neg (by simp only [Fin.val_natAdd]; omega)
    · have := d.isLt
      simp only [Fin.val_castAdd, Nat.mul_zero, Nat.zero_add]
      exact if_pos (by omega)
  · rw [Finset.sum_eq_zero (s := Finset.univ) (f := fun i : Fin 64 => if (Fin.castAdd 64 i).val / 64 = 1 then _ else _) fun d _ => ?_, zero_add]
    · refine Finset.sum_congr rfl fun d _ => ?_
      have := d.isLt
      simp only [Fin.val_natAdd, Nat.mul_one]
      exact if_pos (by omega)
    · have := d.isLt
      exact if_neg (by simp only [Fin.val_castAdd]; omega)

theorem sum_low (f : ℕ → EReal) :
    ∑ x : Fin 128, (if x.val < 64 then f x.val else 0) = ∑ d : Fin 64, f d.val := by
  have e := sum_mask f 0 (by omega)
  simp only [Nat.mul_zero, Nat.zero_add] at e
  rw [← e]
  refine Finset.sum_congr rfl fun x _ => ?_
  by_cases h : x.val < 64
  · rw [if_pos h, if_pos (by omega)]
  · rw [if_neg h, if_neg (by omega)]

theorem cmp64 : ∀ x : Fin 128, IntOp.cmpi CmpIPredicate.slt (BitVec.ofNat 32 x.val) 64#32 = if x.val < 64 then 1#1 else 0#1 := by
  decide +kernel

theorem sel64 (x : Fin 128) (a b : EReal) :
    Scalar.select (IntOp.cmpi CmpIPredicate.slt (BitVec.ofNat 32 x.val) 64#32) a b = if x.val < 64 then a else b := by
  rw [cmp64]
  by_cases h : x.val < 64
  · rw [if_pos h, if_pos h]; rfl
  · rw [if_neg h, if_neg h]; rfl

theorem ix2_0 {n0 n1 : ℕ} (a : Fin n0) (b : Fin n1) : ((ix2 a b) 0).val = a.val := rfl
theorem ix2_1 {n0 n1 : ℕ} (a : Fin n0) (b : Fin n1) : ((ix2 a b) 1).val = b.val := rfl
theorem ix3_0 {n0 n1 n2 : ℕ} (a : Fin n0) (b : Fin n1) (c : Fin n2) : ((ix3 a b c) 0).val = a.val := rfl
theorem ix3_1 {n0 n1 n2 : ℕ} (a : Fin n0) (b : Fin n1) (c : Fin n2) : ((ix3 a b c) 1).val = b.val := rfl
theorem ix3_2 {n0 n1 n2 : ℕ} (a : Fin n0) (b : Fin n1) (c : Fin n2) : ((ix3 a b c) 2).val = c.val := rfl
theorem off2_0 (a b : ℕ) : (![a, b] : Fin 2 → ℕ) 0 = a := rfl
theorem off2_1 (a b : ℕ) : (![a, b] : Fin 2 → ℕ) 1 = b := rfl
theorem off3_0 (a b c : ℕ) : (![a, b, c] : Fin 3 → ℕ) 0 = a := rfl
theorem off3_1 (a b c : ℕ) : (![a, b, c] : Fin 3 → ℕ) 1 = b := rfl
theorem off3_2 (a b c : ℕ) : (![a, b, c] : Fin 3 → ℕ) 2 = c := rfl

section

variable {A : Args} {p q : ℕ} {t : Fin cfg0.N}
  {x0 : Vec Ideal S1x512x1024 .f32} {x1 : Vec Ideal S1x1024 .f32}
    {x2 : Vec Ideal S1024x6912 .bf16} {x3 : Vec Ideal S8x128x256 .bf16} {x4 x5 x6 : Vec Ideal S1x128 .f32}
    {x7 : Vec Ideal S4x1024 .f32} {x8 : Vec Ideal S1x1024 .f32} {x9 : Vec Ideal S8x128x256 .bf16}
    {x10 x11 x12 : Vec Ideal S1x1024 .f32} {x13 : Vec Ideal S1024x1024 .bf16} {x14 : Vec Ideal S1x2048 .f32}
  (H : Feeds A p q x0 x1 x2 x3 x4 x5 x6 x7 x8 x9 x10 x11 x12 x13 x14)

include H

theorem ldX_eq (y : S1x512x1024.Idx) : ldX t x0 y = rd3 A.x p (512 * q + (y 1).val) (y 2).val := by
  unfold ldX
  rw [ldOf_apply, H.h0, unit_idx, unit_idx]
  simp

theorem ldG_eq (y : S1x1024.Idx) : ldG t x1 y = rd2 A.gain 0 (y 1).val := by
  unfold ldG
  rw [ldOf_apply, H.h1, unit_idx]
  simp

theorem ldW_eq {c : ℕ} (off : ℕ) (h : ∀ a, (![0, off] : Fin 2 → ℕ) a + (⟨2, ![1024, c]⟩ : Shape).size a ≤ S1024x6912.size a)
    (y : (⟨2, ![1024, c]⟩ : Shape).Idx) : ldW t x2 off h y = wpk A.win (y 0).val (off + (y 1).val) := by
  unfold ldW
  rw [ldOf_apply, H.h2, unit_idx, unit_idx]
  simp

theorem xbS_eq (r : Fin 512) (k : Fin 1024) : xbS t x0 x1 (ix2 r k) = xn A p (512 * q + r.val) k.val := by
  pointwise [xbS, k0_pay6]
  simp only [ldX_eq H, ldG_eq H]
  rfl

theorem pjS_eq (off : ℕ) (h : ∀ a, (![0, off] : Fin 2 → ℕ) a + S1024x128.size a ≤ S1024x6912.size a)
    (r : Fin 512) (n : Fin 128) : pjS t x0 x1 x2 off h (ix2 r n) = prj A p (512 * q + r.val) (off + n.val) := by
  pointwise [pjS]
  simp only [xbS_eq H, ldW_eq H]
  rfl

theorem qS_eq (r : Fin 512) (n : Fin 1024) : qS t x0 x1 x2 (ix2 r n) = z A p (512 * q + r.val) n.val := by
  have hn := n.isLt
  pointwise [qS]
  simp only [xbS_eq H, ldW_eq H, ix2_0, ix2_1, zero_add]
  exact prj_low A p _ _ (by omega)

theorem qlS_eq (k : ℕ) (r : Fin 512) (n : Fin 256) : qlS t x0 x1 x2 x3 k (ix2 r n)
    = qlat A p (512 * q + r.val) (2 * (k % 8) + n.val / 128) (n.val % 128) := by
  have hn := n.isLt
  pointwise [qlS, ldK]
  simp only [qS_eq H, ldOf_apply, H.h3, unit_idx, ix3_0, ix3_1, ix3_2, off3_0, off3_1, off3_2, zero_add, Fin.isValue, Fin.val_zero, add_zero]
  unfold kpk qlat
  have e := sum_mask (fun x => z A p (512 * q + r.val) (128 * (k % 8) + x)
    * rd4 A.wuk 0 (2 * (k % 8) + n.val / 128) (n.val % 128) (x % 64)) (n.val / 128) (by omega)
  refine Eq.trans ?_ (e.trans ?_)
  · refine Finset.sum_congr rfl fun x _ => ?_
    by_cases h : x.val / 64 = n.val / 128
    · simp only [if_pos h]
    · simp only [if_neg h, mul_zero]
  · refine Finset.sum_congr rfl fun d _ => ?_
    have hd := d.isLt
    rw [mul_comm, show (64 * (n.val / 128) + d.val) % 64 = d.val by omega,
      show 128 * (k % 8) + (64 * (n.val / 128) + d.val) = (2 * (k % 8) + n.val / 128) * 64 + d.val by omega]

theorem qitS_eq (n : Fin 512) (r : Fin 512) : qitS t x0 x1 x2 (ix2 n r) = qidx A p (512 * q + r.val) n.val := by
  have hn := n.isLt
  pointwise [qitS]
  simp only [xbS_eq H, ldW_eq H, ix2_0, ix2_1]
  unfold qidx
  rw [← prj_low A p _ _ (show 1152 + n.val < 1736 by omega)]
  rfl

theorem wtS_eq (n : Fin 8) (r : Fin 512) : wtS t x0 x1 x2 (ix2 n r) = widx A p (512 * q + r.val) n.val := by
  have hn := n.isLt
  pointwise [wtS, zkS]
  simp only [pjS_eq H]
  unfold widx
  rw [← prj_low A p _ _ (show 1728 + n.val < 1736 by omega), show 1664 + (64 + n.val) = 1728 + n.val by omega]

omit H in
theorem mean_eq (p s : ℕ) :
    (∑ x : Fin 128, if x.val < 64 then prj A p s (1664 + x.val) else 0) * ((1 / 64 : ℝ) : EReal) = kmean A p s := by
  have e : (∑ x : Fin 128, if x.val < 64 then prj A p s (1664 + x.val) else 0) = ∑ i : Fin 64, z A p s (1664 + i.val) := by
    refine (sum_low (fun i => prj A p s (1664 + i))).trans (Finset.sum_congr rfl fun d _ => ?_)
    exact prj_low A p _ _ (by have := d.isLt; omega)
  unfold kmean
  rw [e, n64_word, Ideal.div_coe (by norm_num), one_div]

omit H in
theorem square_eq (p s : ℕ) (μ : EReal) :
    (∑ x : Fin 128, if x.val < 64 then (if x.val < 64 then (prj A p s (1664 + x.val) - μ) * (prj A p s (1664 + x.val) - μ)
        else 0) else (0 : EReal))
      = ∑ i : Fin 64, (z A p s (1664 + i.val) - μ) * (z A p s (1664 + i.val) - μ) := by
  refine Eq.trans (Finset.sum_congr rfl fun x _ => ?_)
    (sum_low (fun i => (z A p s (1664 + i) - μ) * (z A p s (1664 + i) - μ)))
  by_cases h : x.val < 64
  · simp only [if_pos h, prj_low A p s (1664 + x.val) (by omega)]
  · simp only [if_neg h]

theorem kiS_eq (r : Fin 512) (n : Fin 128) (hn : n.val < 64) :
    kiS t x0 x1 x2 x5 x6 (ix2 r n) = kidx A p (512 * q + r.val) n.val := by
  have hz : prj A p (512 * q + r.val) (1664 + n.val) = z A p (512 * q + r.val) (1664 + n.val) := prj_low A p _ _ (by omega)
  pointwise [kiS, mkS, rrS, smS, bcS, zkS]
  simp only [pjS_eq H, ldOf_apply, H.h5, H.h6, unit_idx, sel64, inv64_word, mean_eq, square_eq, if_pos hn, hz, ix2_0, ix2_1,
    off2_0, off2_1, zero_add]
  unfold kidx rms
  rw [n64_word, Ideal.div_coe (by norm_num), one_div]

/-- The arguments the claim asks to be finite. -/
structure Fin' (A : Args) : Prop where
  gain : ∀ k, IsReal (rd2 A.gain 0 k)
  win : ∀ k n, IsReal (rd3 A.win 0 k n)
  lam : ∀ n, IsReal (rd2 A.lam 0 n)

omit H in
theorem xn_real (hA : Fin' A) (p s k : ℕ) (hk : k < 1024) : IsReal (xn A p s k) := by
  unfold xn rms
  obtain ⟨e, he, he0⟩ := eps_word
  rw [n1024_word, Ideal.div_coe (by norm_num), show eps = (e : EReal) from he]
  exact (rms_real (fun i : Fin 1024 => rd3 A.x p s i.val) (by norm_num) he0 ⟨k, hk⟩).mul (hA.gain k)

omit H in
theorem z_real (hA : Fin' A) (p s n : ℕ) : IsReal (z A p s n) :=
  IsReal.sum _ _ fun k _ => (xn_real hA p s k.val k.isLt).mul (hA.win k.val n)

theorem siS_eq (hA : Fin' A) (off : ℕ) (h : ∀ a, (![0, off] : Fin 2 → ℕ) a + S1024x1024.size a ≤ S1024x6912.size a)
    (h1 : 1792 ≤ off) (h2 : off + 1024 ≤ 4864) (r : Fin 512) (n : Fin 1024) :
    siS t x0 x1 x2 off h (ix2 r n) = silu (z A p (512 * q + r.val) (off + n.val - 56)) := by
  have hn := n.isLt
  have e := prj_mid A p (512 * q + r.val) (off + n.val) (by omega) (by omega)
  unfold prj at e
  pointwise [siS]
  simp only [xbS_eq H, ldW_eq H, ix2_0, ix2_1, half_word, e]
  exact silu_eq (z_real hA _ _ _)

theorem mgS_eq (off boff : ℕ) (h : ∀ a, (![0, off] : Fin 2 → ℕ) a + S1024x1024.size a ≤ S1024x6912.size a)
    (h' : ∀ a, (![0, boff] : Fin 2 → ℕ) a + S1x1024.size a ≤ S1x2048.size a)
    (r : Fin 512) (n : Fin 1024) (hb : off = 4864 + boff) :
    mgS t x0 x1 x2 x14 off boff h h' (ix2 r n) = gate A p (512 * q + r.val) (boff + n.val) := by
  have e := prj_high A p (512 * q + r.val) (off + n.val) (by omega)
  unfold prj at e
  pointwise [mgS]
  simp only [xbS_eq H, ldW_eq H, ldOf_apply, H.h14, unit_idx, ix2_0, ix2_1, off2_0, off2_1, zero_add, half_word, e]
  rw [← coe_mul_add (by norm_num), logistic_eq, show off + n.val - 56 = 4808 + (boff + n.val) by omega]
  rfl

theorem cnS_eq (r : Fin 512) (n : Fin 128) : cnS t x0 x1 x2 x4 (ix2 r n) = ckv A p (512 * q + r.val) n.val := by
  have hz : ∀ i : Fin 128, prj A p (512 * q + r.val) (1024 + i.val) = z A p (512 * q + r.val) (1024 + i.val) :=
    fun i => prj_low A p _ _ (by have := i.isLt; omega)
  pointwise [cnS, rrS, smS, bcS]
  simp only [pjS_eq H, ldOf_apply, H.h4, unit_idx, ix2_0, ix2_1, off2_0, off2_1, zero_add, hz]
  rfl

end

end Cert.Layer.Body

end
-- ==== Proof.Outputs.lean ====
/-
  The nine outputs as functions of the arguments, and what the precondition says of the arguments.
-/
module

public import proofs.«01_k».proof.Proof.Pieces
public import proofs.«01_k».proof.Defs

@[expose] public section

noncomputable section

namespace Cert.Layer

open Cert.Layer.Body Idealize.ShloMosaic Idealize.ShloMosaic.TcCoe Idealize.ShloMosaic.ValueIdx

section Outputs

open Cert.KernelIdeal

variable (A : Args)

def out0 (j : S32x16x128x2048.Idx) : EReal :=
  lq A (j 0).val ((j 1).val * 128 + (j 3).val % 128) ((j 3).val / 128) (j 2).val

def out1 (j : S32x2048x128.Idx) : EReal := ckv A (j 0).val ((j 1).val) (j 2).val

def out2 (j : S32x8x128x256.Idx) : EReal := ckv A (j 0).val ((j 1).val * 256 + (j 3).val) (j 2).val

def out3 (j : S32x16x64x1024.Idx) : EReal :=
  qidx A (j 0).val ((j 1).val * 128 + (j 3).val % 128) ((j 3).val / 128 * 64 + (j 2).val)

def out4 (j : S32x2048x64.Idx) : EReal := kidx A (j 0).val ((j 1).val) (j 2).val

def out5 (j : S32x16x8x128.Idx) : EReal := widx A (j 0).val ((j 1).val * 128 + (j 3).val) (j 2).val

def out6 (j : S32x2048x1024.Idx) : EReal := sg A (j 0).val ((j 1).val) (j 2).val

def out7 (j : S32x2048x1024.Idx) : EReal := gate A (j 0).val ((j 1).val) (j 2).val

def out8 (j : S32x2048x1024.Idx) : EReal := rout A (j 0).val ((j 1).val) (j 2).val

end Outputs

theorem inf_word : Ideal.ofBits .f32 0x7F800000#32 = ⊤ := by
  simp [Ideal.ofBits, Ideal.ieee]

/-- An entry whose size compares below infinity is real. -/
theorem real_of_cmp {x : EReal} (h : Ideal.cmp .olt (max x (-x)) (Ideal.ofBits .f32 0x7F800000#32) = 1#1) : IsReal x := by
  refine IsReal.of_abs_lt ?_
  rw [inf_word] at h
  by_contra hn
  simp [Ideal.cmp, hn] at h

section Readers

variable {n0 n1 n2 : Nat}

theorem rd2_real {x : (⟨2, ![n0, n1]⟩ : Shape).Idx → EReal} (h : ∀ i, IsReal (x i)) (a b : ℕ) : IsReal (rd2 x a b) := by
  unfold rd2
  split_ifs
  · exact h _
  · exact ⟨0, rfl⟩

theorem rd3_real {x : (⟨3, ![n0, n1, n2]⟩ : Shape).Idx → EReal} (h : ∀ i, IsReal (x i)) (a b c : ℕ) :
    IsReal (rd3 x a b c) := by
  unfold rd3
  split_ifs
  · exact h _
  · exact ⟨0, rfl⟩

end Readers

/-- The precondition, read at an argument record. -/
theorem fin_of [Cert.Pre_finite.Facts] (A : Args)
    (h1 : (Cert.Pre_finite.fn (F := Ideal) A.x A.gain A.win A.bm A.kvg A.wuk A.lng A.lnb A.cw A.cb A.wa A.ba A.wx A.bx
      A.lam A.wrp).1 = fun _ => 1#1)
    (h2 : (Cert.Pre_finite.fn (F := Ideal) A.x A.gain A.win A.bm A.kvg A.wuk A.lng A.lnb A.cw A.cb A.wa A.ba A.wx A.bx
      A.lam A.wrp).2.1 = fun _ => 1#1)
    (h3 : (Cert.Pre_finite.fn (F := Ideal) A.x A.gain A.win A.bm A.kvg A.wuk A.lng A.lnb A.cw A.cb A.wa A.ba A.wx A.bx
      A.lam A.wrp).2.2 = fun _ => 1#1) : Fin' A where
  gain k := rd2_real (fun i => real_of_cmp (congrFun h1 i)) 0 k
  win k n := rd3_real (fun i => real_of_cmp (congrFun h2 i)) 0 k n
  lam n := rd2_real (fun i => real_of_cmp (congrFun h3 i)) 0 n

end Cert.Layer

end
-- ==== Proof.Blocks.lean ====
/-
  The blocks that the body stores at one grid point, in the layer's vocabulary: the outputs of the attention's and the
  indexer's projections and the gates.
-/
module

public import proofs.«01_k».proof.Proof.Pieces

@[expose] public section

set_option maxRecDepth 16384

noncomputable section

namespace Cert.Layer.Body

open Cert.KernelIdeal Cert.KernelIdeal.Gen
open Idealize.ShloMosaic Idealize.ShloMosaic.TcCoe Idealize.ShloMosaic.Tactic

theorem mem_rec {α : Type*} (f : ℕ → α) (n : ℕ) (p : α) :
    p ∈ (Nat.rec [] (fun i ih => f i :: ih) n : List α) ↔ ∃ i, i < n ∧ p = f i := by
  induction n with
  | zero => simp
  | succ n ih =>
    show p ∈ f n :: (Nat.rec [] (fun i ih => f i :: ih) n : List α) ↔ _
    rw [List.mem_cons, ih]
    constructor
    · rintro (h | ⟨i, hi, h⟩)
      · exact ⟨n, by omega, h⟩
      · exact ⟨i, by omega, h⟩
    · rintro ⟨i, hi, h⟩
      rcases Nat.lt_succ_iff_lt_or_eq.mp hi with h' | rfl
      · exact .inr ⟨i, h', h⟩
      · exact .inl h

theorem canon_rec {S : Shape} {e : EltTy} (r : ℕ → Rect S) (v : ∀ i, (r i).shape.Idx → Elt Ideal e) (n : ℕ)
    (G : S.Idx → Elt Ideal e) (hG : ∀ i, i < n → ∀ x, v i x = G ((r i).idx x)) (y : S.Idx) (i : ℕ) (hi : i < n)
    (hy : y ∈ (r i).set) :
    View.canon (Nat.rec [] (fun i ih => ⟨r i, v i⟩ :: ih) n : List (View.Piece (Elt Ideal) S e)) y = G y := by
  refine View.canon_apply_of_pieces G _ (fun P hP x => ?_) y ⟨_, (mem_rec (fun i => (⟨r i, v i⟩ : View.Piece (Elt Ideal) S e)) n _).2 ⟨i, hi, rfl⟩, hy⟩
  obtain ⟨j, hj, rfl⟩ := (mem_rec (fun i => (⟨r i, v i⟩ : View.Piece (Elt Ideal) S e)) n _).1 hP
  exact hG j hj x

theorem canon_one {S : Shape} {e : EltTy} (r : Rect S) (v : r.shape.Idx → Elt Ideal e) (G : S.Idx → Elt Ideal e)
    (hG : ∀ x, v x = G (r.idx x)) (y : S.Idx) (hy : y ∈ r.set) :
    View.canon [(⟨r, v⟩ : View.Piece (Elt Ideal) S e)] y = G y := by
  refine View.canon_apply_of_pieces G _ (fun P' hP x => ?_) y ⟨_, List.mem_singleton.2 rfl, hy⟩
  obtain rfl := List.mem_singleton.1 hP
  exact hG x

/-- The scale of the queries. -/
def qsc : EReal := (Named.named κ "q_scale" 0x3E38AA3B#32 : Ideal .f32)

theorem scale_eq (x : EReal) :
    x * qsc
      = Ideal.div (x * Ideal.ofBits .f32 0x3E000000#32) (Ideal.log (Ideal.ofBits .f32 0x40000000#32)) := by
  have hl : Real.log 2 ≠ 0 := (Real.log_pos (by norm_num)).ne'
  have e : qsc = (((8 * (Real.log 2))⁻¹ : ℝ) : EReal) :=
    IdealRules.named_const.ideal_named_scalar _ _ _ _ rfl
  rw [e, two_word, Ideal.log_coe, if_neg (by norm_num), Ideal.div_coe hl, eighth_word, mul_assoc, ← EReal.coe_mul]
  congr 2
  rw [mul_inv, one_div, one_div]

section

variable {A : Args} {p q : ℕ} {t : Fin cfg0.N} {x0 : Vec Ideal S1x512x1024 .f32} {x1 : Vec Ideal S1x1024 .f32}
  {x2 : Vec Ideal S1024x6912 .bf16} {x3 : Vec Ideal S8x128x256 .bf16} {x4 x5 x6 : Vec Ideal S1x128 .f32}
  {x7 : Vec Ideal S4x1024 .f32} {x8 : Vec Ideal S1x1024 .f32} {x9 : Vec Ideal S8x128x256 .bf16}
  {x10 x11 x12 : Vec Ideal S1x1024 .f32} {x13 : Vec Ideal S1024x1024 .bf16} {x14 : Vec Ideal S1x2048 .f32}
  (H : Feeds A p q x0 x1 x2 x3 x4 x5 x6 x7 x8 x9 x10 x11 x12 x13 x14)

include H

omit H in
theorem qltS_def : qltS t x0 x1 x2 x3 = transpose S2048x512 [1, 0] (mulf (F := Ideal) (φ := .f32)
    (concatenate S512x2048 1 [⟨S512x256, qlS t x0 x1 x2 x3 0⟩, ⟨S512x256, qlS t x0 x1 x2 x3 1⟩,
      ⟨S512x256, qlS t x0 x1 x2 x3 2⟩, ⟨S512x256, qlS t x0 x1 x2 x3 3⟩, ⟨S512x256, qlS t x0 x1 x2 x3 4⟩,
      ⟨S512x256, qlS t x0 x1 x2 x3 5⟩, ⟨S512x256, qlS t x0 x1 x2 x3 6⟩, ⟨S512x256, qlS t x0 x1 x2 x3 7⟩]
      concatenates_S512x256_S512x256_S512x256_S512x256_S512x256_S512x256_S512x256_S512x256_S512x2048_d1)
    (broadcast S512x2048 (Named.named κ "q_scale" 0x3E38AA3B#32 : Ideal .f32))) transposes_S512x2048_p1_0_S2048x512 := rfl

theorem qltS_eq (n : Fin 2048) (r : Fin 512) :
    qltS t x0 x1 x2 x3 (ix2 n r) = lq A p (512 * q + r.val) (n.val / 128) (n.val % 128) := by
  have hn := n.isLt
  rw [qltS_def]
  pointwise
  simp only [qlS_eq H]
  have e : ∀ x : EReal, x = qlat A p (512 * q + r.val) (n.val / 128) (n.val % 128) →
      x * (Named.named κ "q_scale" 0x3E38AA3B#32 : Ideal .f32) = lq A p (512 * q + r.val) (n.val / 128) (n.val % 128) := by
    rintro _ rfl
    exact scale_eq _
  refine e _ ?_
  split_ifs <;> congr 1 <;> omega

theorem block15 (n : ℕ) (hn : n = 64) (y : S1x4x128x2048.Idx) : View.canon (L15 t x0 x1 x2 x3 n) y
    = lq A p (512 * q + ((y 1).val * 128 + (y 3).val % 128)) ((y 3).val / 128) (y 2).val := by
  have h0 : (y 0).val < 1 := (y 0).isLt
  have h1 : (y 1).val < 4 := (y 1).isLt
  have h2 : (y 2).val < 128 := (y 2).isLt
  have h3 : (y 3).val < 2048 := (y 3).isLt
  refine canon_rec (S := S1x4x128x2048) (e := .bf16) _ _ n (fun y => lq A p (512 * q + ((y 1).val * 128 + (y 3).val % 128)) ((y 3).val / 128) (y 2).val)
    (fun i hi x => ?_) y ((y 1).val * 16 + (y 3).val / 128) (by omega) ?_
  · have e0 : (x 0).val < 1 := (x 0).isLt
    have e1 : (x 1).val < 1 := (x 1).isLt
    have e2 : (x 2).val < 128 := (x 2).isLt
    have e3 : (x 3).val < 128 := (x 3).isLt
    show _ = lq A p (512 * q + (((Rect.unit _ _ _).idx x 1).val * 128 + ((Rect.unit _ _ _).idx x 3).val % 128))
      (((Rect.unit _ _ _).idx x 3).val / 128) ((Rect.unit _ _ _).idx x 2).val
    rw [unit_idx, unit_idx, unit_idx]
    show shapeCast _ _ _ x = lq A p (512 * q + ((i / 16 % 4 + (x 1).val) * 128 + (128 * (i % 16) + (x 3).val) % 128))
      ((128 * (i % 16) + (x 3).val) / 128) (0 + (x 2).val)
    pointwise
    refine (qltS_eq H _ _).trans ?_
    dsimp only
    congr 1 <;> omega
  · refine Rect.mem_set_unit.2 fun a => ?_
    fin_cases a
    · exact ⟨Nat.zero_le _, h0⟩
    · show ((y 1).val * 16 + (y 3).val / 128) / 16 % 4 ≤ (y 1).val ∧
        (y 1).val < ((y 1).val * 16 + (y 3).val / 128) / 16 % 4 + 1
      omega
    · exact ⟨Nat.zero_le _, h2.trans_eq (Nat.zero_add _).symm⟩
    · show 128 * (((y 1).val * 16 + (y 3).val / 128) % 16) ≤ (y 3).val ∧
        (y 3).val < 128 * (((y 1).val * 16 + (y 3).val / 128) % 16) + 128
      omega

theorem block16 (y : S1x512x128.Idx) : View.canon (L16 t x0 x1 x2 x4) y = ckv A p (512 * q + (y 1).val) (y 2).val := by
  have h0 : (y 0).val < 1 := (y 0).isLt
  have h1 : (y 1).val < 512 := (y 1).isLt
  have h2 : (y 2).val < 128 := (y 2).isLt
  refine canon_one (S := S1x512x128) (e := .bf16) _ _ (fun y => ckv A p (512 * q + (y 1).val) (y 2).val) (fun x => ?_) y
    ?_
  swap
  · refine Rect.mem_set_unit.2 fun a => ?_
    fin_cases a
    · exact ⟨Nat.zero_le _, h0⟩
    · exact ⟨Nat.zero_le _, h1.trans_eq (Nat.zero_add _).symm⟩
    · exact ⟨Nat.zero_le _, h2.trans_eq (Nat.zero_add _).symm⟩
  have e0 : (x 0).val < 1 := (x 0).isLt
  show _ = ckv A p (512 * q + ((Rect.unit _ _ _).idx x 1).val) ((Rect.unit _ _ _).idx x 2).val
  rw [unit_idx, unit_idx]
  show shapeCast _ _ _ x = ckv A p (512 * q + (0 + (x 1).val)) (0 + (x 2).val)
  pointwise
  exact cnS_eq H _ _

theorem block17 (n : ℕ) (hn : n = 2) (y : S1x2x128x256.Idx) : View.canon (L17 t x0 x1 x2 x4 n) y
    = ckv A p (512 * q + ((y 1).val * 256 + (y 3).val)) (y 2).val := by
  have h0 : (y 0).val < 1 := (y 0).isLt
  have h1 : (y 1).val < 2 := (y 1).isLt
  have h2 : (y 2).val < 128 := (y 2).isLt
  have h3 : (y 3).val < 256 := (y 3).isLt
  refine canon_rec (S := S1x2x128x256) (e := .bf16) _ _ n (fun y => ckv A p (512 * q + ((y 1).val * 256 + (y 3).val)) (y 2).val)
    (fun i hi x => ?_) y (y 1).val (by omega) ?_
  · have e0 : (x 0).val < 1 := (x 0).isLt
    have e1 : (x 1).val < 1 := (x 1).isLt
    show _ = ckv A p (512 * q + (((Rect.unit _ _ _).idx x 1).val * 256 + ((Rect.unit _ _ _).idx x 3).val))
      ((Rect.unit _ _ _).idx x 2).val
    rw [unit_idx, unit_idx, unit_idx]
    show shapeCast _ _ _ x = ckv A p (512 * q + ((i % 2 + (x 1).val) * 256 + (0 + (x 3).val))) (0 + (x 2).val)
    pointwise
    refine (cnS_eq H _ _).trans ?_
    dsimp only
    congr 1 <;> omega
  · refine Rect.mem_set_unit.2 fun a => ?_
    fin_cases a
    · exact ⟨Nat.zero_le _, h0⟩
    · show (y 1).val % 2 ≤ (y 1).val ∧ (y 1).val < (y 1).val % 2 + 1
      omega
    · exact ⟨Nat.zero_le _, h2.trans_eq (Nat.zero_add _).symm⟩
    · exact ⟨Nat.zero_le _, h3.trans_eq (Nat.zero_add _).symm⟩

theorem block18 (n : ℕ) (hn : n = 32) (y : S1x4x64x1024.Idx) : View.canon (L18 t x0 x1 x2 n) y
    = qidx A p (512 * q + ((y 1).val * 128 + (y 3).val % 128)) ((y 3).val / 128 * 64 + (y 2).val) := by
  have h0 : (y 0).val < 1 := (y 0).isLt
  have h1 : (y 1).val < 4 := (y 1).isLt
  have h2 : (y 2).val < 64 := (y 2).isLt
  have h3 : (y 3).val < 1024 := (y 3).isLt
  refine canon_rec (S := S1x4x64x1024) (e := .bf16) _ _ n (fun y => qidx A p (512 * q + ((y 1).val * 128 + (y 3).val % 128)) ((y 3).val / 128 * 64 + (y 2).val))
    (fun i hi x => ?_) y ((y 1).val * 8 + (y 3).val / 128) (by omega) ?_
  · have e0 : (x 0).val < 1 := (x 0).isLt
    have e1 : (x 1).val < 1 := (x 1).isLt
    have e2 : (x 2).val < 64 := (x 2).isLt
    have e3 : (x 3).val < 128 := (x 3).isLt
    show _ = qidx A p (512 * q + (((Rect.unit _ _ _).idx x 1).val * 128 + ((Rect.unit _ _ _).idx x 3).val % 128))
      (((Rect.unit _ _ _).idx x 3).val / 128 * 64 + ((Rect.unit _ _ _).idx x 2).val)
    rw [unit_idx, unit_idx, unit_idx]
    show shapeCast _ _ _ x = qidx A p (512 * q + ((i / 8 % 4 + (x 1).val) * 128 + (128 * (i % 8) + (x 3).val) % 128))
      ((128 * (i % 8) + (x 3).val) / 128 * 64 + (0 + (x 2).val))
    pointwise
    refine (qitS_eq H _ _).trans ?_
    dsimp only
    congr 1 <;> omega
  · refine Rect.mem_set_unit.2 fun a => ?_
    fin_cases a
    · exact ⟨Nat.zero_le _, h0⟩
    · show ((y 1).val * 8 + (y 3).val / 128) / 8 % 4 ≤ (y 1).val ∧
        (y 1).val < ((y 1).val * 8 + (y 3).val / 128) / 8 % 4 + 1
      omega
    · exact ⟨Nat.zero_le _, h2.trans_eq (Nat.zero_add _).symm⟩
    · show 128 * (((y 1).val * 8 + (y 3).val / 128) % 8) ≤ (y 3).val ∧
        (y 3).val < 128 * (((y 1).val * 8 + (y 3).val / 128) % 8) + 128
      omega

theorem block19 (y : S1x512x64.Idx) : View.canon (L19 t x0 x1 x2 x5 x6) y = kidx A p (512 * q + (y 1).val) (y 2).val := by
  have h0 : (y 0).val < 1 := (y 0).isLt
  have h1 : (y 1).val < 512 := (y 1).isLt
  have h2 : (y 2).val < 64 := (y 2).isLt
  refine canon_one (S := S1x512x64) (e := .bf16) _ _ (fun y => kidx A p (512 * q + (y 1).val) (y 2).val) (fun x => ?_) y
    ?_
  swap
  · refine Rect.mem_set_unit.2 fun a => ?_
    fin_cases a
    · exact ⟨Nat.zero_le _, h0⟩
    · exact ⟨Nat.zero_le _, h1.trans_eq (Nat.zero_add _).symm⟩
    · exact ⟨Nat.zero_le _, h2.trans_eq (Nat.zero_add _).symm⟩
  have e0 : (x 0).val < 1 := (x 0).isLt
  have e2 : (x 2).val < 64 := (x 2).isLt
  show _ = kidx A p (512 * q + ((Rect.unit _ _ _).idx x 1).val) ((Rect.unit _ _ _).idx x 2).val
  rw [unit_idx, unit_idx]
  show shapeCast _ _ _ x = kidx A p (512 * q + (0 + (x 1).val)) (0 + (x 2).val)
  pointwise
  exact kiS_eq H _ _ (by simpa using e2)

theorem block20 (n : ℕ) (hn : n = 4) (y : S1x4x8x128.Idx) : View.canon (L20 t x0 x1 x2 n) y
    = widx A p (512 * q + ((y 1).val * 128 + (y 3).val)) (y 2).val := by
  have h0 : (y 0).val < 1 := (y 0).isLt
  have h1 : (y 1).val < 4 := (y 1).isLt
  have h2 : (y 2).val < 8 := (y 2).isLt
  have h3 : (y 3).val < 128 := (y 3).isLt
  refine canon_rec (S := S1x4x8x128) (e := .f32) _ _ n (fun y => widx A p (512 * q + ((y 1).val * 128 + (y 3).val)) (y 2).val)
    (fun i hi x => ?_) y (y 1).val (by omega) ?_
  · have e0 : (x 0).val < 1 := (x 0).isLt
    have e1 : (x 1).val < 1 := (x 1).isLt
    show _ = widx A p (512 * q + (((Rect.unit _ _ _).idx x 1).val * 128 + ((Rect.unit _ _ _).idx x 3).val))
      ((Rect.unit _ _ _).idx x 2).val
    rw [unit_idx, unit_idx, unit_idx]
    show shapeCast _ _ _ x = widx A p (512 * q + ((i % 4 + (x 1).val) * 128 + (0 + (x 3).val))) (0 + (x 2).val)
    pointwise
    refine (wtS_eq H _ _).trans ?_
    dsimp only
    congr 1 <;> omega
  · refine Rect.mem_set_unit.2 fun a => ?_
    fin_cases a
    · exact ⟨Nat.zero_le _, h0⟩
    · show (y 1).val % 4 ≤ (y 1).val ∧ (y 1).val < (y 1).val % 4 + 1
      omega
    · exact ⟨Nat.zero_le _, h2.trans_eq (Nat.zero_add _).symm⟩
    · exact ⟨Nat.zero_le _, h3.trans_eq (Nat.zero_add _).symm⟩

theorem block21 (hA : Fin' A) (y : S1x512x1024.Idx) : View.canon (L21 t x0 x1 x2) y = sg A p (512 * q + (y 1).val) (y 2).val := by
  have h0 : (y 0).val < 1 := (y 0).isLt
  have h1 : (y 1).val < 512 := (y 1).isLt
  have h2 : (y 2).val < 1024 := (y 2).isLt
  refine canon_one (S := S1x512x1024) (e := .bf16) _ _ (fun y => sg A p (512 * q + (y 1).val) (y 2).val) (fun x => ?_) y
    ?_
  swap
  · refine Rect.mem_set_unit.2 fun a => ?_
    fin_cases a
    · exact ⟨Nat.zero_le _, h0⟩
    · exact ⟨Nat.zero_le _, h1.trans_eq (Nat.zero_add _).symm⟩
    · exact ⟨Nat.zero_le _, h2.trans_eq (Nat.zero_add _).symm⟩
  have e0 : (x 0).val < 1 := (x 0).isLt
  show _ = sg A p (512 * q + ((Rect.unit _ _ _).idx x 1).val) ((Rect.unit _ _ _).idx x 2).val
  rw [unit_idx, unit_idx]
  show shapeCast _ _ _ x = sg A p (512 * q + (0 + (x 1).val)) (0 + (x 2).val)
  pointwise
  refine (siS_eq H hA _ _ (by omega) (by omega) _ _).trans ?_
  unfold sg
  congr 2
  omega

theorem block22 (y : S1x512x1024.Idx) : View.canon (L22 t x0 x1 x2 x14) y = gate A p (512 * q + (y 1).val) (y 2).val := by
  have h0 : (y 0).val < 1 := (y 0).isLt
  have h1 : (y 1).val < 512 := (y 1).isLt
  have h2 : (y 2).val < 1024 := (y 2).isLt
  refine canon_one (S := S1x512x1024) (e := .bf16) _ _ (fun y => gate A p (512 * q + (y 1).val) (y 2).val) (fun x => ?_) y
    ?_
  swap
  · refine Rect.mem_set_unit.2 fun a => ?_
    fin_cases a
    · exact ⟨Nat.zero_le _, h0⟩
    · exact ⟨Nat.zero_le _, h1.trans_eq (Nat.zero_add _).symm⟩
    · exact ⟨Nat.zero_le _, h2.trans_eq (Nat.zero_add _).symm⟩
  have e0 : (x 0).val < 1 := (x 0).isLt
  show _ = gate A p (512 * q + ((Rect.unit _ _ _).idx x 1).val) ((Rect.unit _ _ _).idx x 2).val
  rw [unit_idx, unit_idx]
  show shapeCast _ _ _ x = gate A p (512 * q + (0 + (x 1).val)) (0 + (x 2).val)
  pointwise
  refine (mgS_eq H _ _ _ _ _ _ (by omega)).trans ?_
  rw [zero_add]

end

end Cert.Layer.Body

end
-- ==== Proof.Decay.lean ====
/-
  The recurrence's decays and inputs, as the body computes them at one grid point.
-/
module

public import proofs.«01_k».proof.Proof.Blocks

@[expose] public section

set_option maxRecDepth 16384

noncomputable section

namespace Cert.Layer.Body

open Cert.KernelIdeal Cert.KernelIdeal.Gen
open Idealize.ShloMosaic Idealize.ShloMosaic.TcCoe Idealize.ShloMosaic.Tactic

theorem canon_of {S : Shape} {e : EltTy} (L : List (View.Piece (Elt Ideal) S e)) (G : S.Idx → Elt Ideal e)
    (hG : ∀ P ∈ L, ∀ x, P.2 x = G (P.1.idx x)) (y : S.Idx) (hy : ∃ P ∈ L, y ∈ P.1.set) :
    View.canon L y = G y :=
  View.canon_apply_of_pieces G L hG y hy

/-- The rows before the convolution: eight head rows, then the point's own. -/
def ext (A : Args) (p q : ℕ) (hd : FVec Ideal S8x1024 .f32) (i n : ℕ) : EReal :=
  if i < 8 then rd2 hd i n else z A p (512 * q + (i - 8)) (2760 + n)

/-- The head rows carry the last rows of the point before, and zeros before the first. -/
def HeadOk (A : Args) (p q : ℕ) (hd : FVec Ideal S8x1024 .f32) : Prop :=
  ∀ i n : ℕ, i < 3 → n < 1024 → rd2 hd (5 + i) n = xpad A p (512 * q + i) n

theorem ext_eq {A : Args} {p q : ℕ} {hd : FVec Ideal S8x1024 .f32} (h : HeadOk A p q hd) (i n : ℕ) (hn : n < 1024) :
    ext A p q hd (5 + i) n = xpad A p (512 * q + i) n := by
  unfold ext
  by_cases hi : i < 3
  · rw [if_pos (by omega)]
    exact h i n hi hn
  · rw [if_neg (by omega)]
    unfold xpad
    rw [if_neg (by omega)]
    congr 1
    omega

section

variable {A : Args} {p q : ℕ} {t : Fin cfg0.N} {x0 : Vec Ideal S1x512x1024 .f32} {x1 : Vec Ideal S1x1024 .f32}
  {x2 : Vec Ideal S1024x6912 .bf16} {x3 : Vec Ideal S8x128x256 .bf16} {x4 x5 x6 : Vec Ideal S1x128 .f32}
  {x7 : Vec Ideal S4x1024 .f32} {x8 : Vec Ideal S1x1024 .f32} {x9 : Vec Ideal S8x128x256 .bf16}
  {x10 x11 x12 : Vec Ideal S1x1024 .f32} {x13 : Vec Ideal S1024x1024 .bf16} {x14 : Vec Ideal S1x2048 .f32}
  {hd : FVec Ideal S8x1024 .f32}
  (H : Feeds A p q x0 x1 x2 x3 x4 x5 x6 x7 x8 x9 x10 x11 x12 x13 x14)

include H

theorem pay7_eq (r : Fin 512) (n : Fin 1024) :
    k0_pay7 (ldX t x0) (ldG t x1) (ldW t x2 2816 inb_S1024x6912_S1024x1024_0_2816) (ix2 r n)
      = z A p (512 * q + r.val) (2760 + n.val) := by
  have hn := n.isLt
  pointwise [k0_pay7]
  have e : ∀ k : Fin 1024, k0_pay6 (ldX t x0) (ldG t x1) (ix2 r k) = xn A p (512 * q + r.val) k.val := fun k => xbS_eq H r k
  simp only [e, ldW_eq H, ix2_0, ix2_1]
  rw [show 2760 + n.val = 2816 + n.val - 56 by omega, ← prj_mid A p _ _ (by omega) (by omega)]
  rfl

theorem canonX (y : S520x1024.Idx) : View.canon (LX t x0 x1 x2 hd) y = ext A p q hd (y 0).val (y 1).val := by
  have h0 : (y 0).val < 520 := (y 0).isLt
  have h1 : (y 1).val < 1024 := (y 1).isLt
  refine canon_of (S := S520x1024) (e := .f32) _ (fun y => ext A p q hd (y 0).val (y 1).val) (fun P hP => ?_) y ?_
  · rcases List.mem_cons.1 hP with rfl | hP
    · intro x
      show _ = ext A p q hd ((Rect.unit (s := S520x1024) ![8, 0] S512x1024.size inb_S520x1024_S512x1024_8_0).idx x 0).val
        ((Rect.unit (s := S520x1024) ![8, 0] S512x1024.size inb_S520x1024_S512x1024_8_0).idx x 1).val
      rw [unit_idx, unit_idx]
      obtain ⟨r, n, rfl⟩ : ∃ (r : Fin 512) (n : Fin 1024), x = ix2 r n := ⟨x 0, x 1, eq_ix2 x⟩
      refine (pay7_eq H r n).trans ?_
      show _ = ext A p q hd (8 + r.val) (0 + n.val)
      unfold ext
      rw [if_neg (by omega)]
      congr 1 <;> omega
    · obtain rfl := List.mem_singleton.1 hP
      intro x
      have e0 : (x 0).val < 8 := (x 0).isLt
      show _ = ext A p q hd ((Rect.unit (s := S520x1024) ![0, 0] S8x1024.size inb_S520x1024_S8x1024_0_0).idx x 0).val
        ((Rect.unit (s := S520x1024) ![0, 0] S8x1024.size inb_S520x1024_S8x1024_0_0).idx x 1).val
      rw [unit_idx, unit_idx]
      show hd x = ext A p q hd (0 + (x 0).val) (0 + (x 1).val)
      unfold ext
      rw [if_pos (by omega)]
      exact rd2_eq hd x (by omega) (by omega)
  · by_cases h : (y 0).val < 8
    · refine ⟨⟨Rect.unit ![0, 0] S8x1024.size inb_S520x1024_S8x1024_0_0, hd⟩, List.mem_cons_of_mem _ (List.mem_singleton.2 rfl),
        (Rect.mem_set_unit (inb := inb_S520x1024_S8x1024_0_0)).2 fun a => ?_⟩
      fin_cases a
      · exact ⟨Nat.zero_le _, by show (y 0).val < 0 + 8; omega⟩
      · exact ⟨Nat.zero_le _, by show (y 1).val < 0 + 1024; omega⟩
    · refine ⟨⟨Rect.unit ![8, 0] S512x1024.size inb_S520x1024_S512x1024_8_0,
        k0_pay7 (ldX t x0) (ldG t x1) (ldW t x2 2816 inb_S1024x6912_S1024x1024_0_2816)⟩, List.mem_cons_self,
        (Rect.mem_set_unit (inb := inb_S520x1024_S512x1024_8_0)).2 fun a => ?_⟩
      fin_cases a
      · exact ⟨by show 8 ≤ (y 0).val; omega, by show (y 0).val < 8 + 512; omega⟩
      · exact ⟨Nat.zero_le _, by show (y 1).val < 0 + 1024; omega⟩

theorem rdX_eq (hH : HeadOk A p q hd) (b k : ℕ) (r : Fin 512) (n : Fin 256) :
    rdX t x0 x1 x2 hd b k (ix2 r n) = xpad A p (512 * q + (r.val + k % 4)) (256 * (b % 4) + n.val) := by
  have hn := n.isLt
  unfold rdX
  rw [View.readCov_eq_canon']
  refine (canonX H _).trans ?_
  show ext A p q hd (5 + k % 4 + 1 * r.val) (256 * (b % 4) + 1 * n.val) = _
  rw [← ext_eq hH _ _ (by omega)]
  congr 1 <;> omega

theorem yS_eq (hH : HeadOk A p q hd) (b : ℕ) (r : Fin 512) (n : Fin 256) :
    yS t x0 x1 x2 x7 x8 hd b (ix2 r n) = y A p (512 * q + r.val) (256 * (b % 4) + n.val) := by
  pointwise [yS, k0_pay10, k0_pay8, k0_pay9, ldTap, ldBias]
  simp only [rdX_eq H hH, ldOf_apply, H.h7, H.h8, unit_idx, ix2_0, ix2_1, off2_0, off2_1, zero_add, add_zero]
  unfold y
  rw [mul_comm (xpad A p (512 * q + r.val) _), mul_comm (xpad A p (512 * q + r.val + 1) _),
    mul_comm (xpad A p (512 * q + r.val + 2) _), mul_comm (xpad A p (512 * q + r.val + 3) _)]
  rfl

omit H in
theorem gate_sum (w : (⟨4, ![1, 16, 64, 64]⟩ : Shape).Idx → EReal) (P s b n : ℕ) (hb : b < 8) (hn : n < 128) :
    ∑ k : Fin 128, y A P s (128 * b + k.val) * (((1 / 2 : ℝ) : EReal) * dpk w b k.val n)
      = ((1 / 2 : ℝ) : EReal) * ∑ i : Fin 64, rd4 w 0 ((128 * b + n) / 64) i.val ((128 * b + n) % 64)
          * y A P s ((128 * b + n) / 64 * 64 + i.val) := by
  rw [← coe_mul_sum (by norm_num)]
  have e := sum_mask (fun x => ((1 / 2 : ℝ) : EReal) * (rd4 w 0 (2 * b + n / 64) (x % 64) (n % 64)
    * y A P s (128 * b + x))) (n / 64) (by omega)
  refine Eq.trans ?_ (e.trans ?_)
  · refine Finset.sum_congr rfl fun x _ => ?_
    unfold dpk
    by_cases h : x.val / 64 = n / 64
    · rw [if_pos h, if_pos h, mul_comm, mul_assoc]
    · rw [if_neg h, if_neg h, mul_zero, mul_zero]
  · refine Finset.sum_congr rfl fun d _ => ?_
    have hd := d.isLt
    rw [show (64 * (n / 64) + d.val) % 64 = d.val by omega, show (128 * b + n) / 64 = 2 * b + n / 64 by omega,
      show (128 * b + n) % 64 = n % 64 by omega,
      show 128 * b + (64 * (n / 64) + d.val) = (2 * b + n / 64) * 64 + d.val by omega]

/-- A gate's sum over its block of channels. -/
def gsum (A : Args) (w : (⟨4, ![1, 16, 64, 64]⟩ : Shape).Idx → EReal) (p s n : ℕ) : EReal :=
  ∑ i : Fin 64, rd4 w 0 (n / 64) i.val (n % 64) * y A p s (n / 64 * 64 + i.val)

theorem gS0_eq (hH : HeadOk A p q hd) (b : ℕ) (hb : b < 4) (r : Fin 512) (n : Fin 256) :
    gS0 t x0 x1 x2 x7 x8 x9 hd b (ix2 r n) = if n.val < 128
      then ((1 / 2 : ℝ) : EReal) * gsum A A.wa p (512 * q + r.val) (128 * (2 * b) + n.val)
      else ((1 / 2 : ℝ) : EReal) * gsum A A.wx p (512 * q + r.val) (128 * (2 * b) + (n.val - 128)) := by
  have hn := n.isLt
  pointwise [gS0, ldGate]
  simp only [yS_eq H hH, ldOf_apply, H.h9, unit_idx, ix2_0, ix2_1, ix3_0, ix3_1, ix3_2, off3_0, off3_1, off3_2, zero_add, add_zero,
    Fin.isValue, Fin.val_zero, gpk]
  unfold gsum
  by_cases h : n.val < 128
  · simp only [if_pos h]
    rw [← gate_sum A.wa p _ (2 * b) n.val (by omega) h]
    refine Finset.sum_congr rfl fun k _ => ?_
    rw [show 256 * (b % 4) + k.val = 128 * (2 * b) + k.val by omega, show 2 * b % 8 = 2 * b by omega]
  · simp only [if_neg h]
    rw [← gate_sum A.wx p _ (2 * b) (n.val - 128) (by omega) (by omega)]
    refine Finset.sum_congr rfl fun k _ => ?_
    rw [show 256 * (b % 4) + k.val = 128 * (2 * b) + k.val by omega, show 2 * b % 8 = 2 * b by omega]

theorem gS1_eq (hH : HeadOk A p q hd) (b : ℕ) (hb : b < 4) (r : Fin 512) (n : Fin 256) :
    gS1 t x0 x1 x2 x7 x8 x9 hd b (ix2 r n) = if n.val < 128
      then ((1 / 2 : ℝ) : EReal) * gsum A A.wa p (512 * q + r.val) (128 * (2 * b + 1) + n.val)
      else ((1 / 2 : ℝ) : EReal) * gsum A A.wx p (512 * q + r.val) (128 * (2 * b + 1) + (n.val - 128)) := by
  have hn := n.isLt
  pointwise [gS1, ldGate]
  simp only [yS_eq H hH, ldOf_apply, H.h9, unit_idx, ix2_0, ix2_1, ix3_0, ix3_1, ix3_2, off3_0, off3_1, off3_2, zero_add, add_zero,
    Fin.isValue, Fin.val_zero, gpk]
  unfold gsum
  by_cases h : n.val < 128
  · simp only [if_pos h]
    rw [← gate_sum A.wa p _ (2 * b + 1) n.val (by omega) h]
    refine Finset.sum_congr rfl fun k _ => ?_
    rw [show 256 * (b % 4) + (128 + k.val) = 128 * (2 * b + 1) + k.val by omega, show (2 * b + 1) % 8 = 2 * b + 1 by omega]
  · simp only [if_neg h]
    rw [← gate_sum A.wx p _ (2 * b + 1) (n.val - 128) (by omega) (by omega)]
    refine Finset.sum_congr rfl fun k _ => ?_
    rw [show 256 * (b % 4) + (128 + k.val) = 128 * (2 * b + 1) + k.val by omega, show (2 * b + 1) % 8 = 2 * b + 1 by omega]

theorem gaS_eq (hH : HeadOk A p q hd) (b : ℕ) (hb : b < 4) (r : Fin 512) (n : Fin 256) :
    gaS t x0 x1 x2 x7 x8 x9 hd b (ix2 r n)
      = ((1 / 2 : ℝ) : EReal) * gsum A A.wa p (512 * q + r.val) (256 * b + n.val) := by
  have hn := n.isLt
  pointwise [gaS]
  by_cases h : n.val < 128
  · simp only [dif_pos h, gS0_eq H hH b hb, if_pos h, zero_add]
    congr 2
    omega
  · simp only [dif_neg h, gS1_eq H hH b hb, zero_add]
    rw [if_pos (by omega)]
    congr 2
    omega

theorem pay16_eq (hA : Fin' A) (hH : HeadOk A p q hd) (b : ℕ) (hb : b < 4) (r : Fin 512) (n : Fin 256) :
    ∃ l : ℝ, l ≤ 0 ∧ k0_pay16 (gaS t x0 x1 x2 x7 x8 x9 hd b) (k0_pay15 (ldBias (ms0_10 t) (hs0_10 t) x10 b))
        (ldBias (ms0_12 t) (hs0_12 t) x12 b) (ix2 r n) = (l : EReal)
      ∧ la A p (512 * q + r.val) (256 * b + n.val) = (l : EReal) := by
  have hn := n.isLt
  have hb4 : b % 4 = b := by omega
  pointwise [k0_pay16, k0_pay15, ldBias]
  simp only [gaS_eq H hH b hb, ldOf_apply, H.h10, H.h12, unit_idx, ix2_0, ix2_1, off2_0, off2_1, zero_add, hb4]
  obtain ⟨m, hm⟩ := hA.lam (256 * b + n.val)
  obtain ⟨s, hs, hs0⟩ := softplus_real (v := -rd2 A.lam 0 (256 * b + n.val)) ⟨-m, by rw [hm, EReal.coe_neg]⟩
  obtain ⟨l, hl, h1, h2⟩ := log_decay hs0 (ga A p (512 * q + r.val) (256 * b + n.val))
  refine ⟨l, hl, ?_, ?_⟩
  · rw [← h1, ← hs, neg_four_word, ← coe_mul_add (by norm_num)]
    simp only [zero_sub]
    rfl
  · unfold la sp
    rw [← h2, ← hs, neg_eight_word]

theorem aP_eq (hA : Fin' A) (hH : HeadOk A p q hd) (b : ℕ) (hb : b < 4) (r : Fin 512) (n : Fin 256) :
    aP t x0 x1 x2 x7 x8 x9 x10 x12 hd b (ix2 r n) = dec A p (512 * q + r.val) (256 * b + n.val) := by
  obtain ⟨l, _, h1, h2⟩ := pay16_eq (t := t) H hA hH b hb r n
  unfold dec
  rw [h2, ← h1]
  pointwise [aP, k0_pay17]

theorem bP_eq (hA : Fin' A) (hH : HeadOk A p q hd) (b : ℕ) (hb : b < 4) (r : Fin 512) (n : Fin 256) :
    bP t x0 x1 x2 x7 x8 x9 x10 x11 x12 hd b (ix2 r n) = inp A p (512 * q + r.val) (256 * b + n.val) := by
  have hn := n.isLt
  have hb4 : b % 4 = b := by omega
  obtain ⟨l, hl, h1, h2⟩ := pay16_eq (t := t) H hA hH b hb r n
  have hg : k0_pay19 (yS t x0 x1 x2 x7 x8 hd b) (gS0 t x0 x1 x2 x7 x8 x9 hd b) (gS1 t x0 x1 x2 x7 x8 x9 hd b)
      (ldBias (ms0_11 t) (hs0_11 t) x11 b) (ix2 r n)
      = Ideal.logistic (gx A p (512 * q + r.val) (256 * b + n.val)) * y A p (512 * q + r.val) (256 * b + n.val) := by
    pointwise [k0_pay19, ldBias]
    simp only [gS0_eq H hH b hb, gS1_eq H hH b hb, yS_eq H hH, ldOf_apply, H.h11, unit_idx, ix2_0, ix2_1, off2_0, off2_1,
      zero_add, hb4, half_word]
    have e : ∀ x : EReal, x = ((1 / 2 : ℝ) : EReal) * gsum A A.wx p (512 * q + r.val) (256 * b + n.val) →
        (((1 / 2 : ℝ) : EReal) * Ideal.tanh (x + ((1 / 2 : ℝ) : EReal) * rd2 A.bx 0 (256 * b + n.val)) + ((1 / 2 : ℝ) : EReal))
          = Ideal.logistic (gx A p (512 * q + r.val) (256 * b + n.val)) := by
      rintro _ rfl
      rw [← coe_mul_add (by norm_num), logistic_eq]
      rfl
    refine congrArg (· * _) (e _ ?_)
    by_cases h : n.val < 128
    · simp only [dif_pos h]
      rw [if_neg (by omega)]
      congr 2
      omega
    · simp only [dif_neg h]
      rw [if_neg (by omega)]
      congr 2
      omega
  have hs : k0_pay18 (gaS t x0 x1 x2 x7 x8 x9 hd b) (k0_pay15 (ldBias (ms0_10 t) (hs0_10 t) x10 b))
      (ldBias (ms0_12 t) (hs0_12 t) x12 b) (ix2 r n)
      = Ideal.sqrt (-(Ideal.exp (Ideal.ofBits .f32 0x40000000#32 * la A p (512 * q + r.val) (256 * b + n.val)) - 1)) := by
    pointwise [k0_pay18]
    rw [h1, h2, two_word, neg_two_word]
    have e := input_scale hl
    rw [EReal.coe_one] at e
    exact e
  unfold inp
  rw [← hs, ← hg]
  pointwise [bP, k0_pay20]

theorem canonA (hA : Fin' A) (hH : HeadOk A p q hd) (N : ℕ) (hN : N = 4) (y : S512x1024.Idx) :
    View.canon (LA t x0 x1 x2 x7 x8 x9 x10 x12 hd N) y = dec A p (512 * q + (y 0).val) (y 1).val := by
  have h0 : (y 0).val < 512 := (y 0).isLt
  have h1 : (y 1).val < 1024 := (y 1).isLt
  refine canon_rec (S := S512x1024) (e := .f32) _ _ N (fun y => dec A p (512 * q + (y 0).val) (y 1).val)
    (fun i hi x => ?_) y ((y 1).val / 256) (by omega) ?_
  · show _ = dec A p (512 * q + ((Rect.unit _ _ _).idx x 0).val) ((Rect.unit _ _ _).idx x 1).val
    rw [unit_idx, unit_idx]
    obtain ⟨r, n, rfl⟩ : ∃ (r : Fin 512) (n : Fin 256), x = ix2 r n := ⟨x 0, x 1, eq_ix2 x⟩
    refine (aP_eq H hA hH i (by omega) r n).trans ?_
    show _ = dec A p (512 * q + (0 + r.val)) (256 * (i % 4) + n.val)
    congr 1 <;> omega
  · refine Rect.mem_set_unit.2 fun a => ?_
    fin_cases a
    · exact ⟨Nat.zero_le _, by show (y 0).val < 0 + 512; omega⟩
    · exact ⟨by show 256 * ((y 1).val / 256 % 4) ≤ (y 1).val; omega,
        by show (y 1).val < 256 * ((y 1).val / 256 % 4) + 256; omega⟩

theorem canonB (hA : Fin' A) (hH : HeadOk A p q hd) (N : ℕ) (hN : N = 4) (y : S512x1024.Idx) :
    View.canon (LB t x0 x1 x2 x7 x8 x9 x10 x11 x12 hd N) y = inp A p (512 * q + (y 0).val) (y 1).val := by
  have h0 : (y 0).val < 512 := (y 0).isLt
  have h1 : (y 1).val < 1024 := (y 1).isLt
  refine canon_rec (S := S512x1024) (e := .f32) _ _ N (fun y => inp A p (512 * q + (y 0).val) (y 1).val)
    (fun i hi x => ?_) y ((y 1).val / 256) (by omega) ?_
  · show _ = inp A p (512 * q + ((Rect.unit _ _ _).idx x 0).val) ((Rect.unit _ _ _).idx x 1).val
    rw [unit_idx, unit_idx]
    obtain ⟨r, n, rfl⟩ : ∃ (r : Fin 512) (n : Fin 256), x = ix2 r n := ⟨x 0, x 1, eq_ix2 x⟩
    refine (bP_eq H hA hH i (by omega) r n).trans ?_
    show _ = inp A p (512 * q + (0 + r.val)) (256 * (i % 4) + n.val)
    congr 1 <;> omega
  · refine Rect.mem_set_unit.2 fun a => ?_
    fin_cases a
    · exact ⟨Nat.zero_le _, by show (y 0).val < 0 + 512; omega⟩
    · exact ⟨by show 256 * ((y 1).val / 256 % 4) ≤ (y 1).val; omega,
        by show (y 1).val < 256 * ((y 1).val / 256 % 4) + 256; omega⟩

omit H in
theorem dec_real (hA : Fin' A) (p s n : ℕ) : ∃ r : ℝ, dec A p s n = (r : EReal) ∧ 0 ≤ r := by
  obtain ⟨m, hm⟩ := hA.lam n
  obtain ⟨v, hs, hs0⟩ := softplus_real (v := -rd2 A.lam 0 n) ⟨-m, by rw [hm, EReal.coe_neg]⟩
  obtain ⟨l, hl, _, h2⟩ := log_decay hs0 (ga A p s n)
  refine ⟨Real.exp l, ?_, (Real.exp_pos l).le⟩
  unfold dec la sp
  rw [hs, neg_eight_word, h2, Ideal.exp_coe]

/-- The scan's factors of a group of eight rows. -/
theorem rdA_eq (hA : Fin' A) (hH : HeadOk A p q hd) (N : ℕ) (i : Fin 8) (n : Fin 1024) :
    rdA t x0 x1 x2 x7 x8 x9 x10 x12 hd N (ix2 i n) = dec A p (512 * q + (8 * (N % 64) + i.val)) n.val := by
  have hn := n.isLt
  unfold rdA
  rw [View.readCov_eq_canon']
  refine (canonA H hA hH 4 rfl _).trans ?_
  show dec A p (512 * q + (8 * (N % 64) + 1 * i.val)) (0 + 1 * n.val) = _
  rw [one_mul, one_mul, zero_add]

theorem rdB_eq (hA : Fin' A) (hH : HeadOk A p q hd) (N : ℕ) (i : Fin 8) (n : Fin 1024) :
    rdB t x0 x1 x2 x7 x8 x9 x10 x11 x12 hd N (ix2 i n) = inp A p (512 * q + (8 * (N % 64) + i.val)) n.val := by
  have hn := n.isLt
  unfold rdB
  rw [View.readCov_eq_canon']
  refine (canonB H hA hH 4 rfl _).trans ?_
  show inp A p (512 * q + (8 * (N % 64) + 1 * i.val)) (0 + 1 * n.val) = _
  rw [one_mul, one_mul, zero_add]

end

end Cert.Layer.Body

end
-- ==== Proof.Group.lean ====
/-
  The scan's group of eight rows: three doublings are the recurrence row by row.
-/
module

public import proofs.«01_k».proof.Proof.Step
public import proofs.«01_k».proof.Proof.Numbers
public import proofs.«01_k».proof.Proof.Consts
public import Idealize.ShloMosaic.Lib.Pipeline.ValueKit
public import Idealize.ShloMosaic.Lib.KernelVsHost

@[expose] public section

set_option maxRecDepth 16384

noncomputable section

namespace Cert.Layer.Body

open Cert.KernelIdeal Cert.KernelIdeal.Gen
open Idealize.ShloMosaic Idealize.ShloMosaic.TcCoe Idealize.ShloMosaic.Tactic

/-- Rows shifted down by `d`, with `w` in the rows above. -/
def shf (d : BitVec 32) (v w : FVec Ideal S8x1024 .f32) : FVec Ideal S8x1024 .f32 :=
  select (cmpi .sge (iota .tc S8x1024 32 [0] iota_S8x1024_d0_w32) (broadcast S8x1024 d))
    (dynamicRotate 0 d none v rotates_S8x1024_d0) w

theorem cmp8 : ∀ i d : Fin 8, IntOp.cmpi CmpIPredicate.sge (BitVec.ofNat 32 i.val) (BitVec.ofNat 32 d.val)
    = if d.val ≤ i.val then 1#1 else 0#1 := by
  decide +kernel

theorem select_row (d i : Fin 8) (v w : FVec Ideal S8x1024 .f32) (n : Fin 1024) :
    select (cmpi .sge (iota .tc S8x1024 32 [0] iota_S8x1024_d0_w32) (broadcast S8x1024 (BitVec.ofNat 32 d.val))) v w (ix2 i n)
      = if d.val ≤ i.val then v (ix2 i n) else w (ix2 i n) := by
  pointwise
  rw [cmp8]
  split_ifs <;> rfl

theorem shf_low (d i : Fin 8) (v w : FVec Ideal S8x1024 .f32) (n : Fin 1024) (h : i.val < d.val) :
    shf (BitVec.ofNat 32 d.val) v w (ix2 i n) = w (ix2 i n) :=
  (select_row d i _ w n).trans (if_neg (by omega))

theorem shf_high (d i j : Fin 8) (v w : FVec Ideal S8x1024 .f32) (n : Fin 1024) (h : i.val = j.val + d.val) :
    shf (BitVec.ofNat 32 d.val) v w (ix2 i n) = v (ix2 j n) := by
  have hj := j.isLt
  have hi := i.isLt
  have hd := d.isLt
  refine (select_row d i _ w n).trans ((if_pos (by omega)).trans ?_)
  refine dynamicRotate_apply (0 : Fin 2) _ v rotates_S8x1024_d0 (ix2 i n) (ix2 j n) fun b => ?_
  match b with
  | ⟨0, _⟩ =>
    show j.val = (i.val + 8 - (BitVec.ofNat 32 d.val).toNat % 8) % 8
    rw [BitVec.toNat_ofNat, Nat.mod_eq_of_lt (show d.val < 2 ^ 32 by omega)]
    omega
  | ⟨1, _⟩ => rfl

theorem last8_eq (v : FVec Ideal S8x1024 .f32) (i : Fin 8) (n : Fin 1024) : last8 v (ix2 i n) = v (ix2 7 n) := by
  pointwise [last8]

/-- `C` after row `i` comes from `C` before the last `d` rows by the pair of `a` and `b`. -/
def Jump (C : ℕ → EReal) (n : Fin 1024) (d : ℕ) (a b : FVec Ideal S8x1024 .f32) : Prop :=
  ∀ i : Fin 8, C (i.val + 1) = a (ix2 i n) * C (i.val + 1 - d) + b (ix2 i n)
    ∧ ∃ r : ℝ, a (ix2 i n) = (r : EReal) ∧ 0 ≤ r

theorem Jump.double {C : ℕ → EReal} {n : Fin 1024} (d : Fin 8) {a b u z : FVec Ideal S8x1024 .f32}
    (h : Jump C n d.val a b) (hu : ∀ i, u i = 1) (hz : ∀ i, z i = 0) :
    Jump C n (2 * d.val) (mulf a (shf (BitVec.ofNat 32 d.val) a u))
      (addf (mulf a (shf (BitVec.ofNat 32 d.val) b z)) b) := by
  intro i
  obtain ⟨h1, r, hr, hr0⟩ := h i
  show C (i.val + 1) = a (ix2 i n) * shf (BitVec.ofNat 32 d.val) a u (ix2 i n) * C (i.val + 1 - 2 * d.val)
      + (a (ix2 i n) * shf (BitVec.ofNat 32 d.val) b z (ix2 i n) + b (ix2 i n))
    ∧ ∃ r : ℝ, a (ix2 i n) * shf (BitVec.ofNat 32 d.val) a u (ix2 i n) = (r : EReal) ∧ 0 ≤ r
  by_cases hd : i.val < d.val
  · rw [shf_low d i _ _ _ hd, shf_low d i _ _ _ hd, hu, hz, mul_one, mul_zero, zero_add, h1,
      show i.val + 1 - 2 * d.val = i.val + 1 - d.val by omega]
    exact ⟨rfl, r, hr, hr0⟩
  · have hi := i.isLt
    have hj : i.val = (⟨i.val - d.val, by omega⟩ : Fin 8).val + d.val := by show i.val = i.val - d.val + d.val; omega
    obtain ⟨h2, r', hr', hr0'⟩ := h ⟨i.val - d.val, by omega⟩
    rw [shf_high d i _ _ _ _ hj, shf_high d i _ _ _ _ hj]
    refine ⟨?_, r * r', by rw [hr, hr', EReal.coe_mul], mul_nonneg hr0 hr0'⟩
    rw [h1, show i.val + 1 - d.val = i.val - d.val + 1 by omega, h2,
      show i.val - d.val + 1 - d.val = i.val + 1 - 2 * d.val by omega, hr, coe_mul_add hr0, mul_assoc, add_assoc]

theorem grp_eq (C : ℕ → EReal) (n : Fin 1024) (a b hp : FVec Ideal S8x1024 .f32) (h : Jump C n 1 a b)
    (hh : ∀ i : Fin 8, hp (ix2 i n) = C 0) (i : Fin 8) : grp a b hp (ix2 i n) = C (i.val + 1) := by
  have hi := i.isLt
  have hu : ∀ j, broadcast (α := Ideal .f32) S8x1024 (Scalar.ofBits .f32 0x3F800000#32) j = 1 := fun j => one_word
  have hz : ∀ j, broadcast (α := Ideal .f32) S8x1024 (Scalar.ofBits .f32 0x00000000#32) j = 0 := fun j => zero_word
  have h2 := Jump.double 1 h hu hz
  have h4 := Jump.double 2 h2 hu hz
  obtain ⟨e, _⟩ := Jump.double 4 h4 hu hz i
  rw [e, show i.val + 1 - 2 * (4 : Fin 8).val = 0 by show i.val + 1 - 8 = 0; omega, ← hh i]
  rfl

end Cert.Layer.Body

end
-- ==== Proof.Rnn.lean ====
/-
  The recurrence at one grid point: the rows that the body stores, the row it carries to the next point, and the block
  of the recurrent branch's output.
-/
module

public import proofs.«01_k».proof.Proof.Decay
public import proofs.«01_k».proof.Proof.Group

@[expose] public section

set_option maxRecDepth 16384

noncomputable section

namespace Cert.Layer.Body

open Cert.KernelIdeal Cert.KernelIdeal.Gen
open Idealize.ShloMosaic Idealize.ShloMosaic.TcCoe Idealize.ShloMosaic.Tactic

/-- The state before step `s`: zero before the first. -/
def hpv (A : Args) (p : ℕ) : ℕ → ℕ → EReal
  | 0, _ => 0
  | s + 1, n => hst A p s n

theorem hst_step (A : Args) (p s n : ℕ) : hst A p s n = dec A p s n * hpv A p s n + inp A p s n := by
  cases s with
  | zero => show inp A p 0 n = dec A p 0 n * 0 + inp A p 0 n; rw [mul_zero, zero_add]
  | succ s => rfl

/-- The carried row is the state before the point's first step. -/
def CarryOk (A : Args) (p q : ℕ) (hc : FVec Ideal S8x1024 .f32) : Prop :=
  ∀ (i : Fin 8) (n : Fin 1024), hc (ix2 i n) = hpv A p (512 * q) n.val

section

variable {A : Args} {p q : ℕ} {t : Fin cfg0.N} {x0 : Vec Ideal S1x512x1024 .f32} {x1 : Vec Ideal S1x1024 .f32}
  {x2 : Vec Ideal S1024x6912 .bf16} {x3 : Vec Ideal S8x128x256 .bf16} {x4 x5 x6 : Vec Ideal S1x128 .f32}
  {x7 : Vec Ideal S4x1024 .f32} {x8 : Vec Ideal S1x1024 .f32} {x9 : Vec Ideal S8x128x256 .bf16}
  {x10 x11 x12 : Vec Ideal S1x1024 .f32} {x13 : Vec Ideal S1024x1024 .bf16} {x14 : Vec Ideal S1x2048 .f32}
  {hd hc : FVec Ideal S8x1024 .f32}
  (H : Feeds A p q x0 x1 x2 x3 x4 x5 x6 x7 x8 x9 x10 x11 x12 x13 x14)

include H

theorem grpS_eq (hA : Fin' A) (hH : HeadOk A p q hd) (N : ℕ) (hN : N < 64) (hp : FVec Ideal S8x1024 .f32)
    (hh : ∀ (i : Fin 8) (n : Fin 1024), hp (ix2 i n) = hpv A p (512 * q + 8 * N) n.val) (i : Fin 8) (n : Fin 1024) :
    grp (rdA t x0 x1 x2 x7 x8 x9 x10 x12 hd N) (rdB t x0 x1 x2 x7 x8 x9 x10 x11 x12 hd N) hp (ix2 i n)
      = hst A p (512 * q + (8 * N + i.val)) n.val := by
  refine (grp_eq (fun k => hpv A p (512 * q + 8 * N + k) n.val) n _ _ hp (fun j => ?_) (fun j => hh j n) i).trans ?_
  · rw [rdA_eq H hA hH, rdB_eq H hA hH, Nat.mod_eq_of_lt hN]
    refine ⟨?_, dec_real hA _ _ _⟩
    rw [Nat.add_sub_cancel, ← Nat.add_assoc]
    exact hst_step A p _ _
  · rw [show 512 * q + (8 * N + i.val) = 512 * q + 8 * N + i.val by omega]
    show hpv A p (512 * q + 8 * N + i.val + 1) n.val = _
    rfl

theorem hpS_eq (hA : Fin' A) (hH : HeadOk A p q hd) (hC : CarryOk A p q hc) (N : ℕ) (hN : N ≤ 64) (i : Fin 8)
    (n : Fin 1024) :
    hpS t x0 x1 x2 x7 x8 x9 x10 x11 x12 hd hc N (ix2 i n) = hpv A p (512 * q + 8 * N) n.val := by
  induction N generalizing i n with
  | zero => exact hC i n
  | succ N ih =>
    refine (last8_eq _ i n).trans ((grpS_eq H hA hH N (by omega) _ (fun i n => ih (by omega) i n) 7 n).trans ?_)
    rw [show 512 * q + 8 * (N + 1) = 512 * q + (8 * N + 7) + 1 by omega]
    rfl

theorem canonH (hA : Fin' A) (hH : HeadOk A p q hd) (hC : CarryOk A p q hc) (N : ℕ) (hN : N = 64) (y : S512x1024.Idx) :
    View.canon (LH t x0 x1 x2 x7 x8 x9 x10 x11 x12 hd hc N) y = hst A p (512 * q + (y 0).val) (y 1).val := by
  have h0 : (y 0).val < 512 := (y 0).isLt
  have h1 : (y 1).val < 1024 := (y 1).isLt
  refine canon_rec (S := S512x1024) (e := .f32) _ _ N (fun y => hst A p (512 * q + (y 0).val) (y 1).val)
    (fun k hk x => ?_) y ((y 0).val / 8) (by omega) ?_
  · show _ = hst A p (512 * q + ((Rect.unit _ _ _).idx x 0).val) ((Rect.unit _ _ _).idx x 1).val
    rw [unit_idx, unit_idx]
    obtain ⟨i, n, rfl⟩ : ∃ (i : Fin 8) (n : Fin 1024), x = ix2 i n := ⟨x 0, x 1, eq_ix2 x⟩
    pointwise
    refine (grpS_eq H hA hH k (by omega) _ (fun i n => hpS_eq H hA hH hC k (by omega) i n) i n).trans ?_
    rw [Nat.mod_eq_of_lt (by omega)]
  · refine Rect.mem_set_unit.2 fun a => ?_
    fin_cases a
    · exact ⟨by show 8 * ((y 0).val / 8 % 64) ≤ (y 0).val; omega,
        by show (y 0).val < 8 * ((y 0).val / 8 % 64) + 8; omega⟩
    · exact ⟨Nat.zero_le _, by show (y 1).val < 0 + 1024; omega⟩

theorem rdH_eq (hA : Fin' A) (hH : HeadOk A p q hd) (hC : CarryOk A p q hc) (r : Fin 512) (n : Fin 1024) :
    rdH t x0 x1 x2 x7 x8 x9 x10 x11 x12 hd hc (ix2 r n) = hst A p (512 * q + r.val) n.val := by
  unfold rdH
  rw [View.readCov_eq_canon']
  refine (canonH H hA hH hC 64 rfl _).trans ?_
  show hst A p (512 * q + (0 + 1 * r.val)) (0 + 1 * n.val) = _
  rw [one_mul, one_mul, zero_add, zero_add]

theorem rdZ_eq (hA : Fin' A) (r : Fin 512) (n : Fin 1024) :
    rdZ t x0 x1 x2 (ix2 r n) = silu (z A p (512 * q + r.val) (3784 + n.val)) := by
  have e := siS_eq (t := t) H hA 3840 inb_S1024x6912_S1024x1024_0_3840 (by omega) (by omega) r n
  unfold rdZ
  rw [View.readCov_unit_zero _ (by decide)]
  generalize siS t x0 x1 x2 3840 inb_S1024x6912_S1024x1024_0_3840 = v at e
  pointwise
  rw [e]
  congr 2
  omega

theorem rdM_eq (r : Fin 512) (n : Fin 1024) :
    rdM t x0 x1 x2 x14 (ix2 r n) = gate A p (512 * q + r.val) (1024 + n.val) := by
  have e := mgS_eq (t := t) H 5888 1024 inb_S1024x6912_S1024x1024_0_5888 inb_S1x2048_S1x1024_0_1024 r n (by omega)
  unfold rdM
  rw [View.readCov_unit_zero _ (by decide)]
  generalize mgS t x0 x1 x2 x14 5888 1024 inb_S1024x6912_S1024x1024_0_5888 inb_S1x2048_S1x1024_0_1024 = v at e
  pointwise
  exact e

theorem pay2_eq (hA : Fin' A) (hH : HeadOk A p q hd) (hC : CarryOk A p q hc) (a : Fin 1) (r : Fin 512) (n : Fin 1024) :
    k0_pay2 (rdH t x0 x1 x2 x7 x8 x9 x10 x11 x12 hd hc) (rdZ t x0 x1 x2)
      (ldOf (ms0_13 t) (hs0_13 t) x13 (Rect.unit ![0, 0] S1024x1024.size inb_S1024x1024_S1024x1024_0_0))
      (rdM t x0 x1 x2 x14) (ix3 a r n) = rout A p (512 * q + r.val) n.val := by
  pointwise [k0_pay2]
  simp only [rdH_eq H hA hH hC, rdZ_eq H hA, rdM_eq H, ldOf_apply, H.h13, unit_idx, ix2_0, ix2_1, off2_0, off2_1, zero_add]
  rfl

theorem block23 (hA : Fin' A) (hH : HeadOk A p q hd) (hC : CarryOk A p q hc) (y : S1x512x1024.Idx) :
    View.canon (L23 t x0 x1 x2 x7 x8 x9 x10 x11 x12 x13 x14 hd hc) y = rout A p (512 * q + (y 1).val) (y 2).val := by
  have h0 : (y 0).val < 1 := (y 0).isLt
  have h1 : (y 1).val < 512 := (y 1).isLt
  have h2 : (y 2).val < 1024 := (y 2).isLt
  refine canon_one (S := S1x512x1024) (e := .bf16) _ _ (fun y => rout A p (512 * q + (y 1).val) (y 2).val) (fun x => ?_) y ?_
  · show _ = rout A p (512 * q + ((Rect.unit _ _ _).idx x 1).val) ((Rect.unit _ _ _).idx x 2).val
    rw [unit_idx, unit_idx]
    obtain ⟨a, r, n, rfl⟩ : ∃ (a : Fin 1) (r : Fin 512) (n : Fin 1024), x = ix3 a r n := ⟨x 0, x 1, x 2, eq_ix3 x⟩
    refine (pay2_eq H hA hH hC a r n).trans ?_
    show _ = rout A p (512 * q + (0 + r.val)) (0 + n.val)
    rw [Nat.zero_add, Nat.zero_add]
  · refine Rect.mem_set_unit.2 fun a => ?_
    fin_cases a
    · exact ⟨Nat.zero_le _, h0⟩
    · exact ⟨Nat.zero_le _, by show (y 1).val < 0 + 512; omega⟩
    · exact ⟨Nat.zero_le _, by show (y 2).val < 0 + 1024; omega⟩

/-- The row carried to the next point. -/
theorem hcS_eq (hA : Fin' A) (hH : HeadOk A p q hd) (hC : CarryOk A p q hc) (i : Fin 8) (n : Fin 1024) :
    hcS t x0 x1 x2 x7 x8 x9 x10 x11 x12 hd hc (ix2 i n) = hpv A p (512 * (q + 1)) n.val := by
  have e := hpS_eq (t := t) H hA hH hC 64 (by omega) i n
  unfold hcS
  generalize hpS t x0 x1 x2 x7 x8 x9 x10 x11 x12 hd hc 64 = v at e
  pointwise
  rw [e]
  congr 1

end

end Cert.Layer.Body

end
-- ==== Proof.Feeds.lean ====
/-
  What the kernel's body reads at a grid point, entry by entry, in the layer's vocabulary: the blocks of the arguments and of
  the packed weights.
-/
module

public import proofs.«01_k».proof.Proof.HostRead
public import proofs.«01_k».proof.Proof.Consts
public import Idealize.ShloMosaic.Lib.Pointwise
public import Idealize.ShloMosaic.Lib.Pipeline.ValueKit

@[expose] public section

set_option maxRecDepth 16384

noncomputable section

namespace Cert.Layer.Body

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-- The layer's arguments in a memory. -/
def argsOf : Args where
  x := m ((c : Thread nD τ).loc main_arg0)
  gain := m ((c : Thread nD τ).loc main_arg1)
  win := m ((c : Thread nD τ).loc main_arg2)
  bm := m ((c : Thread nD τ).loc main_arg3)
  kvg := m ((c : Thread nD τ).loc main_arg4)
  wuk := m ((c : Thread nD τ).loc main_arg5)
  lng := m ((c : Thread nD τ).loc main_arg6)
  lnb := m ((c : Thread nD τ).loc main_arg7)
  cw := m ((c : Thread nD τ).loc main_arg8)
  cb := m ((c : Thread nD τ).loc main_arg9)
  wa := m ((c : Thread nD τ).loc main_arg10)
  ba := m ((c : Thread nD τ).loc main_arg11)
  wx := m ((c : Thread nD τ).loc main_arg12)
  bx := m ((c : Thread nD τ).loc main_arg13)
  lam := m ((c : Thread nD τ).loc main_arg14)
  wrp := m ((c : Thread nD τ).loc main_arg15)

theorem idx_x : ∀ t : Fin cfg0.N, win0_0.index t = ![t.val / 4, t.val % 4, 0] :=
  (by decide +kernel : ∀ t : Fin grid0.N, _)

theorem idx_w : ∀ t : Fin cfg0.N, win0_1.index t = ![0, 0] ∧ win0_2.index t = ![0, 0] ∧ win0_3.index t = ![0, 0, 0] ∧
    win0_4.index t = ![0, 0] ∧ win0_5.index t = ![0, 0] ∧ win0_6.index t = ![0, 0] ∧ win0_7.index t = ![0, 0] ∧
    win0_8.index t = ![0, 0] ∧ win0_9.index t = ![0, 0, 0] ∧ win0_10.index t = ![0, 0] ∧ win0_11.index t = ![0, 0] ∧
    win0_12.index t = ![0, 0] ∧ win0_13.index t = ![0, 0] ∧ win0_14.index t = ![0, 0] :=
  (by decide +kernel : ∀ t : Fin grid0.N, _)

theorem iblk_x (t : Fin cfg0.N) (y : S1x512x1024.Idx) :
    iblk m c 0 t y = rd3 (argsOf m c).x (t.val / 4) (512 * (t.val % 4) + (y 1).val) (y 2).val := by
  unfold iblk
  blk_simp
  rw [V_main_arg0]
  have h0 : (y 0).val < 1 := (y 0).isLt
  refine rd3_eq (argsOf m c).x _ ?_ ?_ ?_ <;> blk_simp [idx_x t] <;> omega

theorem ext2 {n0 n1 : ℕ} {i j : (⟨2, ![n0, n1]⟩ : Shape).Idx} (h0 : (i 0).val = (j 0).val) (h1 : (i 1).val = (j 1).val) :
    i = j := by
  rw [eq_ix2 i, eq_ix2 j, Fin.ext h0, Fin.ext h1]

theorem ext3 {n0 n1 n2 : ℕ} {i j : (⟨3, ![n0, n1, n2]⟩ : Shape).Idx} (h0 : (i 0).val = (j 0).val)
    (h1 : (i 1).val = (j 1).val) (h2 : (i 2).val = (j 2).val) : i = j := by
  rw [eq_ix3 i, eq_ix3 j, Fin.ext h0, Fin.ext h1, Fin.ext h2]

theorem iblk_1 (t : Fin cfg0.N) (y : S1x1024.Idx) : iblk m c 1 t y = V m c main_v62 y := by
  unfold iblk
  blk_simp
  exact congrArg (V m c main_v62) (ext2 (by blk_simp [idx_w t]) (by blk_simp [idx_w t]))

theorem iblk_2 (t : Fin cfg0.N) (y : S1024x6912.Idx) : iblk m c 2 t y = V m c main_v28 y := by
  unfold iblk
  blk_simp
  exact congrArg (V m c main_v28) (ext2 (by blk_simp [idx_w t]) (by blk_simp [idx_w t]))

theorem iblk_3 (t : Fin cfg0.N) (y : S8x128x256.Idx) : iblk m c 3 t y = V m c main_v61 y := by
  unfold iblk
  blk_simp
  exact congrArg (V m c main_v61) (ext3 (by blk_simp [idx_w t]) (by blk_simp [idx_w t]) (by blk_simp [idx_w t]))

theorem iblk_4 (t : Fin cfg0.N) (y : S1x128.Idx) : iblk m c 4 t y = V m c main_v63 y := by
  unfold iblk
  blk_simp
  exact congrArg (V m c main_v63) (ext2 (by blk_simp [idx_w t]) (by blk_simp [idx_w t]))

theorem iblk_5 (t : Fin cfg0.N) (y : S1x128.Idx) : iblk m c 5 t y = V m c main_v65 y := by
  unfold iblk
  blk_simp
  exact congrArg (V m c main_v65) (ext2 (by blk_simp [idx_w t]) (by blk_simp [idx_w t]))

theorem iblk_6 (t : Fin cfg0.N) (y : S1x128.Idx) : iblk m c 6 t y = V m c main_v67 y := by
  unfold iblk
  blk_simp
  exact congrArg (V m c main_v67) (ext2 (by blk_simp [idx_w t]) (by blk_simp [idx_w t]))

theorem iblk_7 (t : Fin cfg0.N) (y : S4x1024.Idx) : iblk m c 7 t y = V m c main_v7 y := by
  unfold iblk
  blk_simp
  exact congrArg (V m c main_v7) (ext2 (by blk_simp [idx_w t]) (by blk_simp [idx_w t]))

theorem iblk_8 (t : Fin cfg0.N) (y : S1x1024.Idx) : iblk m c 8 t y = V m c main_v68 y := by
  unfold iblk
  blk_simp
  exact congrArg (V m c main_v68) (ext2 (by blk_simp [idx_w t]) (by blk_simp [idx_w t]))

theorem iblk_9 (t : Fin cfg0.N) (y : S8x128x256.Idx) : iblk m c 9 t y = V m c main_v50 y := by
  unfold iblk
  blk_simp
  exact congrArg (V m c main_v50) (ext3 (by blk_simp [idx_w t]) (by blk_simp [idx_w t]) (by blk_simp [idx_w t]))

theorem iblk_10 (t : Fin cfg0.N) (y : S1x1024.Idx) : iblk m c 10 t y = V m c main_v71 y := by
  unfold iblk
  blk_simp
  exact congrArg (V m c main_v71) (ext2 (by blk_simp [idx_w t]) (by blk_simp [idx_w t]))

theorem iblk_11 (t : Fin cfg0.N) (y : S1x1024.Idx) : iblk m c 11 t y = V m c main_v74 y := by
  unfold iblk
  blk_simp
  exact congrArg (V m c main_v74) (ext2 (by blk_simp [idx_w t]) (by blk_simp [idx_w t]))

theorem iblk_12 (t : Fin cfg0.N) (y : S1x1024.Idx) : iblk m c 12 t y = V m c main_v75 y := by
  unfold iblk
  blk_simp
  exact congrArg (V m c main_v75) (ext2 (by blk_simp [idx_w t]) (by blk_simp [idx_w t]))

theorem iblk_13 (t : Fin cfg0.N) (y : S1024x1024.Idx) : iblk m c 13 t y = V m c main_v76 y := by
  unfold iblk
  blk_simp
  exact congrArg (V m c main_v76) (ext2 (by blk_simp [idx_w t]) (by blk_simp [idx_w t]))

theorem iblk_14 (t : Fin cfg0.N) (y : S1x2048.Idx) : iblk m c 14 t y = V m c main_v79 y := by
  unfold iblk
  blk_simp
  exact congrArg (V m c main_v79) (ext2 (by blk_simp [idx_w t]) (by blk_simp [idx_w t]))

theorem recast1024 (x : FVec Ideal S1x1024 .f32) (y : S1x1024.Idx) :
    shapeCast S1x1024 (shapeCast S1024 x shapeCasts_S1x1024_S1024) shapeCasts_S1024_S1x1024 y = rd2 x 0 (y 1).val := by
  have h0 : (y 0).val < 1 := (y 0).isLt
  pointwise
  exact rd2_eq x y (by omega) rfl

theorem recast128 (x : FVec Ideal S1x128 .f32) (y : S1x128.Idx) :
    shapeCast S1x128 (shapeCast S128 x shapeCasts_S1x128_S128) shapeCasts_S128_S1x128 y = rd2 x 0 (y 1).val := by
  have h0 : (y 0).val < 1 := (y 0).isLt
  pointwise
  exact rd2_eq x y (by omega) rfl

theorem recast4 (x : FVec Ideal S1x4x1024 .f32) (y : S4x1024.Idx) :
    shapeCast S4x1024 x shapeCasts_S1x4x1024_S4x1024 y = rd3 x 0 (y 0).val (y 1).val := by
  have h0 : (y 0).val < 4 := (y 0).isLt
  have h1 : (y 1).val < 1024 := (y 1).isLt
  pointwise
  exact rd3_eq x _ rfl rfl rfl

theorem recastSq (x : FVec Ideal S1x1024x1024 .f32) (y : S1024x1024.Idx) :
    truncf (F := Ideal) .bf16 (shapeCast S1024x1024 x shapeCasts_S1x1024x1024_S1024x1024 : FVec Ideal S1024x1024 .f32)
      bitsLt_bf16_f32 y = rd3 x 0 (y 0).val (y 1).val := by
  have h0 : (y 0).val < 1024 := (y 0).isLt
  have h1 : (y 1).val < 1024 := (y 1).isLt
  pointwise
  exact rd3_eq x _ rfl rfl rfl

theorem at2 {n0 n1 : ℕ} {f : (⟨2, ![n0, n1]⟩ : Shape).Idx → EReal} {g : ℕ → ℕ → EReal}
    (h : ∀ r n, f (Idealize.ShloMosaic.ix2 r n) = g r.val n.val) (y : (⟨2, ![n0, n1]⟩ : Shape).Idx) :
    f y = g (y 0).val (y 1).val :=
  (congrArg f (Idealize.ShloMosaic.eq_ix2 y)).trans (h (y 0) (y 1))

theorem at3 {n0 n1 n2 : ℕ} {f : (⟨3, ![n0, n1, n2]⟩ : Shape).Idx → EReal} {g : ℕ → ℕ → ℕ → EReal}
    (h : ∀ p r n, f (Idealize.ShloMosaic.ix3 p r n) = g p.val r.val n.val) (y : (⟨3, ![n0, n1, n2]⟩ : Shape).Idx) :
    f y = g (y 0).val (y 1).val (y 2).val :=
  (congrArg f (Idealize.ShloMosaic.eq_ix3 y)).trans (h (y 0) (y 1) (y 2))

theorem feed_1 (t : Fin cfg0.N) (y : S1x1024.Idx) : iblk m c 1 t y = rd2 (argsOf m c).gain 0 (y 1).val :=
  (iblk_1 m c t y).trans ((congrFun (V_v62 m c) y).trans (recast1024 (argsOf m c).gain y))

theorem feed_2 (t : Fin cfg0.N) (y : S1024x6912.Idx) : iblk m c 2 t y = wpk (argsOf m c).win (y 0).val (y 1).val :=
  (iblk_2 m c t y).trans ((congrFun (V_v28 m c) y).trans (at2 (fun r n => hostW_apply (argsOf m c).win r n) y))

theorem feed_3 (t : Fin cfg0.N) (y : S8x128x256.Idx) : iblk m c 3 t y = kpk (argsOf m c).wuk (y 0).val (y 1).val (y 2).val :=
  (iblk_3 m c t y).trans ((congrFun (V_v61 m c) y).trans (at3 (fun p r n => hostK_apply (argsOf m c).wuk p r n) y))

theorem feed_4 (t : Fin cfg0.N) (y : S1x128.Idx) : iblk m c 4 t y = rd2 (argsOf m c).kvg 0 (y 1).val :=
  (iblk_4 m c t y).trans ((congrFun (V_v63 m c) y).trans (recast128 (argsOf m c).kvg y))

theorem feed_5 (t : Fin cfg0.N) (y : S1x128.Idx) : iblk m c 5 t y = rd2 (argsOf m c).lng 0 (y 1).val :=
  (iblk_5 m c t y).trans ((congrFun (V_v65 m c) y).trans (hostPad_apply (argsOf m c).lng y))

theorem feed_6 (t : Fin cfg0.N) (y : S1x128.Idx) : iblk m c 6 t y = rd2 (argsOf m c).lnb 0 (y 1).val :=
  (iblk_6 m c t y).trans ((congrFun (V_v67 m c) y).trans (hostPad_apply (argsOf m c).lnb y))

theorem feed_7 (t : Fin cfg0.N) (y : S4x1024.Idx) : iblk m c 7 t y = rd3 (argsOf m c).cw 0 (y 0).val (y 1).val :=
  (iblk_7 m c t y).trans ((congrFun (V_v7 m c) y).trans (recast4 (argsOf m c).cw y))

theorem feed_8 (t : Fin cfg0.N) (y : S1x1024.Idx) : iblk m c 8 t y = rd2 (argsOf m c).cb 0 (y 1).val :=
  (iblk_8 m c t y).trans ((congrFun (V_v68 m c) y).trans (recast1024 (argsOf m c).cb y))

theorem feed_9 (t : Fin cfg0.N) (y : S8x128x256.Idx) : iblk m c 9 t y = gpk (argsOf m c).wa (argsOf m c).wx (y 0).val (y 1).val (y 2).val :=
  (iblk_9 m c t y).trans ((congrFun (V_v50 m c) y).trans (at3 (fun p r n => hostG_apply (argsOf m c).wa (argsOf m c).wx p r n) y))

theorem feed_10 (t : Fin cfg0.N) (y : S1x1024.Idx) : iblk m c 10 t y = ((1 / 2 : ℝ) : EReal) * rd2 (argsOf m c).ba 0 (y 1).val :=
  (iblk_10 m c t y).trans ((congrFun (V_v71 m c) y).trans (hostHalf_apply (argsOf m c).ba y))

theorem feed_11 (t : Fin cfg0.N) (y : S1x1024.Idx) : iblk m c 11 t y = ((1 / 2 : ℝ) : EReal) * rd2 (argsOf m c).bx 0 (y 1).val :=
  (iblk_11 m c t y).trans ((congrFun (V_v74 m c) y).trans (hostHalf_apply (argsOf m c).bx y))

theorem feed_12 (t : Fin cfg0.N) (y : S1x1024.Idx) : iblk m c 12 t y = rd2 (argsOf m c).lam 0 (y 1).val :=
  (iblk_12 m c t y).trans ((congrFun (V_v75 m c) y).trans (recast1024 (argsOf m c).lam y))

theorem feed_13 (t : Fin cfg0.N) (y : S1024x1024.Idx) : iblk m c 13 t y = rd3 (argsOf m c).wrp 0 (y 0).val (y 1).val :=
  (iblk_13 m c t y).trans ((congrFun (V_v76 m c) y).trans (recastSq (argsOf m c).wrp y))

theorem feed_14 (t : Fin cfg0.N) (y : S1x2048.Idx) : iblk m c 14 t y = ((1 / 2 : ℝ) : EReal) * rd2 (argsOf m c).bm 0 (y 1).val :=
  (iblk_14 m c t y).trans ((congrFun (V_v79 m c) y).trans (hostHalf2_apply (argsOf m c).bm y))

/-- What the body reads at point `t`. -/
theorem feeds (t : Fin cfg0.N) : Feeds (argsOf m c) (t.val / 4) (t.val % 4) (iblk m c 0 t) (iblk m c 1 t) (iblk m c 2 t)
    (iblk m c 3 t) (iblk m c 4 t) (iblk m c 5 t) (iblk m c 6 t) (iblk m c 7 t) (iblk m c 8 t) (iblk m c 9 t)
    (iblk m c 10 t) (iblk m c 11 t) (iblk m c 12 t) (iblk m c 13 t) (iblk m c 14 t) :=
  ⟨iblk_x m c t, feed_1 m c t, feed_2 m c t, feed_3 m c t, feed_4 m c t, feed_5 m c t, feed_6 m c t, feed_7 m c t, feed_8 m c t, feed_9 m c t, feed_10 m c t, feed_11 m c t, feed_12 m c t, feed_13 m c t, feed_14 m c t⟩

end Cert.Layer.Body

end
-- ==== Proof.StepRuns.lean ====
/-
  The pieces that a run of the body stores, in either case of its conditionals, are the pieces of one grid point's step.
-/
module

public import proofs.«01_k».proof.Proof.Step

@[expose] public section

set_option maxRecDepth 16384

noncomputable section

namespace Cert.Layer.Body

open Cert.KernelIdeal Cert.KernelIdeal.Gen
open Idealize.ShloMosaic Idealize.ShloMosaic.TcCoe Idealize.ShloMosaic.Tactic
open Idealize.ShloMosaic.Pipeline (Dat Cfg Window BodyObligation cellOf)

variable {F : FTy → Type} [FloatOps F] [Named F]
variable (m : (ℓ : Loc nD τ sig) → Buf (Elt F) ℓ)

/-- The head rows and the row before at a sequence's first point: zeros. -/
def hdA : FVec F S8x1024 .f32 :=
  shapeCast S8x1024 (broadcast S8x1024 (Scalar.ofBits .f32 0x00000000#32)) shapeCasts_S8x1024_S8x1024

def LCA : List (View.Piece (Elt F) S8x1024 .f32) :=
  [⟨Rect.unit ![0, 0] S8x1024.size inb_S8x1024_S8x1024_0_0, hdA⟩]

def hcA : FVec F S8x1024 .f32 :=
  scM0_4.view.readCov LCA (Rect.unit (s := S8x1024) ![0, 0] S8x1024.size inb_S8x1024_S8x1024_0_0).toLoadRect

/-- At a later point: the last rows of the point before. -/
def hdB (xs0 : Vec F S520x1024 .f32) : FVec F S8x1024 .f32 :=
  shapeCast S8x1024 (ldOf scM0_0 (Memref.isWhole_whole _) xs0
    (Rect.unit ![512, 0] S8x1024.size inb_S520x1024_S8x1024_512_0)) shapeCasts_S8x1024_S8x1024

def hcB (xs4 : Vec F S8x1024 .f32) : FVec F S8x1024 .f32 :=
  ldOf scM0_4 (Memref.isWhole_whole _) xs4 (Rect.unit ![0, 0] S8x1024.size inb_S8x1024_S8x1024_0_0)

theorem piecesA_15 (c : Dev nD) (t : Fin cfg0.N) (h0 : t.val % 4 = 0) (h1 : ¬1 ≤ t.val % 4) :
    (runA m c t h0 h1).1 = L15 t (iblk m c 0 t) (iblk m c 1 t) (iblk m c 2 t) (iblk m c 3 t) 64 := by
  sl_kernel_rfl

theorem piecesA_16 (c : Dev nD) (t : Fin cfg0.N) (h0 : t.val % 4 = 0) (h1 : ¬1 ≤ t.val % 4) :
    (runA m c t h0 h1).2.1 = L16 t (iblk m c 0 t) (iblk m c 1 t) (iblk m c 2 t) (iblk m c 4 t) := by
  sl_kernel_rfl

theorem piecesA_17 (c : Dev nD) (t : Fin cfg0.N) (h0 : t.val % 4 = 0) (h1 : ¬1 ≤ t.val % 4) :
    (runA m c t h0 h1).2.2.1 = L17 t (iblk m c 0 t) (iblk m c 1 t) (iblk m c 2 t) (iblk m c 4 t) 2 := by
  sl_kernel_rfl

theorem piecesA_18 (c : Dev nD) (t : Fin cfg0.N) (h0 : t.val % 4 = 0) (h1 : ¬1 ≤ t.val % 4) :
    (runA m c t h0 h1).2.2.2.1 = L18 t (iblk m c 0 t) (iblk m c 1 t) (iblk m c 2 t) 32 := by
  sl_kernel_rfl

theorem piecesA_19 (c : Dev nD) (t : Fin cfg0.N) (h0 : t.val % 4 = 0) (h1 : ¬1 ≤ t.val % 4) :
    (runA m c t h0 h1).2.2.2.2.1 = L19 t (iblk m c 0 t) (iblk m c 1 t) (iblk m c 2 t) (iblk m c 5 t) (iblk m c 6 t) := by
  sl_kernel_rfl

theorem piecesA_20 (c : Dev nD) (t : Fin cfg0.N) (h0 : t.val % 4 = 0) (h1 : ¬1 ≤ t.val % 4) :
    (runA m c t h0 h1).2.2.2.2.2.1 = L20 t (iblk m c 0 t) (iblk m c 1 t) (iblk m c 2 t) 4 := by
  sl_kernel_rfl

theorem piecesA_21 (c : Dev nD) (t : Fin cfg0.N) (h0 : t.val % 4 = 0) (h1 : ¬1 ≤ t.val % 4) :
    (runA m c t h0 h1).2.2.2.2.2.2.1 = L21 t (iblk m c 0 t) (iblk m c 1 t) (iblk m c 2 t) := by
  sl_kernel_rfl

theorem piecesA_22 (c : Dev nD) (t : Fin cfg0.N) (h0 : t.val % 4 = 0) (h1 : ¬1 ≤ t.val % 4) :
    (runA m c t h0 h1).2.2.2.2.2.2.2.1 = L22 t (iblk m c 0 t) (iblk m c 1 t) (iblk m c 2 t) (iblk m c 14 t) := by
  sl_kernel_rfl

theorem piecesA_23 (c : Dev nD) (t : Fin cfg0.N) (h0 : t.val % 4 = 0) (h1 : ¬1 ≤ t.val % 4) :
    (runA m c t h0 h1).2.2.2.2.2.2.2.2.1 = L23 t (iblk m c 0 t) (iblk m c 1 t) (iblk m c 2 t) (iblk m c 7 t) (iblk m c 8 t) (iblk m c 9 t) (iblk m c 10 t) (iblk m c 11 t) (iblk m c 12 t) (iblk m c 13 t) (iblk m c 14 t) hdA hcA := by
  sl_kernel_rfl

theorem piecesB_15 (c : Dev nD) (t : Fin cfg0.N) (h0 : ¬t.val % 4 = 0) (h1 : 1 ≤ t.val % 4) (xs0 : Vec F S520x1024 .f32) (xs4 : Vec F S8x1024 .f32) :
    (runB m c t h0 h1 xs0 xs4).1 = L15 t (iblk m c 0 t) (iblk m c 1 t) (iblk m c 2 t) (iblk m c 3 t) 64 := by
  sl_kernel_rfl

theorem piecesB_16 (c : Dev nD) (t : Fin cfg0.N) (h0 : ¬t.val % 4 = 0) (h1 : 1 ≤ t.val % 4) (xs0 : Vec F S520x1024 .f32) (xs4 : Vec F S8x1024 .f32) :
    (runB m c t h0 h1 xs0 xs4).2.1 = L16 t (iblk m c 0 t) (iblk m c 1 t) (iblk m c 2 t) (iblk m c 4 t) := by
  sl_kernel_rfl

theorem piecesB_17 (c : Dev nD) (t : Fin cfg0.N) (h0 : ¬t.val % 4 = 0) (h1 : 1 ≤ t.val % 4) (xs0 : Vec F S520x1024 .f32) (xs4 : Vec F S8x1024 .f32) :
    (runB m c t h0 h1 xs0 xs4).2.2.1 = L17 t (iblk m c 0 t) (iblk m c 1 t) (iblk m c 2 t) (iblk m c 4 t) 2 := by
  sl_kernel_rfl

theorem piecesB_18 (c : Dev nD) (t : Fin cfg0.N) (h0 : ¬t.val % 4 = 0) (h1 : 1 ≤ t.val % 4) (xs0 : Vec F S520x1024 .f32) (xs4 : Vec F S8x1024 .f32) :
    (runB m c t h0 h1 xs0 xs4).2.2.2.1 = L18 t (iblk m c 0 t) (iblk m c 1 t) (iblk m c 2 t) 32 := by
  sl_kernel_rfl

theorem piecesB_19 (c : Dev nD) (t : Fin cfg0.N) (h0 : ¬t.val % 4 = 0) (h1 : 1 ≤ t.val % 4) (xs0 : Vec F S520x1024 .f32) (xs4 : Vec F S8x1024 .f32) :
    (runB m c t h0 h1 xs0 xs4).2.2.2.2.1 = L19 t (iblk m c 0 t) (iblk m c 1 t) (iblk m c 2 t) (iblk m c 5 t) (iblk m c 6 t) := by
  sl_kernel_rfl

theorem piecesB_20 (c : Dev nD) (t : Fin cfg0.N) (h0 : ¬t.val % 4 = 0) (h1 : 1 ≤ t.val % 4) (xs0 : Vec F S520x1024 .f32) (xs4 : Vec F S8x1024 .f32) :
    (runB m c t h0 h1 xs0 xs4).2.2.2.2.2.1 = L20 t (iblk m c 0 t) (iblk m c 1 t) (iblk m c 2 t) 4 := by
  sl_kernel_rfl

theorem piecesB_21 (c : Dev nD) (t : Fin cfg0.N) (h0 : ¬t.val % 4 = 0) (h1 : 1 ≤ t.val % 4) (xs0 : Vec F S520x1024 .f32) (xs4 : Vec F S8x1024 .f32) :
    (runB m c t h0 h1 xs0 xs4).2.2.2.2.2.2.1 = L21 t (iblk m c 0 t) (iblk m c 1 t) (iblk m c 2 t) := by
  sl_kernel_rfl

theorem piecesB_22 (c : Dev nD) (t : Fin cfg0.N) (h0 : ¬t.val % 4 = 0) (h1 : 1 ≤ t.val % 4) (xs0 : Vec F S520x1024 .f32) (xs4 : Vec F S8x1024 .f32) :
    (runB m c t h0 h1 xs0 xs4).2.2.2.2.2.2.2.1 = L22 t (iblk m c 0 t) (iblk m c 1 t) (iblk m c 2 t) (iblk m c 14 t) := by
  sl_kernel_rfl

theorem piecesB_23 (c : Dev nD) (t : Fin cfg0.N) (h0 : ¬t.val % 4 = 0) (h1 : 1 ≤ t.val % 4) (xs0 : Vec F S520x1024 .f32) (xs4 : Vec F S8x1024 .f32) :
    (runB m c t h0 h1 xs0 xs4).2.2.2.2.2.2.2.2.1 = L23 t (iblk m c 0 t) (iblk m c 1 t) (iblk m c 2 t) (iblk m c 7 t) (iblk m c 8 t) (iblk m c 9 t) (iblk m c 10 t) (iblk m c 11 t) (iblk m c 12 t) (iblk m c 13 t) (iblk m c 14 t) (hdB xs0) (hcB xs4) := by
  sl_kernel_rfl

end Cert.Layer.Body

end
-- ==== Proof.StepCarry.lean ====
/-
  What a run of the body leaves in its carried buffers, as the pieces of one grid point's step.
-/
module

public import proofs.«01_k».proof.Proof.BodyOuts
public import proofs.«01_k».proof.Proof.StepRuns

@[expose] public section

set_option maxRecDepth 16384

noncomputable section

namespace Cert.Layer.Body

open Cert.KernelIdeal Cert.KernelIdeal.Gen
open Idealize.ShloMosaic Idealize.ShloMosaic.TcCoe Idealize.ShloMosaic.Tactic
open Idealize.ShloMosaic.Pipeline (Dat Cfg Window BodyObligation cellOf)

variable {F : FTy → Type} [FloatOps F] [Named F]
variable (m : (ℓ : Loc nD τ sig) → Buf (Elt F) ℓ) (c : Dev nD)

theorem piecesA_scr0 (t : Fin cfg0.N) (h0 : t.val % 4 = 0) (h1 : ¬1 ≤ t.val % 4) :
    (runA m c t h0 h1).2.2.2.2.2.2.2.2.2.1 = LX t (iblk m c 0 t) (iblk m c 1 t) (iblk m c 2 t) hdA := by
  sl_kernel_rfl

theorem piecesA_scr4 (t : Fin cfg0.N) (h0 : t.val % 4 = 0) (h1 : ¬1 ≤ t.val % 4) :
    (runA m c t h0 h1).2.2.2.2.2.2.2.2.2.2.1 = LC t (iblk m c 0 t) (iblk m c 1 t) (iblk m c 2 t) (iblk m c 7 t)
      (iblk m c 8 t) (iblk m c 9 t) (iblk m c 10 t) (iblk m c 11 t) (iblk m c 12 t) hdA hcA LCA := by
  sl_kernel_rfl

theorem piecesB_scr0 (t : Fin cfg0.N) (h0 : ¬t.val % 4 = 0) (h1 : 1 ≤ t.val % 4) (xs0 : Vec F S520x1024 .f32)
    (xs4 : Vec F S8x1024 .f32) :
    (runB m c t h0 h1 xs0 xs4).2.2.2.2.2.2.2.2.2.1 = LX t (iblk m c 0 t) (iblk m c 1 t) (iblk m c 2 t) (hdB xs0) := by
  sl_kernel_rfl

theorem piecesB_scr4 (t : Fin cfg0.N) (h0 : ¬t.val % 4 = 0) (h1 : 1 ≤ t.val % 4) (xs0 : Vec F S520x1024 .f32)
    (xs4 : Vec F S8x1024 .f32) :
    (runB m c t h0 h1 xs0 xs4).2.2.2.2.2.2.2.2.2.2.1 = LC t (iblk m c 0 t) (iblk m c 1 t) (iblk m c 2 t) (iblk m c 7 t)
      (iblk m c 8 t) (iblk m c 9 t) (iblk m c 10 t) (iblk m c 11 t) (iblk m c 12 t) (hdB xs0) (hcB xs4) [] := by
  sl_kernel_rfl

/-! What a point leaves in the row buffer and in the carried row, as what it writes there. -/

theorem scrA_0 (t : Fin cfg0.N) (h0 : t.val % 4 = 0) (h1 : ¬1 ≤ t.val % 4) :
    (outsAt0 m c t.val t.isLt).2.2.2.2.2.2.2.2.2.1 = VS0_0.read (Elt F) (VS0_0.writes (Elt F) VS0_0.junk
      (LX t (iblk m c 0 t) (iblk m c 1 t) (iblk m c 2 t) hdA)) :=
  (congrArg (fun o => o.2.2.2.2.2.2.2.2.2.1) (outsAt0_A m c t h0 h1)).trans ((outsA_scr0 m c t h0 h1).trans
    (congrArg (fun l => VS0_0.read (Elt F) (VS0_0.writes (Elt F) VS0_0.junk l)) (piecesA_scr0 m c t h0 h1)))

theorem scrA_4 (t : Fin cfg0.N) (h0 : t.val % 4 = 0) (h1 : ¬1 ≤ t.val % 4) :
    (outsAt0 m c t.val t.isLt).2.2.2.2.2.2.2.2.2.2 = VS0_4.read (Elt F) (VS0_4.writes (Elt F) VS0_4.junk
      (LC t (iblk m c 0 t) (iblk m c 1 t) (iblk m c 2 t) (iblk m c 7 t)
        (iblk m c 8 t) (iblk m c 9 t) (iblk m c 10 t) (iblk m c 11 t) (iblk m c 12 t) hdA hcA LCA)) :=
  (congrArg (fun o => o.2.2.2.2.2.2.2.2.2.2) (outsAt0_A m c t h0 h1)).trans ((outsA_scr4 m c t h0 h1).trans
    (congrArg (fun l => VS0_4.read (Elt F) (VS0_4.writes (Elt F) VS0_4.junk l)) (piecesA_scr4 m c t h0 h1)))

theorem scrB_0 (t : Fin cfg0.N) (h0 : ¬t.val % 4 = 0) (h1 : 1 ≤ t.val % 4) :
    (outsAt0 m c t.val t.isLt).2.2.2.2.2.2.2.2.2.1 = VS0_0.read (Elt F) (VS0_0.writes (Elt F) VS0_0.junk
      (LX t (iblk m c 0 t) (iblk m c 1 t) (iblk m c 2 t)
        (hdB (outsAt0 m c (t.val - 1) (Nat.lt_of_le_of_lt (Nat.sub_le _ _) t.isLt)).2.2.2.2.2.2.2.2.2.1))) :=
  (congrArg (fun o => o.2.2.2.2.2.2.2.2.2.1) (outsAt0_B m c t h0 h1)).trans ((outsB_scr0 m c t h0 h1 _ _).trans
    (congrArg (fun l => VS0_0.read (Elt F) (VS0_0.writes (Elt F) VS0_0.junk l)) (piecesB_scr0 m c t h0 h1 _ _)))

theorem scrB_4 (t : Fin cfg0.N) (h0 : ¬t.val % 4 = 0) (h1 : 1 ≤ t.val % 4) :
    (outsAt0 m c t.val t.isLt).2.2.2.2.2.2.2.2.2.2 = VS0_4.read (Elt F) (VS0_4.writes (Elt F) VS0_4.junk
      (LC t (iblk m c 0 t) (iblk m c 1 t) (iblk m c 2 t) (iblk m c 7 t)
        (iblk m c 8 t) (iblk m c 9 t) (iblk m c 10 t) (iblk m c 11 t) (iblk m c 12 t)
        (hdB (outsAt0 m c (t.val - 1) (Nat.lt_of_le_of_lt (Nat.sub_le _ _) t.isLt)).2.2.2.2.2.2.2.2.2.1)
        (hcB (outsAt0 m c (t.val - 1) (Nat.lt_of_le_of_lt (Nat.sub_le _ _) t.isLt)).2.2.2.2.2.2.2.2.2.2) [])) :=
  (congrArg (fun o => o.2.2.2.2.2.2.2.2.2.2) (outsAt0_B m c t h0 h1)).trans ((outsB_scr4 m c t h0 h1 _ _).trans
    (congrArg (fun l => VS0_4.read (Elt F) (VS0_4.writes (Elt F) VS0_4.junk l)) (piecesB_scr4 m c t h0 h1 _ _)))

end Cert.Layer.Body

end
-- ==== Proof.Final.lean ====
/-
  The arrays that the kernel leaves, in the layer's vocabulary.
-/
module

public import proofs.«01_k».proof.Proof.Blocks
public import proofs.«01_k».proof.Proof.Feeds
public import proofs.«01_k».proof.Proof.StepRuns
public import proofs.«01_k».proof.Proof.BodyFrame

@[expose] public section

set_option maxRecDepth 16384

noncomputable section

namespace Cert.Layer.Body

open Cert.KernelIdeal Cert.KernelIdeal.Gen
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem idx_o : ∀ t : Fin cfg0.N, win0_15.index t = ![t.val / 4, t.val % 4, 0, 0] ∧ win0_16.index t = ![t.val / 4, t.val % 4, 0]
    ∧ win0_17.index t = ![t.val / 4, t.val % 4, 0, 0] ∧ win0_18.index t = ![t.val / 4, t.val % 4, 0, 0]
    ∧ win0_19.index t = ![t.val / 4, t.val % 4, 0] ∧ win0_20.index t = ![t.val / 4, t.val % 4, 0, 0]
    ∧ win0_21.index t = ![t.val / 4, t.val % 4, 0] ∧ win0_22.index t = ![t.val / 4, t.val % 4, 0]
    ∧ win0_23.index t = ![t.val / 4, t.val % 4, 0] :=
  (by decide +kernel : ∀ t : Fin grid0.N, _)

theorem after_15 (t : Fin cfg0.N) (y : S1x4x128x2048.Idx) : (outsAt0 m c t.val t.isLt).1 y
    = lq (argsOf m c) (t.val / 4) (512 * (t.val % 4) + ((y 1).val * 128 + (y 3).val % 128)) ((y 3).val / 128) (y 2).val := by
  by_cases h0 : t.val % 4 = 0
  · rw [outsAt0_A m c t h0 (by omega), outsA_15, piecesA_15]
    exact (View.read_writes_junk_apply_eq_canon _ _ _).trans (block15 (feeds m c t) 64 rfl y)
  · rw [outsAt0_B m c t h0 (by omega), outsB_15, piecesB_15]
    exact (View.read_writes_junk_apply_eq_canon _ _ _).trans (block15 (feeds m c t) 64 rfl y)

theorem arr_15 : (dats m 0 c).arrAt 15 cfg0.N = fun j : S32x16x128x2048.Idx =>
    lq (argsOf m c) (j 0).val ((j 1).val * 128 + (j 3).val % 128) ((j 3).val / 128) (j 2).val := by
  refine (dats m 0 c).arrAt_eq_of_covers 15 _ (by decide +kernel) fun t hf y => ?_
  blk_simp [idx_o t]
  rw [after0_15]
  refine (after_15 m c t _).trans ?_
  dsimp only
  congr 1 <;> omega

theorem after_16 (t : Fin cfg0.N) (y : S1x512x128.Idx) : (outsAt0 m c t.val t.isLt).2.1 y
    = ckv (argsOf m c) (t.val / 4) (512 * (t.val % 4) + ((y 1).val)) (y 2).val := by
  by_cases h0 : t.val % 4 = 0
  · rw [outsAt0_A m c t h0 (by omega), outsA_16, piecesA_16]
    exact (View.read_writes_junk_apply_eq_canon _ _ _).trans (block16 (feeds m c t)  y)
  · rw [outsAt0_B m c t h0 (by omega), outsB_16, piecesB_16]
    exact (View.read_writes_junk_apply_eq_canon _ _ _).trans (block16 (feeds m c t)  y)

theorem arr_16 : (dats m 0 c).arrAt 16 cfg0.N = fun j : S32x2048x128.Idx =>
    ckv (argsOf m c) (j 0).val ((j 1).val) (j 2).val := by
  refine (dats m 0 c).arrAt_eq_of_covers 16 _ (by decide +kernel) fun t hf y => ?_
  blk_simp [idx_o t]
  rw [after0_16]
  refine (after_16 m c t _).trans ?_
  dsimp only
  congr 1 <;> omega

theorem after_17 (t : Fin cfg0.N) (y : S1x2x128x256.Idx) : (outsAt0 m c t.val t.isLt).2.2.1 y
    = ckv (argsOf m c) (t.val / 4) (512 * (t.val % 4) + ((y 1).val * 256 + (y 3).val)) (y 2).val := by
  by_cases h0 : t.val % 4 = 0
  · rw [outsAt0_A m c t h0 (by omega), outsA_17, piecesA_17]
    exact (View.read_writes_junk_apply_eq_canon _ _ _).trans (block17 (feeds m c t) 2 rfl y)
  · rw [outsAt0_B m c t h0 (by omega), outsB_17, piecesB_17]
    exact (View.read_writes_junk_apply_eq_canon _ _ _).trans (block17 (feeds m c t) 2 rfl y)

theorem arr_17 : (dats m 0 c).arrAt 17 cfg0.N = fun j : S32x8x128x256.Idx =>
    ckv (argsOf m c) (j 0).val ((j 1).val * 256 + (j 3).val) (j 2).val := by
  refine (dats m 0 c).arrAt_eq_of_covers 17 _ (by decide +kernel) fun t hf y => ?_
  blk_simp [idx_o t]
  rw [after0_17]
  refine (after_17 m c t _).trans ?_
  dsimp only
  congr 1 <;> omega

theorem after_18 (t : Fin cfg0.N) (y : S1x4x64x1024.Idx) : (outsAt0 m c t.val t.isLt).2.2.2.1 y
    = qidx (argsOf m c) (t.val / 4) (512 * (t.val % 4) + ((y 1).val * 128 + (y 3).val % 128)) ((y 3).val / 128 * 64 + (y 2).val) := by
  by_cases h0 : t.val % 4 = 0
  · rw [outsAt0_A m c t h0 (by omega), outsA_18, piecesA_18]
    exact (View.read_writes_junk_apply_eq_canon _ _ _).trans (block18 (feeds m c t) 32 rfl y)
  · rw [outsAt0_B m c t h0 (by omega), outsB_18, piecesB_18]
    exact (View.read_writes_junk_apply_eq_canon _ _ _).trans (block18 (feeds m c t) 32 rfl y)

theorem arr_18 : (dats m 0 c).arrAt 18 cfg0.N = fun j : S32x16x64x1024.Idx =>
    qidx (argsOf m c) (j 0).val ((j 1).val * 128 + (j 3).val % 128) ((j 3).val / 128 * 64 + (j 2).val) := by
  refine (dats m 0 c).arrAt_eq_of_covers 18 _ (by decide +kernel) fun t hf y => ?_
  blk_simp [idx_o t]
  rw [after0_18]
  refine (after_18 m c t _).trans ?_
  dsimp only
  congr 1 <;> omega

theorem after_19 (t : Fin cfg0.N) (y : S1x512x64.Idx) : (outsAt0 m c t.val t.isLt).2.2.2.2.1 y
    = kidx (argsOf m c) (t.val / 4) (512 * (t.val % 4) + ((y 1).val)) (y 2).val := by
  by_cases h0 : t.val % 4 = 0
  · rw [outsAt0_A m c t h0 (by omega), outsA_19, piecesA_19]
    exact (View.read_writes_junk_apply_eq_canon _ _ _).trans (block19 (feeds m c t)  y)
  · rw [outsAt0_B m c t h0 (by omega), outsB_19, piecesB_19]
    exact (View.read_writes_junk_apply_eq_canon _ _ _).trans (block19 (feeds m c t)  y)

theorem arr_19 : (dats m 0 c).arrAt 19 cfg0.N = fun j : S32x2048x64.Idx =>
    kidx (argsOf m c) (j 0).val ((j 1).val) (j 2).val := by
  refine (dats m 0 c).arrAt_eq_of_covers 19 _ (by decide +kernel) fun t hf y => ?_
  blk_simp [idx_o t]
  rw [after0_19]
  refine (after_19 m c t _).trans ?_
  dsimp only
  congr 1 <;> omega

theorem after_20 (t : Fin cfg0.N) (y : S1x4x8x128.Idx) : (outsAt0 m c t.val t.isLt).2.2.2.2.2.1 y
    = widx (argsOf m c) (t.val / 4) (512 * (t.val % 4) + ((y 1).val * 128 + (y 3).val)) (y 2).val := by
  by_cases h0 : t.val % 4 = 0
  · rw [outsAt0_A m c t h0 (by omega), outsA_20, piecesA_20]
    exact (View.read_writes_junk_apply_eq_canon _ _ _).trans (block20 (feeds m c t) 4 rfl y)
  · rw [outsAt0_B m c t h0 (by omega), outsB_20, piecesB_20]
    exact (View.read_writes_junk_apply_eq_canon _ _ _).trans (block20 (feeds m c t) 4 rfl y)

theorem arr_20 : (dats m 0 c).arrAt 20 cfg0.N = fun j : S32x16x8x128.Idx =>
    widx (argsOf m c) (j 0).val ((j 1).val * 128 + (j 3).val) (j 2).val := by
  refine (dats m 0 c).arrAt_eq_of_covers 20 _ (by decide +kernel) fun t hf y => ?_
  blk_simp [idx_o t]
  rw [after0_20]
  refine (after_20 m c t _).trans ?_
  dsimp only
  congr 1 <;> omega

theorem after_21 (hA : Fin' (argsOf m c)) (t : Fin cfg0.N) (y : S1x512x1024.Idx) : (outsAt0 m c t.val t.isLt).2.2.2.2.2.2.1 y
    = sg (argsOf m c) (t.val / 4) (512 * (t.val % 4) + ((y 1).val)) (y 2).val := by
  by_cases h0 : t.val % 4 = 0
  · rw [outsAt0_A m c t h0 (by omega), outsA_21, piecesA_21]
    exact (View.read_writes_junk_apply_eq_canon _ _ _).trans (block21 (feeds m c t) hA y)
  · rw [outsAt0_B m c t h0 (by omega), outsB_21, piecesB_21]
    exact (View.read_writes_junk_apply_eq_canon _ _ _).trans (block21 (feeds m c t) hA y)

theorem arr_21 (hA : Fin' (argsOf m c)) : (dats m 0 c).arrAt 21 cfg0.N = fun j : S32x2048x1024.Idx =>
    sg (argsOf m c) (j 0).val ((j 1).val) (j 2).val := by
  refine (dats m 0 c).arrAt_eq_of_covers 21 _ (by decide +kernel) fun t hf y => ?_
  blk_simp [idx_o t]
  rw [after0_21]
  refine (after_21 m c hA t _).trans ?_
  dsimp only
  congr 1 <;> omega

theorem after_22 (t : Fin cfg0.N) (y : S1x512x1024.Idx) : (outsAt0 m c t.val t.isLt).2.2.2.2.2.2.2.1 y
    = gate (argsOf m c) (t.val / 4) (512 * (t.val % 4) + ((y 1).val)) (y 2).val := by
  by_cases h0 : t.val % 4 = 0
  · rw [outsAt0_A m c t h0 (by omega), outsA_22, piecesA_22]
    exact (View.read_writes_junk_apply_eq_canon _ _ _).trans (block22 (feeds m c t)  y)
  · rw [outsAt0_B m c t h0 (by omega), outsB_22, piecesB_22]
    exact (View.read_writes_junk_apply_eq_canon _ _ _).trans (block22 (feeds m c t)  y)

theorem arr_22 : (dats m 0 c).arrAt 22 cfg0.N = fun j : S32x2048x1024.Idx =>
    gate (argsOf m c) (j 0).val ((j 1).val) (j 2).val := by
  refine (dats m 0 c).arrAt_eq_of_covers 22 _ (by decide +kernel) fun t hf y => ?_
  blk_simp [idx_o t]
  rw [after0_22]
  refine (after_22 m c t _).trans ?_
  dsimp only
  congr 1 <;> omega

end Cert.Layer.Body

end
-- ==== Proof.Carry.lean ====
/-
  What the body carries from one grid point to the next, and the recurrent branch's output array.
-/
module

public import proofs.«01_k».proof.Proof.Rnn
public import proofs.«01_k».proof.Proof.Feeds
public import proofs.«01_k».proof.Proof.StepCarry
public import proofs.«01_k».proof.Proof.BodyFrame
public import proofs.«01_k».proof.Proof.Final

@[expose] public section

set_option maxRecDepth 16384

noncomputable section

namespace Cert.Layer.Body

open Cert.KernelIdeal Cert.KernelIdeal.Gen
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem head_A (A : Args) (p : ℕ) : HeadOk A p 0 hdA := by
  intro i n hi hn
  refine (rd2_eq (hdA (F := Ideal)) (ix2 (⟨5 + i, by omega⟩ : Fin 8) (⟨n, hn⟩ : Fin 1024)) rfl rfl).symm.trans ?_
  unfold xpad
  rw [if_pos (by omega)]
  exact zero_word

theorem carry_A (A : Args) (p : ℕ) : CarryOk A p 0 hcA := by
  intro i n
  unfold hcA LCA
  rw [View.readCov_unit_zero _ (by decide)]
  exact zero_word

/-- What the body leaves in the row buffer and in the carried row. -/
def Left (A : Args) (p q : ℕ) (u : Vec Ideal S520x1024 .f32) (v : Vec Ideal S8x1024 .f32) : Prop :=
  (∀ y : S520x1024.Idx, 8 ≤ (y 0).val → u y = z A p (512 * q + ((y 0).val - 8)) (2760 + (y 1).val))
    ∧ ∀ (i : Fin 8) (n : Fin 1024), v (ix2 i n) = hpv A p (512 * (q + 1)) n.val

theorem head_B {A : Args} {p q : ℕ} {u : Vec Ideal S520x1024 .f32} {v : Vec Ideal S8x1024 .f32} (h : Left A p q u v) :
    HeadOk A p (q + 1) (hdB u) := by
  intro i n hi hn
  refine (rd2_eq (hdB (F := Ideal) u) (ix2 (⟨5 + i, by omega⟩ : Fin 8) (⟨n, hn⟩ : Fin 1024)) rfl rfl).symm.trans ?_
  pointwise [hdB]
  rw [ldOf_apply, h.1 _ (by rw [unit_idx]; show 8 ≤ 512 + _; omega), unit_idx, unit_idx]
  unfold xpad
  rw [if_neg (by omega)]
  show z A p (512 * q + (512 + (5 + i) - 8)) (2760 + (0 + n)) = _
  congr 1 <;> omega

theorem carry_B {A : Args} {p q : ℕ} {u : Vec Ideal S520x1024 .f32} {v : Vec Ideal S8x1024 .f32} (h : Left A p q u v) :
    CarryOk A p (q + 1) (hcB v) := by
  intro i n
  unfold hcB
  rw [ldOf_apply, ← h.2 i n]
  congr 1
  funext a
  refine Fin.ext ((unit_idx _ _ _ _ a).trans ?_)
  fin_cases a
  · exact Nat.zero_add _
  · exact Nat.zero_add _

/-- A point leaves its own rows and its own last state. -/
theorem left_of (t : Fin cfg0.N) (hA : Fin' (argsOf m c)) (hd hc : FVec Ideal S8x1024 .f32)
    (hH : HeadOk (argsOf m c) (t.val / 4) (t.val % 4) hd) (hC : CarryOk (argsOf m c) (t.val / 4) (t.val % 4) hc)
    (l : List (View.Piece (Elt Ideal) S8x1024 .f32)) {u : Vec Ideal S520x1024 .f32} {v : Vec Ideal S8x1024 .f32}
    (hu : u = VS0_0.read (Elt Ideal) (VS0_0.writes (Elt Ideal) VS0_0.junk
      (LX t (iblk m c 0 t) (iblk m c 1 t) (iblk m c 2 t) hd)))
    (hv : v = VS0_4.read (Elt Ideal) (VS0_4.writes (Elt Ideal) VS0_4.junk (LC t (iblk m c 0 t) (iblk m c 1 t)
      (iblk m c 2 t) (iblk m c 7 t) (iblk m c 8 t) (iblk m c 9 t) (iblk m c 10 t) (iblk m c 11 t) (iblk m c 12 t) hd hc
      l))) :
    Left (argsOf m c) (t.val / 4) (t.val % 4) u v := by
  refine ⟨fun y hy => ?_, fun i n => ?_⟩
  · rw [hu]
    refine (View.read_writes_junk_apply_eq_canon _ _ _).trans ((canonX (feeds m c t) y).trans ?_)
    exact if_neg (by omega)
  · rw [hv]
    refine (View.read_writes_junk_apply_eq_canon _ _ _).trans ?_
    unfold LC
    rw [View.canon_cons_unit_zero (by decide)]
    exact hcS_eq (feeds m c t) hA hH hC i n

theorem left_A (hA : Fin' (argsOf m c)) (t : Fin cfg0.N) (h0 : t.val % 4 = 0) :
    Left (argsOf m c) (t.val / 4) (t.val % 4) (outsAt0 m c t.val t.isLt).2.2.2.2.2.2.2.2.2.1
      (outsAt0 m c t.val t.isLt).2.2.2.2.2.2.2.2.2.2 := by
  refine left_of m c t hA hdA hcA ?_ ?_ LCA (scrA_0 m c t h0 (by omega)) (scrA_4 m c t h0 (by omega))
  · rw [h0]; exact head_A _ _
  · rw [h0]; exact carry_A _ _

theorem left_B (hA : Fin' (argsOf m c)) (t : Fin cfg0.N) (h0 : ¬t.val % 4 = 0)
    (hi : Left (argsOf m c) ((t.val - 1) / 4) ((t.val - 1) % 4)
      (outsAt0 m c (t.val - 1) (Nat.lt_of_le_of_lt (Nat.sub_le _ _) t.isLt)).2.2.2.2.2.2.2.2.2.1
      (outsAt0 m c (t.val - 1) (Nat.lt_of_le_of_lt (Nat.sub_le _ _) t.isLt)).2.2.2.2.2.2.2.2.2.2) :
    Left (argsOf m c) (t.val / 4) (t.val % 4) (outsAt0 m c t.val t.isLt).2.2.2.2.2.2.2.2.2.1
      (outsAt0 m c t.val t.isLt).2.2.2.2.2.2.2.2.2.2 := by
  have ep : t.val / 4 = (t.val - 1) / 4 := by omega
  have eq : t.val % 4 = (t.val - 1) % 4 + 1 := by omega
  refine left_of m c t hA (hdB _) (hcB _) ?_ ?_ [] (scrB_0 m c t h0 (by omega)) (scrB_4 m c t h0 (by omega))
  · rw [ep, eq]; exact head_B hi
  · rw [ep, eq]; exact carry_B hi

/-- Every point leaves its own rows and its own last state. -/
theorem left_all (hA : Fin' (argsOf m c)) (k : ℕ) (hk : k < cfg0.N) :
    Left (argsOf m c) (k / 4) (k % 4) (outsAt0 m c k hk).2.2.2.2.2.2.2.2.2.1 (outsAt0 m c k hk).2.2.2.2.2.2.2.2.2.2 := by
  induction k with
  | zero => exact left_A m c hA ⟨0, hk⟩ (Nat.zero_mod 4)
  | succ k ih =>
    by_cases h0 : (k + 1) % 4 = 0
    · exact left_A m c hA ⟨k + 1, hk⟩ h0
    · exact left_B m c hA ⟨k + 1, hk⟩ h0 (ih (Nat.lt_of_succ_lt hk))

theorem after_23 (hA : Fin' (argsOf m c)) (t : Fin cfg0.N) (y : S1x512x1024.Idx) : (outsAt0 m c t.val t.isLt).2.2.2.2.2.2.2.2.1 y
    = rout (argsOf m c) (t.val / 4) (512 * (t.val % 4) + ((y 1).val)) (y 2).val := by
  by_cases h0 : t.val % 4 = 0
  · rw [outsAt0_A m c t h0 (by omega), outsA_23, piecesA_23]
    refine (View.read_writes_junk_apply_eq_canon _ _ _).trans (block23 (feeds m c t) hA ?_ ?_ y)
    · rw [h0]; exact head_A _ _
    · rw [h0]; exact carry_A _ _
  · have hi := left_all m c hA (t.val - 1) (Nat.lt_of_le_of_lt (Nat.sub_le _ _) t.isLt)
    have ep : t.val / 4 = (t.val - 1) / 4 := by omega
    have eq : t.val % 4 = (t.val - 1) % 4 + 1 := by omega
    rw [outsAt0_B m c t h0 (by omega), outsB_23, piecesB_23]
    refine (View.read_writes_junk_apply_eq_canon _ _ _).trans (block23 (feeds m c t) hA ?_ ?_ y)
    · rw [ep, eq]; exact head_B hi
    · rw [ep, eq]; exact carry_B hi

theorem arr_23 (hA : Fin' (argsOf m c)) : (dats m 0 c).arrAt 23 cfg0.N = fun j : S32x2048x1024.Idx =>
    rout (argsOf m c) (j 0).val ((j 1).val) (j 2).val := by
  refine (dats m 0 c).arrAt_eq_of_covers 23 _ (by decide +kernel) fun t hf y => ?_
  blk_simp [idx_o t]
  rw [after0_23]
  refine (after_23 m c hA t _).trans ?_
  dsimp only
  congr 1 <;> omega

end Cert.Layer.Body

end
-- ==== Proof.KernelEnd.lean ====
/-
  What the kernel's run leaves: the nine outputs of the arguments.
-/
module

public import proofs.«01_k».proof.Proof.Outputs
public import proofs.«01_k».proof.Proof.Carry
public import proofs.«01_k».proof.Proof.Final

@[expose] public section

noncomputable section

namespace Cert.Layer.Body

open Cert.KernelIdeal Cert.KernelIdeal.Gen
open Idealize.ShloMosaic Idealize.ShloMosaic.TcCoe Idealize.SL.Sem

set_option maxHeartbeats 4000000

variable (m : (ℓ : Loc nD τ sig) → Buf (Elt Ideal) ℓ)

theorem value0 {r : PUnit × MemSt nD τ sig (Elt Ideal)} (h : Pipeline.FramePost cfgs (dats m) 0 (V m) r) (c : Dev nD) :
    r.2.mem ((c.tc : Thread nD τ).loc main_v80_0) = out0 (argsOf m c) :=
  ((h c).1 15).trans (arr_15 m c)

theorem value1 {r : PUnit × MemSt nD τ sig (Elt Ideal)} (h : Pipeline.FramePost cfgs (dats m) 0 (V m) r) (c : Dev nD) :
    r.2.mem ((c.tc : Thread nD τ).loc main_v80_1) = out1 (argsOf m c) :=
  ((h c).1 16).trans (arr_16 m c)

theorem value2 {r : PUnit × MemSt nD τ sig (Elt Ideal)} (h : Pipeline.FramePost cfgs (dats m) 0 (V m) r) (c : Dev nD) :
    r.2.mem ((c.tc : Thread nD τ).loc main_v80_2) = out2 (argsOf m c) :=
  ((h c).1 17).trans (arr_17 m c)

theorem value3 {r : PUnit × MemSt nD τ sig (Elt Ideal)} (h : Pipeline.FramePost cfgs (dats m) 0 (V m) r) (c : Dev nD) :
    r.2.mem ((c.tc : Thread nD τ).loc main_v80_3) = out3 (argsOf m c) :=
  ((h c).1 18).trans (arr_18 m c)

theorem value4 {r : PUnit × MemSt nD τ sig (Elt Ideal)} (h : Pipeline.FramePost cfgs (dats m) 0 (V m) r) (c : Dev nD) :
    r.2.mem ((c.tc : Thread nD τ).loc main_v80_4) = out4 (argsOf m c) :=
  ((h c).1 19).trans (arr_19 m c)

theorem value5 {r : PUnit × MemSt nD τ sig (Elt Ideal)} (h : Pipeline.FramePost cfgs (dats m) 0 (V m) r) (c : Dev nD) :
    r.2.mem ((c.tc : Thread nD τ).loc main_v80_5) = out5 (argsOf m c) :=
  ((h c).1 20).trans (arr_20 m c)

theorem value6 {r : PUnit × MemSt nD τ sig (Elt Ideal)} (h : Pipeline.FramePost cfgs (dats m) 0 (V m) r) (c : Dev nD) (hA : Fin' (argsOf m c)) :
    r.2.mem ((c.tc : Thread nD τ).loc main_v80_6) = out6 (argsOf m c) :=
  ((h c).1 21).trans (arr_21 m c hA)

theorem value7 {r : PUnit × MemSt nD τ sig (Elt Ideal)} (h : Pipeline.FramePost cfgs (dats m) 0 (V m) r) (c : Dev nD) :
    r.2.mem ((c.tc : Thread nD τ).loc main_v80_7) = out7 (argsOf m c) :=
  ((h c).1 22).trans (arr_22 m c)

theorem value8 {r : PUnit × MemSt nD τ sig (Elt Ideal)} (h : Pipeline.FramePost cfgs (dats m) 0 (V m) r) (c : Dev nD) (hA : Fin' (argsOf m c)) :
    r.2.mem ((c.tc : Thread nD τ).loc main_v80_8) = out8 (argsOf m c) :=
  ((h c).1 23).trans (arr_23 m c hA)

theorem run_values (ρ : Dev nD → PrngReg) (hA : ∀ c : Dev nD, Fin' (argsOf m c)) :
    θ_run defs (onTc (τ := τ) (main (F := Ideal))) ⟨m, fun _ => 0, ρ⟩ fun r => ∀ c : Dev nD,
      r.2.mem ((c.tc : Thread nD τ).loc main_v80_0) = out0 (argsOf m c)
      ∧ r.2.mem ((c.tc : Thread nD τ).loc main_v80_1) = out1 (argsOf m c)
      ∧ r.2.mem ((c.tc : Thread nD τ).loc main_v80_2) = out2 (argsOf m c)
      ∧ r.2.mem ((c.tc : Thread nD τ).loc main_v80_3) = out3 (argsOf m c)
      ∧ r.2.mem ((c.tc : Thread nD τ).loc main_v80_4) = out4 (argsOf m c)
      ∧ r.2.mem ((c.tc : Thread nD τ).loc main_v80_5) = out5 (argsOf m c)
      ∧ r.2.mem ((c.tc : Thread nD τ).loc main_v80_6) = out6 (argsOf m c)
      ∧ r.2.mem ((c.tc : Thread nD τ).loc main_v80_7) = out7 (argsOf m c)
      ∧ r.2.mem ((c.tc : Thread nD τ).loc main_v80_8) = out8 (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c =>
      ⟨value0 m h.1 c,
        value1 m h.1 c,
        value2 m h.1 c,
        value3 m h.1 c,
        value4 m h.1 c,
        value5 m h.1 c,
        value6 m h.1 c (hA c),
        value7 m h.1 c,
        value8 m h.1 c (hA c), h.2 c⟩)
    (θ_run_and (run_main m ρ) (unchanged m ρ))

end Cert.Layer.Body

end
-- ==== Proof.ScanLevel.lean ====
/-
  The reference's associative scan, one level of it: the array of `n = 2 h` steps is halved by composing the steps
  `2 i` and `2 i + 1`, the halved array is scanned, and the two halves of the result are interleaved. If the halved
  array's scan satisfies the recurrence `B i = a i · B (i - 1) + b i` from `B 0 = b 0`, so does the whole one's.
-/
module

public import proofs.«01_k».proof.Proof.Numbers
public import Idealize.ShloMosaic.Lib.Pipeline.Value
public import Idealize.ShloMosaic.Lib.ValueIdx
public import Idealize.ShloMosaic.Lib.KernelVsHost
public import Idealize.ShloMosaic.PureOps.Ideal.Laws

@[expose] public section

noncomputable section

namespace Cert.Layer

open Idealize.ShloMosaic Idealize.ShloMosaic.ValueIdx

/-- The shape of `n` steps of the recurrence, for 32 sequences of 1024 channels. -/
abbrev Steps (n : Nat) : Shape := ⟨3, ![32, n, 1024]⟩

/-- `B` runs the recurrence of `a` and `b`: it starts at `b 0` and goes on by `a i · B (i - 1) + b i`. -/
def Scanned (n : Nat) (a b B : (Steps n).Idx → EReal) : Prop :=
  ∀ (p : Fin 32) (i : Fin n) (q : Fin 1024),
    (i.val = 0 → B (ix3 p i q) = b (ix3 p i q))
    ∧ ∀ j : Fin n, j.val + 1 = i.val → B (ix3 p i q) = a (ix3 p i q) * B (ix3 p j q) + b (ix3 p i q)

/-- Every entry is a nonnegative real. -/
def NonnegReal {s : Shape} (a : s.Idx → EReal) : Prop := ∀ i, ∃ r : ℝ, a i = (r : EReal) ∧ 0 ≤ r

/-- A product of nonnegative reals is one. -/
theorem NonnegReal.mulf {s : Shape} {a b : s.Idx → EReal} (ha : NonnegReal a) (hb : NonnegReal b) :
    NonnegReal (Idealize.ShloMosaic.mulf (F := Ideal) (φ := .f32) a b) := by
  intro i
  obtain ⟨r, hr, h0⟩ := ha i
  obtain ⟨r', hr', h0'⟩ := hb i
  exact ⟨r * r', (congrArg₂ (· * ·) hr hr').trans (EReal.coe_mul r r').symm, mul_nonneg h0 h0'⟩

/-- A slice of nonnegative reals is one. -/
theorem NonnegReal.slice {s t : Shape} {a : s.Idx → EReal} (ha : NonnegReal a) (start strides : Fin s.rank → Nat)
    (h : s.SlicesBy start strides t) : NonnegReal (Host.slice t start strides a h) := fun _ => ha _

/-- A slice with strides along the middle axis, read at an index. -/
theorem slice_mid {n k : Nat} (x : (Steps n).Idx → EReal) (o st : Nat)
    (h : (Steps n).SlicesBy ![0, o, 0] ![1, st, 1] (Steps k)) (p : Fin 32) (i : Fin k) (q : Fin 1024) (i' : Fin n)
    (hi : i'.val = o + st * i.val) :
    Host.slice (Steps k) ![0, o, 0] ![1, st, 1] x h (ix3 p i q) = x (ix3 p i' q) := by
  refine congrArg x (funext fun a => Fin.ext ?_)
  match a with
  | ⟨0, _⟩ => show 0 + 1 * p.val = p.val; omega
  | ⟨1, _⟩ => exact hi.symm
  | ⟨2, _⟩ => show 0 + 1 * q.val = q.val; omega

/-- A slice of the first steps, read at an index. -/
theorem slice_first {n k : Nat} (x : (Steps n).Idx → EReal)
    (h : (Steps n).Slices ![0, 0, 0] (Steps k)) (p : Fin 32) (i : Fin k) (q : Fin 1024) (i' : Fin n)
    (hi : i'.val = i.val) :
    extractStridedSlice (Steps k) ![0, 0, 0] x h (ix3 p i q) = x (ix3 p i' q) := by
  refine extractStridedSlice_apply _ x h _ _ fun a => ?_
  match a with
  | ⟨0, _⟩ => show p.val = 0 + p.val; omega
  | ⟨1, _⟩ => show i'.val = 0 + i.val; omega
  | ⟨2, _⟩ => show q.val = 0 + q.val; omega

/-- One level of the scan, as the reference writes it. -/
theorem scan_level {n h m : Nat} (hn : n = 2 * h) (hh : h = m + 1) {a b : (Steps n).Idx → EReal} (ha : NonnegReal a)
    {B' : (Steps h).Idx → EReal} {z z' : (⟨0, ![]⟩ : Shape).Idx → EReal}
    (hz : ∀ i, z i = 0) (hz' : ∀ i, z' i = 0)
    (s0 : (Steps n).SlicesBy ![0, 0, 0] ![1, 2, 1] (Steps h)) (s1 : (Steps n).SlicesBy ![0, 1, 0] ![1, 2, 1] (Steps h))
    (s2 : (Steps n).SlicesBy ![0, 2, 0] ![1, 2, 1] (Steps m)) (s3 : (Steps h).Slices ![0, 0, 0] (Steps m))
    (s4 : (Steps n).Slices ![0, 0, 0] (Steps 1)) (hc : Shape.Concatenates [Steps 1, Steps m] (Steps h) 1)
    (p0 : (Steps h).Pads ![0, 0, 0] ![0, 1, 0] ![0, 1, 0] (Steps n))
    (p1 : (Steps h).Pads ![0, 1, 0] ![0, 0, 0] ![0, 1, 0] (Steps n))
    (hu : 0 < (⟨0, ![]⟩ : Shape).numel)
    (hB : Scanned h
      (mulf (F := Ideal) (φ := .f32) (Host.slice (Steps h) ![0, 0, 0] ![1, 2, 1] a s0)
        (Host.slice (Steps h) ![0, 1, 0] ![1, 2, 1] a s1))
      (addf (F := Ideal) (φ := .f32)
        (mulf (F := Ideal) (φ := .f32) (Host.slice (Steps h) ![0, 1, 0] ![1, 2, 1] a s1)
          (Host.slice (Steps h) ![0, 0, 0] ![1, 2, 1] b s0))
        (Host.slice (Steps h) ![0, 1, 0] ![1, 2, 1] b s1)) B') :
    Scanned n a b
      (addf (F := Ideal) (φ := .f32)
        (pad (Steps n) ![0, 0, 0] ![0, 1, 0] ![0, 1, 0]
          (concatenate (Steps h) 1 [⟨Steps 1, extractStridedSlice (Steps 1) ![0, 0, 0] b s4⟩,
            ⟨Steps m, addf (F := Ideal) (φ := .f32)
              (mulf (F := Ideal) (φ := .f32) (Host.slice (Steps m) ![0, 2, 0] ![1, 2, 1] a s2)
                (extractStridedSlice (Steps m) ![0, 0, 0] B' s3))
              (Host.slice (Steps m) ![0, 2, 0] ![1, 2, 1] b s2)⟩] hc) z p0 hu)
        (pad (Steps n) ![0, 1, 0] ![0, 0, 0] ![0, 1, 0] B' z' p1 hu)) := by
  subst hh hn
  -- the result at an even and at an odd step
  generalize hev : (concatenate (Steps (m + 1)) 1 [⟨Steps 1, extractStridedSlice (Steps 1) ![0, 0, 0] b s4⟩,
    ⟨Steps m, addf (F := Ideal) (φ := .f32)
      (mulf (F := Ideal) (φ := .f32) (Host.slice (Steps m) ![0, 2, 0] ![1, 2, 1] a s2)
        (extractStridedSlice (Steps m) ![0, 0, 0] B' s3))
      (Host.slice (Steps m) ![0, 2, 0] ![1, 2, 1] b s2)⟩] hc) = ev
  have even : ∀ (p : Fin 32) (i : Fin (2 * (m + 1))) (q : Fin 1024) (k : Fin (m + 1)), i.val = 2 * k.val →
      (addf (F := Ideal) (φ := .f32) (pad (Steps (2 * (m + 1))) ![0, 0, 0] ![0, 1, 0] ![0, 1, 0] ev z p0 hu)
        (pad (Steps (2 * (m + 1))) ![0, 1, 0] ![0, 0, 0] ![0, 1, 0] B' z' p1 hu)) (ix3 p i q) = ev (ix3 p k q) := by
    intro p i q k hk
    rw [addf_apply, pad_apply_of_inside _ _ _ ev z p0 hu _ (ix3 p k q), pad_apply_of_not_inside _ _ _ B' z' p1 hu _ 1,
      hz', add_zero]
    · rintro ⟨h1, h2, -⟩
      have h1' : 1 ≤ i.val := h1
      have h2' : (i.val - 1) % 2 = 0 := h2
      omega
    · intro a
      match a with
      | ⟨0, _⟩ => show p.val = 0 + p.val * 1; omega
      | ⟨1, _⟩ => show i.val = 0 + k.val * 2; omega
      | ⟨2, _⟩ => show q.val = 0 + q.val * 1; omega
  have odd : ∀ (p : Fin 32) (i : Fin (2 * (m + 1))) (q : Fin 1024) (k : Fin (m + 1)), i.val = 2 * k.val + 1 →
      (addf (F := Ideal) (φ := .f32) (pad (Steps (2 * (m + 1))) ![0, 0, 0] ![0, 1, 0] ![0, 1, 0] ev z p0 hu)
        (pad (Steps (2 * (m + 1))) ![0, 1, 0] ![0, 0, 0] ![0, 1, 0] B' z' p1 hu)) (ix3 p i q) = B' (ix3 p k q) := by
    intro p i q k hk
    rw [addf_apply, pad_apply_of_inside _ _ _ B' z' p1 hu _ (ix3 p k q), pad_apply_of_not_inside _ _ _ ev z p0 hu _ 1,
      hz, zero_add]
    · rintro ⟨-, h2, -⟩
      have h2' : (i.val - 0) % 2 = 0 := h2
      omega
    · intro a
      match a with
      | ⟨0, _⟩ => show p.val = 0 + p.val * 1; omega
      | ⟨1, _⟩ => show i.val = 1 + k.val * 2; omega
      | ⟨2, _⟩ => show q.val = 0 + q.val * 1; omega
  -- the even half's entries
  have ev0 : ∀ (p : Fin 32) (k : Fin (m + 1)) (q : Fin 1024) (i : Fin (2 * (m + 1))), k.val = 0 → i.val = 0 →
      ev (ix3 p k q) = b (ix3 p i q) := by
    intro p k q i hk hi
    rw [← hev, concatenate_pair_apply_left (t := Steps (m + 1)) 1 _ _ hc (ix3 p k q) rfl (ix3 p (0 : Fin 1) q),
      slice_first b s4 p 0 q i (by simp [hi])]
    intro a
    match a with
    | ⟨0, _⟩ => rfl
    | ⟨1, _⟩ => exact hk.symm
    | ⟨2, _⟩ => rfl
  have evs : ∀ (p : Fin 32) (k l : Fin (m + 1)) (q : Fin 1024) (i : Fin (2 * (m + 1))), l.val + 1 = k.val →
      i.val = 2 * k.val → ev (ix3 p k q) = a (ix3 p i q) * B' (ix3 p l q) + b (ix3 p i q) := by
    intro p k l q i hk hi
    have hl : l.val < m := by have := k.isLt; omega
    rw [← hev, concatenate_pair_apply_right (t := Steps (m + 1)) 1 _ _ hc (ix3 p k q) rfl rfl
      (ix3 p (⟨l.val, hl⟩ : Fin m) q), addf_apply, mulf_apply, slice_mid a 2 2 s2 p ⟨l.val, hl⟩ q i (by simp; omega),
      slice_mid b 2 2 s2 p ⟨l.val, hl⟩ q i (by simp; omega), slice_first B' s3 p ⟨l.val, hl⟩ q l rfl]
    · intro c hc
      match c, hc with
      | ⟨0, _⟩, _ => rfl
      | ⟨1, _⟩, hc => exact absurd rfl hc
      | ⟨2, _⟩, _ => rfl
    · exact hk
  intro p i q
  rcases Nat.even_or_odd' i.val with ⟨k, hk | hk⟩
  · have hkm : k < m + 1 := by have := i.isLt; omega
    refine ⟨fun hi => ?_, fun j hj => ?_⟩
    · rw [even p i q ⟨k, hkm⟩ hk, ev0 p _ q i (by simp; omega) hi]
    · have hl : k - 1 < m + 1 := by omega
      rw [even p i q ⟨k, hkm⟩ hk, odd p j q ⟨k - 1, hl⟩ (by simp; omega),
        evs p ⟨k, hkm⟩ ⟨k - 1, hl⟩ q i (by simp; omega) hk]
  · have hkm : k < m + 1 := by have := i.isLt; omega
    refine ⟨fun hi => absurd hi (by omega), fun j hj => ?_⟩
    rw [odd p i q ⟨k, hkm⟩ hk, even p j q ⟨k, hkm⟩ (by simp; omega)]
    obtain ⟨h0, h1⟩ := hB p ⟨k, hkm⟩ q
    obtain ⟨r, hr, hr0⟩ := ha (ix3 p i q)
    rw [mulf_apply, addf_apply, mulf_apply, slice_mid a 0 2 s0 p ⟨k, hkm⟩ q j (by simp; omega),
      slice_mid a 1 2 s1 p ⟨k, hkm⟩ q i (by simp; omega), slice_mid b 0 2 s0 p ⟨k, hkm⟩ q j (by simp; omega),
      slice_mid b 1 2 s1 p ⟨k, hkm⟩ q i (by simp; omega)] at h1
    rw [addf_apply, mulf_apply, slice_mid a 1 2 s1 p ⟨k, hkm⟩ q i (by simp; omega),
      slice_mid b 0 2 s0 p ⟨k, hkm⟩ q j (by simp; omega), slice_mid b 1 2 s1 p ⟨k, hkm⟩ q i (by simp; omega)] at h0
    rcases Nat.eq_zero_or_pos k with hk0 | hk0
    · rw [h0 hk0, ev0 p ⟨k, hkm⟩ q j hk0 (by omega)]
    · have hl : k - 1 < m + 1 := by omega
      rw [h1 ⟨k - 1, hl⟩ (by simp; omega), evs p ⟨k, hkm⟩ ⟨k - 1, hl⟩ q j (by simp; omega) (by simp; omega), hr,
        coe_mul_add hr0, mul_comm (a (ix3 p j q)), mul_assoc, add_assoc]

/-- A single step is its own scan. -/
theorem scan_one {a b : (Steps 1).Idx → EReal} : Scanned 1 a b b :=
  fun _ i _ => ⟨fun _ => rfl, fun j hj => absurd hj (by omega)⟩

end Cert.Layer
-- ==== Proof.RefScan.lean ====
/-
  The reference's associative scan over the 2048 steps: eleven levels, each by `scan_level`, from the single step at
  the bottom to the whole sequence.
-/
module

public import proofs.«01_k».proof.Proof.ScanLevel
public import proofs.«01_k».proof.Proof.Consts
public import proofs.«01_k».proof.Proof.Gen.ReferenceIdeal.Read

@[expose] public section

noncomputable section

namespace Cert.Layer

open Idealize.ShloMosaic Idealize.ShloMosaic.ValueIdx Cert.ReferenceIdeal Cert.ReferenceIdeal.Gen Cert.ReferenceIdeal.Read

variable (x0 : (⟨S32x2048x1024, .f32⟩ : BufTy).Contents (Elt Ideal)) (x1 : (⟨S1x1024, .f32⟩ : BufTy).Contents (Elt Ideal))
  (x2 : (⟨S1x1024x6856, .f32⟩ : BufTy).Contents (Elt Ideal)) (x8 : (⟨S1x4x1024, .f32⟩ : BufTy).Contents (Elt Ideal))
  (x9 : (⟨S1x1024, .f32⟩ : BufTy).Contents (Elt Ideal)) (x10 : (⟨S1x16x64x64, .f32⟩ : BufTy).Contents (Elt Ideal))
  (x11 : (⟨S1x1024, .f32⟩ : BufTy).Contents (Elt Ideal)) (x12 : (⟨S1x16x64x64, .f32⟩ : BufTy).Contents (Elt Ideal))
  (x13 x14 : (⟨S1x1024, .f32⟩ : BufTy).Contents (Elt Ideal))

/-- The state the reference's scan ends at runs the recurrence of its decay and its input. -/
theorem ref_scanned (hA : NonnegReal (val_main_v156 (F := Ideal) x0 x1 x2 x8 x9 x10 x11 x14)) :
    Scanned 2048 (val_main_v156 (F := Ideal) x0 x1 x2 x8 x9 x10 x11 x14)
      (val_main_v163 (F := Ideal) x0 x1 x2 x8 x9 x10 x11 x12 x13 x14)
      (val_main_v427 (F := Ideal) x0 x1 x2 x8 x9 x10 x11 x12 x13 x14) := by
  have zero : ∀ i, val_main_cst_20 (F := Ideal) i = 0 := fun _ => by
    show Scalar.ofBits (F := Ideal) .f32 0x00000000#32 = 0
    exact zero_word
  have a1 : NonnegReal (val_main_v168 (F := Ideal) x0 x1 x2 x8 x9 x10 x11 x14) :=
    (hA.slice _ _ _).mulf (hA.slice _ _ _)
  have a2 : NonnegReal (val_main_v175 (F := Ideal) x0 x1 x2 x8 x9 x10 x11 x14) :=
    (a1.slice _ _ _).mulf (a1.slice _ _ _)
  have a3 : NonnegReal (val_main_v182 (F := Ideal) x0 x1 x2 x8 x9 x10 x11 x14) :=
    (a2.slice _ _ _).mulf (a2.slice _ _ _)
  have a4 : NonnegReal (val_main_v189 (F := Ideal) x0 x1 x2 x8 x9 x10 x11 x14) :=
    (a3.slice _ _ _).mulf (a3.slice _ _ _)
  have a5 : NonnegReal (val_main_v196 (F := Ideal) x0 x1 x2 x8 x9 x10 x11 x14) :=
    (a4.slice _ _ _).mulf (a4.slice _ _ _)
  have a6 : NonnegReal (val_main_v203 (F := Ideal) x0 x1 x2 x8 x9 x10 x11 x14) :=
    (a5.slice _ _ _).mulf (a5.slice _ _ _)
  have a7 : NonnegReal (val_main_v210 (F := Ideal) x0 x1 x2 x8 x9 x10 x11 x14) :=
    (a6.slice _ _ _).mulf (a6.slice _ _ _)
  have a8 : NonnegReal (val_main_v217 (F := Ideal) x0 x1 x2 x8 x9 x10 x11 x14) :=
    (a7.slice _ _ _).mulf (a7.slice _ _ _)
  have a9 : NonnegReal (val_main_v224 (F := Ideal) x0 x1 x2 x8 x9 x10 x11 x14) :=
    (a8.slice _ _ _).mulf (a8.slice _ _ _)
  have a10 : NonnegReal (val_main_v231 (F := Ideal) x0 x1 x2 x8 x9 x10 x11 x14) :=
    (a9.slice _ _ _).mulf (a9.slice _ _ _)
  have a11 : NonnegReal (val_main_v238 (F := Ideal) x0 x1 x2 x8 x9 x10 x11 x14) :=
    (a10.slice _ _ _).mulf (a10.slice _ _ _)
  have s11 : Scanned 1 (val_main_v238 (F := Ideal) x0 x1 x2 x8 x9 x10 x11 x14) (val_main_v240 (F := Ideal) x0 x1 x2 x8 x9 x10 x11 x12 x13 x14)
      (val_main_v240 (F := Ideal) x0 x1 x2 x8 x9 x10 x11 x12 x13 x14) := scan_one
  have s10 : Scanned 2 (val_main_v231 (F := Ideal) x0 x1 x2 x8 x9 x10 x11 x14) (val_main_v233 (F := Ideal) x0 x1 x2 x8 x9 x10 x11 x12 x13 x14)
      (val_main_v257 (F := Ideal) x0 x1 x2 x8 x9 x10 x11 x12 x13 x14) :=
    scan_level (n := 2) (h := 1) (m := 0) rfl rfl a10 zero zero _ _ _ _ _ _ _ _ _ s11
  have s9 : Scanned 4 (val_main_v224 (F := Ideal) x0 x1 x2 x8 x9 x10 x11 x14) (val_main_v226 (F := Ideal) x0 x1 x2 x8 x9 x10 x11 x12 x13 x14)
      (val_main_v274 (F := Ideal) x0 x1 x2 x8 x9 x10 x11 x12 x13 x14) :=
    scan_level (n := 4) (h := 2) (m := 1) rfl rfl a9 zero zero _ _ _ _ _ _ _ _ _ s10
  have s8 : Scanned 8 (val_main_v217 (F := Ideal) x0 x1 x2 x8 x9 x10 x11 x14) (val_main_v219 (F := Ideal) x0 x1 x2 x8 x9 x10 x11 x12 x13 x14)
      (val_main_v291 (F := Ideal) x0 x1 x2 x8 x9 x10 x11 x12 x13 x14) :=
    scan_level (n := 8) (h := 4) (m := 3) rfl rfl a8 zero zero _ _ _ _ _ _ _ _ _ s9
  have s7 : Scanned 16 (val_main_v210 (F := Ideal) x0 x1 x2 x8 x9 x10 x11 x14) (val_main_v212 (F := Ideal) x0 x1 x2 x8 x9 x10 x11 x12 x13 x14)
      (val_main_v308 (F := Ideal) x0 x1 x2 x8 x9 x10 x11 x12 x13 x14) :=
    scan_level (n := 16) (h := 8) (m := 7) rfl rfl a7 zero zero _ _ _ _ _ _ _ _ _ s8
  have s6 : Scanned 32 (val_main_v203 (F := Ideal) x0 x1 x2 x8 x9 x10 x11 x14) (val_main_v205 (F := Ideal) x0 x1 x2 x8 x9 x10 x11 x12 x13 x14)
      (val_main_v325 (F := Ideal) x0 x1 x2 x8 x9 x10 x11 x12 x13 x14) :=
    scan_level (n := 32) (h := 16) (m := 15) rfl rfl a6 zero zero _ _ _ _ _ _ _ _ _ s7
  have s5 : Scanned 64 (val_main_v196 (F := Ideal) x0 x1 x2 x8 x9 x10 x11 x14) (val_main_v198 (F := Ideal) x0 x1 x2 x8 x9 x10 x11 x12 x13 x14)
      (val_main_v342 (F := Ideal) x0 x1 x2 x8 x9 x10 x11 x12 x13 x14) :=
    scan_level (n := 64) (h := 32) (m := 31) rfl rfl a5 zero zero _ _ _ _ _ _ _ _ _ s6
  have s4 : Scanned 128 (val_main_v189 (F := Ideal) x0 x1 x2 x8 x9 x10 x11 x14) (val_main_v191 (F := Ideal) x0 x1 x2 x8 x9 x10 x11 x12 x13 x14)
      (val_main_v359 (F := Ideal) x0 x1 x2 x8 x9 x10 x11 x12 x13 x14) :=
    scan_level (n := 128) (h := 64) (m := 63) rfl rfl a4 zero zero _ _ _ _ _ _ _ _ _ s5
  have s3 : Scanned 256 (val_main_v182 (F := Ideal) x0 x1 x2 x8 x9 x10 x11 x14) (val_main_v184 (F := Ideal) x0 x1 x2 x8 x9 x10 x11 x12 x13 x14)
      (val_main_v376 (F := Ideal) x0 x1 x2 x8 x9 x10 x11 x12 x13 x14) :=
    scan_level (n := 256) (h := 128) (m := 127) rfl rfl a3 zero zero _ _ _ _ _ _ _ _ _ s4
  have s2 : Scanned 512 (val_main_v175 (F := Ideal) x0 x1 x2 x8 x9 x10 x11 x14) (val_main_v177 (F := Ideal) x0 x1 x2 x8 x9 x10 x11 x12 x13 x14)
      (val_main_v393 (F := Ideal) x0 x1 x2 x8 x9 x10 x11 x12 x13 x14) :=
    scan_level (n := 512) (h := 256) (m := 255) rfl rfl a2 zero zero _ _ _ _ _ _ _ _ _ s3
  have s1 : Scanned 1024 (val_main_v168 (F := Ideal) x0 x1 x2 x8 x9 x10 x11 x14) (val_main_v170 (F := Ideal) x0 x1 x2 x8 x9 x10 x11 x12 x13 x14)
      (val_main_v410 (F := Ideal) x0 x1 x2 x8 x9 x10 x11 x12 x13 x14) :=
    scan_level (n := 1024) (h := 512) (m := 511) rfl rfl a1 zero zero _ _ _ _ _ _ _ _ _ s2
  have s0 : Scanned 2048 (val_main_v156 (F := Ideal) x0 x1 x2 x8 x9 x10 x11 x14) (val_main_v163 (F := Ideal) x0 x1 x2 x8 x9 x10 x11 x12 x13 x14)
      (val_main_v427 (F := Ideal) x0 x1 x2 x8 x9 x10 x11 x12 x13 x14) :=
    scan_level (n := 2048) (h := 1024) (m := 1023) rfl rfl hA zero zero _ _ _ _ _ _ _ _ _ s1
  exact s0

end Cert.Layer
-- ==== Proof.RefRead.lean ====
/-
  The reference's values, entry by entry, in the layer's vocabulary.
-/
module

public import proofs.«01_k».proof.Proof.Layer
public import proofs.«01_k».proof.Proof.Consts
public import proofs.«01_k».proof.Proof.RefScan

@[expose] public section

noncomputable section

namespace Cert.Layer

open Idealize.ShloMosaic Idealize.ShloMosaic.ValueIdx Cert.ReferenceIdeal Cert.ReferenceIdeal.Gen
  Cert.ReferenceIdeal.Read

variable (A : Args)

theorem ref_xn (i : S32x2048x1024.Idx) :
    val_main_v13 (F := Ideal) A.x A.gain i = xn A (i 0).val (i 1).val (i 2).val := by
  have h0 : (i 0).val < 32 := (i 0).isLt
  have h1 : (i 1).val < 2048 := (i 1).isLt
  have h2 : (i 2).val < 1024 := (i 2).isLt
  simp only [val_main_v13_apply, val_main_v12_apply, val_main_v11_apply, val_main_v10_apply, val_main_v9_apply,
    val_main_v8_apply, val_main_v7_apply, val_main_v6_apply, val_main_v5_apply, val_main_v4_apply, val_main_v3_apply,
    val_main_v2_apply, val_main_v1_apply, val_main_v0_apply, val_main_cst_apply, val_main_cst_0_apply,
    val_main_cst_1_apply, Ideal.mulf_def, Ideal.addf_def, Ideal.hostDivf_def, Ideal.hostUnary_rsqrt_def,
    Ideal.ofBits_def, zero_word, zero_add]
  unfold xn rms
  rw [rd3_eq A.x i rfl rfl rfl, rd2_eq A.gain _ (a := 0) (b := (i 2).val) (by simp <;> omega) (by simp <;> omega)]
  congr 5
  refine Finset.sum_congr rfl fun k _ => ?_
  rw [rd3_eq A.x _ rfl rfl rfl]

theorem ref_z (i : S32x2048x6856.Idx) :
    val_main_v15 (F := Ideal) A.x A.gain A.win i = z A (i 0).val (i 1).val (i 2).val := by
  have h0 : (i 0).val < 32 := (i 0).isLt
  have h1 : (i 1).val < 2048 := (i 1).isLt
  have h2 : (i 2).val < 6856 := (i 2).isLt
  rw [val_main_v15_apply]
  unfold z
  refine Finset.sum_congr rfl fun k _ => ?_
  have hk := k.isLt
  rw [ref_xn, val_main_v14_apply, rd3_eq A.win _ (a := 0) (b := k.val) (c := (i 2).val) (by simp <;> omega) (by simp <;> omega) (by simp <;> omega)]

theorem ref_lq33 (i : S32x2048x16x128.Idx) :
    val_main_v33 (F := Ideal) A.x A.gain A.win A.wuk i = lq A (i 0).val (i 1).val (i 2).val (i 3).val := by
  have h0 : (i 0).val < 32 := (i 0).isLt
  have h1 : (i 1).val < 2048 := (i 1).isLt
  have h2 : (i 2).val < 16 := (i 2).isLt
  have h3 : (i 3).val < 128 := (i 3).isLt
  simp only [val_main_v33_apply,
    val_main_v32_apply, val_main_v31_apply, val_main_v30_apply, val_main_v29_apply, val_main_v28_apply,
    val_main_v27_apply, val_main_v26_apply, val_main_v25_apply, val_main_v16_apply, ref_z, val_main_cst_2_apply,
    val_main_cst_3_apply, Ideal.mulf_def, Ideal.hostDivf_def, Ideal.hostUnary_log_def, Ideal.ofBits_def]
  unfold lq qlat
  congr 2
  refine Finset.sum_congr rfl fun d _ => ?_
  have hd := d.isLt
  rw [rd4_eq A.wuk _ (a := 0) (b := (i 2).val) (c := (i 3).val) (d := d.val) (by simp <;> omega) (by simp <;> omega) (by simp <;> omega) (by simp <;> omega)]
  congr 2 <;> simp <;> omega

theorem ref_lq35 (i : S32x16x128x16x128.Idx) :
    val_main_v35 (F := Ideal) A.x A.gain A.win A.wuk i
      = lq A (i 0).val ((i 1).val * 128 + (i 4).val) (i 3).val (i 2).val := by
  have h0 : (i 0).val < 32 := (i 0).isLt
  have h1 : (i 1).val < 16 := (i 1).isLt
  have h2 : (i 2).val < 128 := (i 2).isLt
  have h3 : (i 3).val < 16 := (i 3).isLt
  have h4 : (i 4).val < 128 := (i 4).isLt
  rw [val_main_v35_apply, val_main_v34_apply, ref_lq33]
  congr 1 <;> simp <;> omega

/-- The scaled queries, transposed in tiles of 128 positions. -/
theorem ref_lq (i : S32x16x128x2048.Idx) :
    val_main_v442 (F := Ideal) A.x A.gain A.win A.wuk i
      = lq A (i 0).val ((i 1).val * 128 + (i 3).val % 128) ((i 3).val / 128) (i 2).val := by
  have h0 : (i 0).val < 32 := (i 0).isLt
  have h1 : (i 1).val < 16 := (i 1).isLt
  have h2 : (i 2).val < 128 := (i 2).isLt
  have h3 : (i 3).val < 2048 := (i 3).isLt
  rw [val_main_v442_apply, Ideal.truncf_def, val_main_v36_apply, ref_lq35]
  congr 1 <;> simp <;> omega

/-- The latent keys and values. -/
theorem ref_ckv (i : S32x2048x128.Idx) :
    val_main_v50 (F := Ideal) A.x A.gain A.win A.kvg i = ckv A (i 0).val (i 1).val (i 2).val := by
  have h0 : (i 0).val < 32 := (i 0).isLt
  have h1 : (i 1).val < 2048 := (i 1).isLt
  have h2 : (i 2).val < 128 := (i 2).isLt
  simp only [val_main_v50_apply, val_main_v49_apply, val_main_v48_apply, val_main_v47_apply, val_main_v46_apply,
    val_main_v45_apply, val_main_v44_apply, val_main_v43_apply, val_main_v42_apply, val_main_v41_apply, val_main_v40_apply,
    val_main_v39_apply, val_main_v38_apply, val_main_v37_apply, val_main_v17_apply, ref_z, val_main_cst_4_apply,
    val_main_cst_5_apply, val_main_cst_6_apply, Ideal.mulf_def, Ideal.addf_def, Ideal.hostDivf_def,
    Ideal.hostUnary_rsqrt_def, Ideal.ofBits_def, zero_word, zero_add]
  unfold ckv rms
  rw [rd2_eq A.kvg _ (a := 0) (b := (i 2).val) (by simp <;> omega) (by simp <;> omega)]

theorem ref_c (i : S32x2048x128.Idx) :
    val_main_v443 (F := Ideal) A.x A.gain A.win A.kvg i = ckv A (i 0).val (i 1).val (i 2).val := by
  rw [val_main_v443_apply, Ideal.truncf_def, ref_ckv]

/-- The latent keys and values, transposed in tiles of 256 positions. -/
theorem ref_ct (i : S32x8x128x256.Idx) :
    val_main_v444 (F := Ideal) A.x A.gain A.win A.kvg i
      = ckv A (i 0).val ((i 1).val * 256 + (i 3).val) (i 2).val := by
  have h0 : (i 0).val < 32 := (i 0).isLt
  have h1 : (i 1).val < 8 := (i 1).isLt
  have h2 : (i 2).val < 128 := (i 2).isLt
  have h3 : (i 3).val < 256 := (i 3).isLt
  rw [val_main_v444_apply, Ideal.truncf_def, val_main_v52_apply, val_main_v51_apply, ref_ckv]
  congr 1 <;> simp <;> omega

theorem ref_qi55 (i : S32x2048x8x64.Idx) :
    val_main_v55 (F := Ideal) A.x A.gain A.win i = qidx A (i 0).val (i 1).val ((i 2).val * 64 + (i 3).val) := by
  have h0 : (i 0).val < 32 := (i 0).isLt
  have h1 : (i 1).val < 2048 := (i 1).isLt
  have h2 : (i 2).val < 8 := (i 2).isLt
  have h3 : (i 3).val < 64 := (i 3).isLt
  simp only [val_main_v55_apply,
    val_main_v54_apply, val_main_v53_apply, val_main_v18_apply, ref_z, val_main_cst_7_apply,
    Ideal.mulf_def, Ideal.ofBits_def]
  unfold qidx
  congr 2 <;> simp <;> omega

theorem ref_qi57 (i : S32x16x64x8x128.Idx) :
    val_main_v57 (F := Ideal) A.x A.gain A.win i
      = qidx A (i 0).val ((i 1).val * 128 + (i 4).val) ((i 3).val * 64 + (i 2).val) := by
  have h0 : (i 0).val < 32 := (i 0).isLt
  have h1 : (i 1).val < 16 := (i 1).isLt
  have h2 : (i 2).val < 64 := (i 2).isLt
  have h3 : (i 3).val < 8 := (i 3).isLt
  have h4 : (i 4).val < 128 := (i 4).isLt
  rw [val_main_v57_apply, val_main_v56_apply, ref_qi55]
  congr 1 <;> simp <;> omega

/-- The indexer's queries, transposed in tiles of 128 positions. -/
theorem ref_qit (i : S32x16x64x1024.Idx) :
    val_main_v445 (F := Ideal) A.x A.gain A.win i
      = qidx A (i 0).val ((i 1).val * 128 + (i 3).val % 128) ((i 3).val / 128 * 64 + (i 2).val) := by
  have h0 : (i 0).val < 32 := (i 0).isLt
  have h1 : (i 1).val < 16 := (i 1).isLt
  have h2 : (i 2).val < 64 := (i 2).isLt
  have h3 : (i 3).val < 1024 := (i 3).isLt
  rw [val_main_v445_apply, Ideal.truncf_def, val_main_v58_apply, ref_qi57]
  congr 1 <;> simp <;> omega

/-- The indexer keys. -/
theorem ref_ki (i : S32x2048x64.Idx) :
    val_main_v446 (F := Ideal) A.x A.gain A.win A.lng A.lnb i = kidx A (i 0).val (i 1).val (i 2).val := by
  have h0 : (i 0).val < 32 := (i 0).isLt
  have h1 : (i 1).val < 2048 := (i 1).isLt
  have h2 : (i 2).val < 64 := (i 2).isLt
  have hx : ∀ j : S32x2048x64.Idx, val_main_v66 (F := Ideal) A.x A.gain A.win j
      = z A (j 0).val (j 1).val (1664 + (j 2).val) - kmean A (j 0).val (j 1).val := by
    intro j
    simp only [val_main_v66_apply, val_main_v65_apply, val_main_v64_apply, val_main_v63_apply, val_main_v62_apply,
      val_main_v61_apply, val_main_v19_apply, ref_z, val_main_cst_8_apply, val_main_cst_9_apply, Ideal.subf_def,
      Ideal.hostDivf_def, Ideal.ofBits_def, zero_word, zero_add]
    rfl
  simp only [val_main_v446_apply, val_main_v82_apply, val_main_v81_apply, val_main_v80_apply, val_main_v79_apply,
    val_main_v78_apply, val_main_v77_apply, val_main_v76_apply, val_main_v75_apply, val_main_v74_apply, val_main_v73_apply,
    val_main_v72_apply, val_main_v71_apply, val_main_v70_apply, val_main_v69_apply, val_main_v68_apply, val_main_v67_apply,
    val_main_v60_apply, val_main_v59_apply, hx, val_main_cst_10_apply, val_main_cst_11_apply, val_main_cst_12_apply,
    Ideal.truncf_def, Ideal.mulf_def, Ideal.addf_def, Ideal.hostDivf_def, Ideal.hostUnary_rsqrt_def, Ideal.ofBits_def,
    zero_word, zero_add]
  unfold kidx rms
  rw [rd2_eq A.lng _ (a := 0) (b := (i 2).val) (by simp <;> omega) (by simp <;> omega), rd2_eq A.lnb _ (a := 0) (b := (i 2).val) (by simp <;> omega) (by simp <;> omega)]

/-- The indexer's head weights, transposed in tiles of 128 positions. -/
theorem ref_wt (i : S32x16x8x128.Idx) :
    val_main_v86 (F := Ideal) A.x A.gain A.win i
      = widx A (i 0).val ((i 1).val * 128 + (i 3).val) (i 2).val := by
  have h0 : (i 0).val < 32 := (i 0).isLt
  have h1 : (i 1).val < 16 := (i 1).isLt
  have h2 : (i 2).val < 8 := (i 2).isLt
  have h3 : (i 3).val < 128 := (i 3).isLt
  simp only [val_main_v86_apply, val_main_v85_apply, val_main_v84_apply, val_main_v83_apply, val_main_v20_apply,
    ref_z, val_main_cst_13_apply, Ideal.mulf_def, Ideal.ofBits_def]
  unfold widx
  congr 2 <;> simp <;> omega

/-- The attention gate. -/
theorem ref_sg (i : S32x2048x1024.Idx) :
    val_main_v448 (F := Ideal) A.x A.gain A.win i = sg A (i 0).val (i 1).val (i 2).val := by
  simp only [val_main_v448_apply, val_main_v447_apply, val_main_call3_v5_apply, val_main_call3_v4_apply,
    val_main_call3_v3_apply, val_main_call3_v2_apply, val_main_call3_v1_apply, val_main_call3_v0_apply,
    val_main_call3_cst_apply, val_main_call3_cst_0_apply, val_main_v21_apply, ref_z, Ideal.truncf_def, Ideal.mulf_def,
    Ideal.addf_def, Ideal.hostDivf_def, Ideal.hostUnary_exp_def, Ideal.hostNegf_def, Ideal.negf_def, Ideal.ofBits_def,
    one_word, EReal.coe_one]
  rfl

/-- The merge gates. -/
theorem ref_gate (i : S32x2048x2048.Idx) :
    val_main_v441 (F := Ideal) A.x A.gain A.win A.bm i = gate A (i 0).val (i 1).val (i 2).val := by
  have h0 : (i 0).val < 32 := (i 0).isLt
  have h1 : (i 1).val < 2048 := (i 1).isLt
  have h2 : (i 2).val < 2048 := (i 2).isLt
  simp only [val_main_v441_apply, val_main_v440_apply, val_main_v439_apply, val_main_v438_apply, val_main_v437_apply,
    val_main_v436_apply, val_main_v435_apply, val_main_v434_apply, val_main_v433_apply, val_main_v432_apply,
    val_main_cst_64_apply, val_main_cst_65_apply, val_main_v24_apply, ref_z, Ideal.addf_def, Ideal.hostDivf_def,
    Ideal.hostUnary_exp_def, Ideal.hostNegf_def, Ideal.negf_def, Ideal.ofBits_def, one_word, EReal.coe_one]
  rw [rd2_eq A.bm _ (a := 0) (b := (i 2).val) (by simp <;> omega) (by simp <;> omega)]
  rfl

theorem ref_ga (i : S32x2048x1024.Idx) :
    val_main_v450 (F := Ideal) A.x A.gain A.win A.bm i = gate A (i 0).val (i 1).val (i 2).val := by
  rw [val_main_v450_apply, Ideal.truncf_def, val_main_v449_apply, ref_gate]

end Cert.Layer
-- ==== Proof.RefRnn.lean ====
/-
  The reference's recurrent branch, entry by entry: the convolution, the two gates, the decay and the input, the state by
  the scan's recurrence, and the gated projection.
-/
module

public import proofs.«01_k».proof.Proof.RefRead

@[expose] public section

noncomputable section

namespace Cert.Layer

open Idealize.ShloMosaic Idealize.ShloMosaic.ValueIdx Cert.ReferenceIdeal Cert.ReferenceIdeal.Gen
  Cert.ReferenceIdeal.Read

variable (A : Args)

/-- The recurrent input with three zero steps before it. -/
theorem ref_xpad (i : S32x2051x1024.Idx) :
    val_main_v87 (F := Ideal) A.x A.gain A.win i = xpad A (i 0).val (i 1).val (i 2).val := by
  have h0 : (i 0).val < 32 := (i 0).isLt
  have h1 : (i 1).val < 2051 := (i 1).isLt
  have h2 : (i 2).val < 1024 := (i 2).isLt
  unfold val_main_v87 xpad
  by_cases h : (i 1).val < 3
  · rw [if_pos h, pad_apply_of_not_inside _ _ _ _ _ _ _ _ (1 : Fin 3)]
    · rw [val_main_call0_v0_apply]
      show ((((0#32 : BitVec 32).toInt : ℤ) : ℝ) : EReal) = 0
      simp
    · rintro ⟨h3, -, -⟩
      have h3' : 3 ≤ (i 1).val := h3
      omega
  · rw [if_neg h, pad_apply_of_inside _ _ _ _ _ _ _ _
      (ix3 ⟨(i 0).val, h0⟩ ⟨(i 1).val - 3, by omega⟩ ⟨(i 2).val, h2⟩), val_main_v22_apply, ref_z]
    · intro a
      match a with
      | ⟨0, _⟩ => show (i 0).val = 0 + (i 0).val * 1; omega
      | ⟨1, _⟩ => show (i 1).val = 3 + ((i 1).val - 3) * 1; omega
      | ⟨2, _⟩ => show (i 2).val = 0 + (i 2).val * 1; omega

/-- The convolution. -/
theorem ref_y (i : S32x2048x1024.Idx) :
    val_main_v118 (F := Ideal) A.x A.gain A.win A.cw A.cb i = y A (i 0).val (i 1).val (i 2).val := by
  have h0 : (i 0).val < 32 := (i 0).isLt
  have h1 : (i 1).val < 2048 := (i 1).isLt
  have h2 : (i 2).val < 1024 := (i 2).isLt
  simp only [val_main_v118_apply, val_main_v117_apply, val_main_v116_apply, val_main_v115_apply, val_main_v114_apply,
    val_main_v113_apply, val_main_v112_apply, val_main_v111_apply, val_main_v110_apply, val_main_v109_apply,
    val_main_v108_apply, val_main_v107_apply, val_main_v106_apply, val_main_v105_apply, val_main_v104_apply,
    val_main_v103_apply, val_main_v102_apply, val_main_v101_apply, val_main_v100_apply, val_main_v99_apply,
    val_main_v98_apply, val_main_v97_apply, val_main_v96_apply, val_main_v95_apply, val_main_v94_apply, val_main_v93_apply,
    val_main_v92_apply, val_main_v91_apply, val_main_v90_apply, val_main_v89_apply, val_main_v88_apply, ref_xpad,
    Ideal.mulf_def, Ideal.addf_def]
  unfold y
  rw [rd2_eq A.cb _ (a := 0) (b := (i 2).val) (by simp <;> omega) (by simp <;> omega)]
  congr 1
  · congr 1
    · congr 1
      · congr 1
        exact congrArg₂ (· * ·) (by congr 1) (rd3_eq A.cw _ (by simp <;> omega) (by simp <;> omega) (by simp <;> omega))
      · exact congrArg₂ (· * ·) (by congr 1; simp; omega) (rd3_eq A.cw _ (by simp <;> omega) (by simp <;> omega) (by simp <;> omega))
    · exact congrArg₂ (· * ·) (by congr 1; simp; omega) (rd3_eq A.cw _ (by simp <;> omega) (by simp <;> omega) (by simp <;> omega))
  · exact congrArg₂ (· * ·) (by congr 1; simp; omega) (rd3_eq A.cw _ (by simp <;> omega) (by simp <;> omega) (by simp <;> omega))

/-- The recurrence gate before its logistic. -/
theorem ref_gateA (i : S32x2048x1024.Idx) :
    val_main_v127 (F := Ideal) A.x A.gain A.win A.cw A.cb A.wa A.ba i = ga A (i 0).val (i 1).val (i 2).val := by
  have h0 : (i 0).val < 32 := (i 0).isLt
  have h1 : (i 1).val < 2048 := (i 1).isLt
  have h2 : (i 2).val < 1024 := (i 2).isLt
  simp only [val_main_v127_apply, val_main_v126_apply, val_main_v125_apply, val_main_v124_apply, val_main_v123_apply,
    val_main_v122_apply, val_main_v121_apply, val_main_v120_apply, val_main_v119_apply, ref_y, Ideal.addf_def]
  unfold ga
  rw [rd2_eq A.ba _ (a := 0) (b := (i 2).val) (by simp <;> omega) (by simp <;> omega)]
  congr 1
  refine Finset.sum_congr rfl fun k _ => ?_
  have hk := k.isLt
  exact congrArg₂ (· * ·) (rd4_eq A.wa _ (by simp <;> omega) (by simp <;> omega) (by simp <;> omega) (by simp <;> omega)) (by congr 1 <;> simp <;> omega)

/-- The input gate before its logistic. -/
theorem ref_gateX (i : S32x2048x1024.Idx) :
    val_main_v141 (F := Ideal) A.x A.gain A.win A.cw A.cb A.wx A.bx i = gx A (i 0).val (i 1).val (i 2).val := by
  have h0 : (i 0).val < 32 := (i 0).isLt
  have h1 : (i 1).val < 2048 := (i 1).isLt
  have h2 : (i 2).val < 1024 := (i 2).isLt
  simp only [val_main_v141_apply, val_main_v140_apply, val_main_v139_apply, val_main_v138_apply, val_main_v137_apply,
    val_main_v136_apply, val_main_v135_apply, val_main_v134_apply, val_main_v119_apply, ref_y, Ideal.addf_def]
  unfold gx
  rw [rd2_eq A.bx _ (a := 0) (b := (i 2).val) (by simp <;> omega) (by simp <;> omega)]
  congr 1
  refine Finset.sum_congr rfl fun k _ => ?_
  have hk := k.isLt
  exact congrArg₂ (· * ·) (rd4_eq A.wx _ (by simp <;> omega) (by simp <;> omega) (by simp <;> omega) (by simp <;> omega)) (by congr 1 <;> simp <;> omega)

/-- `log (1 + exp (-Λ))`: the comparison of a difference with itself is never unequal. -/
theorem ref_sp (i : S1024.Idx) : val_main_v152 (F := Ideal) A.lam i = sp A (i 0).val := by
  have h0 : (i 0).val < 1024 := (i 0).isLt
  have hc : FloatOps.cmpf (F := Ideal) (φ := .f32) .une (val_main_call1_v3 (F := Ideal) A.lam i) (val_main_call1_v3 (F := Ideal) A.lam i)
      = 0#1 := by
    simp [FloatOps.cmpf, Ideal.cmp]
  rw [val_main_v152_apply, val_main_call1_v4_apply, hc]
  show val_main_call1_v11 (F := Ideal) A.lam i = _
  simp only [val_main_call1_v11_apply, val_main_call1_v10_apply, val_main_call1_v9_apply, val_main_call1_v8_apply,
    val_main_call1_v7_apply, val_main_call1_v3_apply, val_main_call1_v2_apply, val_main_call1_v1_apply,
    val_main_call1_v0_apply, val_main_call1_cst_apply, val_main_v151_apply, val_main_v150_apply, Ideal.addf_def,
    Ideal.maximumf_def, Ideal.subf_def, Ideal.hostUnary_exp_def, Ideal.hostUnary_log1p_def, Ideal.hostNegf_def,
    Ideal.negf_def, Ideal.hostAbsf_def, Ideal.absf_def, Ideal.ofBits_def, zero_word, sub_zero]
  rw [rd2_eq A.lam _ (a := 0) (b := (i 0).val) (by simp <;> omega) (by simp <;> omega)]
  rfl

/-- The logarithm of the decay. -/
theorem ref_la (i : S32x2048x1024.Idx) :
    val_main_v155 (F := Ideal) A.x A.gain A.win A.cw A.cb A.wa A.ba A.lam i = la A (i 0).val (i 1).val (i 2).val := by
  have h0 : (i 0).val < 32 := (i 0).isLt
  have h1 : (i 1).val < 2048 := (i 1).isLt
  have h2 : (i 2).val < 1024 := (i 2).isLt
  simp only [val_main_v155_apply, val_main_v154_apply, val_main_v153_apply, val_main_v149_apply, val_main_v148_apply,
    val_main_v133_apply, val_main_v132_apply, val_main_v131_apply, val_main_v130_apply, val_main_v129_apply,
    val_main_v128_apply, ref_gateA, ref_sp, val_main_cst_14_apply, val_main_cst_15_apply, val_main_cst_18_apply,
    Ideal.mulf_def, Ideal.addf_def, Ideal.hostDivf_def, Ideal.hostUnary_exp_def, Ideal.hostNegf_def, Ideal.negf_def,
    Ideal.ofBits_def, one_word, EReal.coe_one]
  rfl

/-- The decay. -/
theorem ref_dec (i : S32x2048x1024.Idx) :
    val_main_v156 (F := Ideal) A.x A.gain A.win A.cw A.cb A.wa A.ba A.lam i = dec A (i 0).val (i 1).val (i 2).val := by
  rw [val_main_v156_apply, ref_la]
  rfl

/-- The recurrence's input. -/
theorem ref_inp (i : S32x2048x1024.Idx) :
    val_main_v163 (F := Ideal) A.x A.gain A.win A.cw A.cb A.wa A.ba A.wx A.bx A.lam i
      = inp A (i 0).val (i 1).val (i 2).val := by
  simp only [val_main_v163_apply, val_main_v162_apply, val_main_v161_apply, val_main_v160_apply, val_main_v159_apply,
    val_main_v158_apply, val_main_v157_apply, val_main_v147_apply, val_main_v146_apply, val_main_v145_apply,
    val_main_v144_apply, val_main_v143_apply, val_main_v142_apply, ref_gateX, ref_la, ref_y, val_main_cst_16_apply,
    val_main_cst_17_apply, val_main_cst_19_apply, Ideal.mulf_def, Ideal.addf_def, Ideal.hostDivf_def,
    Ideal.hostUnary_exp_def, Ideal.hostUnary_expm1_def, Ideal.hostUnary_sqrt_def, Ideal.hostNegf_def, Ideal.negf_def,
    Ideal.ofBits_def, one_word, EReal.coe_one]
  rfl

/-- The state: the scan's result is the recurrence's. -/
theorem ref_hst (hA : ∀ p s n, ∃ r : ℝ, dec A p s n = (r : EReal) ∧ 0 ≤ r) (i : S32x2048x1024.Idx) :
    val_main_v427 (F := Ideal) A.x A.gain A.win A.cw A.cb A.wa A.ba A.wx A.bx A.lam i
      = hst A (i 0).val (i 1).val (i 2).val := by
  have hs := ref_scanned A.x A.gain A.win A.cw A.cb A.wa A.ba A.wx A.bx A.lam
    (fun j => by rw [ref_dec]; exact hA _ _ _)
  have key : ∀ (n : ℕ) (p : Fin 32) (s : Fin 2048) (q : Fin 1024), s.val = n →
      val_main_v427 (F := Ideal) A.x A.gain A.win A.cw A.cb A.wa A.ba A.wx A.bx A.lam (ix3 p s q)
        = hst A p.val n q.val := by
    intro n
    induction n with
    | zero =>
      intro p s q hn
      rw [(hs p s q).1 hn, ref_inp]
      show inp A p.val s.val q.val = inp A p.val 0 q.val
      rw [hn]
    | succ n ih =>
      intro p s q hn
      have hsl := s.isLt
      rw [(hs p s q).2 ⟨n, by omega⟩ hn.symm, ref_inp, ref_dec, ih p ⟨n, by omega⟩ q rfl]
      show dec A p.val s.val q.val * _ + inp A p.val s.val q.val = _
      rw [hn]
      rfl
  rw [eq_ix3 i]
  exact key _ (i 0) (i 1) (i 2) rfl

/-- The recurrent branch's result. -/
theorem ref_r (hA : ∀ p s n, ∃ r : ℝ, dec A p s n = (r : EReal) ∧ 0 ≤ r) (i : S32x2048x1024.Idx) :
    val_main_v453 (F := Ideal) A.x A.gain A.win A.bm A.cw A.cb A.wa A.ba A.wx A.bx A.lam A.wrp i
      = rout A (i 0).val (i 1).val (i 2).val := by
  have h0 : (i 0).val < 32 := (i 0).isLt
  have h1 : (i 1).val < 2048 := (i 1).isLt
  have h2 : (i 2).val < 1024 := (i 2).isLt
  have hz : ∀ j, val_main_v428 (F := Ideal) A.x A.gain A.win j
      = silu (z A (j 0).val (j 1).val (3784 + (j 2).val)) := by
    intro j
    simp only [val_main_v428_apply, val_main_call2_v5_apply, val_main_call2_v4_apply,
      val_main_call2_v3_apply, val_main_call2_v2_apply, val_main_call2_v1_apply, val_main_call2_v0_apply,
      val_main_call2_cst_apply, val_main_call2_cst_0_apply, val_main_v23_apply, ref_z, Ideal.mulf_def,
      Ideal.addf_def, Ideal.hostDivf_def, Ideal.hostUnary_exp_def, Ideal.hostNegf_def, Ideal.negf_def, Ideal.ofBits_def,
      one_word, EReal.coe_one]
    rfl
  rw [val_main_v453_apply, Ideal.truncf_def, val_main_v452_apply, Ideal.mulf_def, val_main_v451_apply, ref_gate,
    val_main_v431_apply]
  unfold rout yr
  refine congrArg₂ (· * ·) (by congr 1) (Finset.sum_congr rfl fun k _ => ?_)
  have hk := k.isLt
  rw [val_main_v429_apply, Ideal.mulf_def, ref_hst A hA, hz, val_main_v430_apply]
  exact congrArg₂ (· * ·) rfl (rd3_eq A.wrp _ (by simp <;> omega) (by simp <;> omega) (by simp <;> omega))

end Cert.Layer
-- ==== Proof.RefEnd.lean ====
/-
  What the reference's run leaves: the nine outputs of the arguments.
-/
module

public import proofs.«01_k».proof.Proof.Outputs
public import proofs.«01_k».proof.Proof.Decay
public import proofs.«01_k».proof.Proof.RefRnn
public import proofs.«01_k».proof.Proof.Gen.ReferenceIdeal.Run

@[expose] public section

noncomputable section

namespace Cert.Layer.Ref

open Cert.Layer.Body (Fin' dec_real)
open Idealize.ShloMosaic Idealize.ShloMosaic.TcCoe Idealize.ShloMosaic.StableHlo Idealize.SL.Sem Cert.ReferenceIdeal Cert.ReferenceIdeal.Gen
  Cert.ReferenceIdeal.Read

set_option maxHeartbeats 4000000

variable (m : (ℓ : Loc nD τ sig) → Buf (Elt Ideal) ℓ)

/-- The reference's arguments on a device. -/
def argsOf (c : Dev nD) : Args where
  x := m ((c.tc : Thread nD τ).loc main_arg0)
  gain := m ((c.tc : Thread nD τ).loc main_arg1)
  win := m ((c.tc : Thread nD τ).loc main_arg2)
  bm := m ((c.tc : Thread nD τ).loc main_arg3)
  kvg := m ((c.tc : Thread nD τ).loc main_arg4)
  wuk := m ((c.tc : Thread nD τ).loc main_arg5)
  lng := m ((c.tc : Thread nD τ).loc main_arg6)
  lnb := m ((c.tc : Thread nD τ).loc main_arg7)
  cw := m ((c.tc : Thread nD τ).loc main_arg8)
  cb := m ((c.tc : Thread nD τ).loc main_arg9)
  wa := m ((c.tc : Thread nD τ).loc main_arg10)
  ba := m ((c.tc : Thread nD τ).loc main_arg11)
  wx := m ((c.tc : Thread nD τ).loc main_arg12)
  bx := m ((c.tc : Thread nD τ).loc main_arg13)
  lam := m ((c.tc : Thread nD τ).loc main_arg14)
  wrp := m ((c.tc : Thread nD τ).loc main_arg15)

theorem run (ρ : Dev nD → PrngReg) (hA : ∀ c, Fin' (argsOf m c)) :
    θ_run defs (onTc (τ := τ) (main (F := Ideal))) ⟨m, fun _ => 0, ρ⟩ fun r => ∀ c : Dev nD,
      r.2.mem ((c.tc : Thread nD τ).loc main_v442) = out0 (argsOf m c)
      ∧ r.2.mem ((c.tc : Thread nD τ).loc main_v443) = out1 (argsOf m c)
      ∧ r.2.mem ((c.tc : Thread nD τ).loc main_v444) = out2 (argsOf m c)
      ∧ r.2.mem ((c.tc : Thread nD τ).loc main_v445) = out3 (argsOf m c)
      ∧ r.2.mem ((c.tc : Thread nD τ).loc main_v446) = out4 (argsOf m c)
      ∧ r.2.mem ((c.tc : Thread nD τ).loc main_v86) = out5 (argsOf m c)
      ∧ r.2.mem ((c.tc : Thread nD τ).loc main_v448) = out6 (argsOf m c)
      ∧ r.2.mem ((c.tc : Thread nD τ).loc main_v450) = out7 (argsOf m c)
      ∧ r.2.mem ((c.tc : Thread nD τ).loc main_v453) = out8 (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun r h c => by
    obtain ⟨e0, e1, e2, e3, e4, e5, e6, e7, e8, ea⟩ := h c
    exact ⟨(e0.trans (val_main_v442_eq (launchContents m c))).trans (funext fun i => ref_lq (argsOf m c) i),
      (e1.trans (val_main_v443_eq (launchContents m c))).trans (funext fun i => ref_c (argsOf m c) i),
      (e2.trans (val_main_v444_eq (launchContents m c))).trans (funext fun i => ref_ct (argsOf m c) i),
      (e3.trans (val_main_v445_eq (launchContents m c))).trans (funext fun i => ref_qit (argsOf m c) i),
      (e4.trans (val_main_v446_eq (launchContents m c))).trans (funext fun i => ref_ki (argsOf m c) i),
      (e5.trans (val_main_v86_eq (launchContents m c))).trans (funext fun i => ref_wt (argsOf m c) i),
      (e6.trans (val_main_v448_eq (launchContents m c))).trans (funext fun i => ref_sg (argsOf m c) i),
      (e7.trans (val_main_v450_eq (launchContents m c))).trans (funext fun i => ref_ga (argsOf m c) i),
      (e8.trans (val_main_v453_eq (launchContents m c))).trans
        (funext fun i => ref_r (argsOf m c) (dec_real (hA c)) i), ea⟩)
    (Cert.ReferenceIdeal.Value.run (F := Ideal) m ρ)

end Cert.Layer.Ref

end
-- ==== Proof.lean ====
module

public import proofs.«01_k».proof.Defs
public import proofs.«01_k».proof.Proof.Gen.Kernel
public import proofs.«01_k».proof.Proof.KernelBodyFrame
public import proofs.«01_k».proof.Proof.Gen.KernelIdeal
public import proofs.«01_k».proof.Proof.BodyFrame
public import proofs.«01_k».proof.Proof.Gen.ReferenceIdeal.Run
public import proofs.«01_k».proof.Proof.Gen.Pre_finite
public import proofs.«01_k».proof.Proof.KernelEnd
public import proofs.«01_k».proof.Proof.RefEnd
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Layer

/-- Under the precondition the kernel's arguments are as the value lemmas ask. -/
theorem fin_args (m : (ℓ : Loc Cert.KernelIdeal.nD Cert.KernelIdeal.τ Cert.KernelIdeal.sig) → Buf (Elt Ideal) ℓ)
    (h : Cert.Pre_KernelIdeal_finite (hPre_finite := Cert.Pre_finite.Gen.facts) m) (c : Dev Cert.KernelIdeal.nD) :
    Body.Fin' (Body.argsOf m c) :=
  letI := Cert.Pre_finite.Gen.facts
  fin_of (Body.argsOf m c) (h c).1 (h c).2.1 (h c).2.2

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  have hargs : ∀ c, Ref.argsOf m' c = Body.argsOf m c := fun c => by
    obtain ⟨h0, h1, h2, h3, h4, h5, h6, h7, h8, h9, h10, h11, h12, h13, h14, h15⟩ := hagree c
    unfold Ref.argsOf Body.argsOf
    rw [h0, h1, h2, h3, h4, h5, h6, h7, h8, h9, h10, h11, h12, h13, h14, h15]
  have hA := fin_args m hpre
  have hr := Ref.run m' g' fun c => (hargs c).symm ▸ hA c
  simp only [hargs] at hr
  exact ⟨fun c => out0 (Body.argsOf m c), fun c => out1 (Body.argsOf m c), fun c => out2 (Body.argsOf m c),
    fun c => out3 (Body.argsOf m c), fun c => out4 (Body.argsOf m c), fun c => out5 (Body.argsOf m c),
    fun c => out6 (Body.argsOf m c), fun c => out7 (Body.argsOf m c), fun c => out8 (Body.argsOf m c),
    Body.run_values m g hA, hr⟩

theorem claim : Cert.Claim :=
  ⟨Cert.Kernel.Gen.facts, Cert.KernelIdeal.Gen.facts, Cert.ReferenceIdeal.Gen.facts, Cert.Pre_finite.Gen.facts,
    fun m ρ _ => Cert.Kernel.Body.frame m ρ, fun m ρ _ => Cert.Layer.Body.frame m ρ,
    fun m ρ _ => Cert.Layer.Body.frame m ρ,
    fun m ρ _ => (θ_run Cert.ReferenceIdeal.defs _ _).mono (fun r h => ⟨fun c => (h c).2.2.2.2.2.2.2.2.2,
      sem_eq_zero_of_no_sems (by decide) r.2⟩) (Cert.ReferenceIdeal.Value.run (F := Ideal) m ρ),
    fun m ρ _ => (θ_run Cert.ReferenceIdeal.defs _ _).mono (fun r h => ⟨fun c => (h c).2.2.2.2.2.2.2.2.2,
      sem_eq_zero_of_no_sems (by decide) r.2⟩) (Cert.ReferenceIdeal.Value.run (F := Ideal) m ρ),
    IdealRules.named_const.statement Cert.KernelIdeal.κ "q_scale" .f32 0x3E38AA3B#32
      (((8 * (Real.log 2))⁻¹ : ℝ) : EReal) rfl,
    algebraic⟩

end Cert.Proof

end
